-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v28) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v45)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v45) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v105) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S16384x1024 : Shape := ⟨2, ![16384, 1024]⟩
abbrev S16384x256 : Shape := ⟨2, ![16384, 256]⟩
abbrev S256 : Shape := ⟨1, ![256]⟩
abbrev S16384x768 : Shape := ⟨2, ![16384, 768]⟩
abbrev S_ : Shape := ⟨0, ![]⟩

class Facts : Prop where
  slices_S16384x1024_S16384x768_0_0 : S16384x1024.Slices ![0, 0] S16384x768
  bcast_S_S16384x768 : S_.BroadcastsInDim S16384x768 (![] : Fin 0 → Fin S16384x768.rank)
  bcast_S_S16384x256 : S_.BroadcastsInDim S16384x256 (![] : Fin 0 → Fin S16384x256.rank)

variable [Facts]

def fn {F : FTy → Type} [FloatOps F] (main_arg0 : FVec F S16384x1024 .f32) (main_arg1 : FVec F S16384x256 .f32) (main_arg2 : FVec F S16384x256 .f32) (main_arg3 : FVec F S256 .f32) (main_arg4 : FVec F S256 .f32) : IVec S16384x768 1 × IVec S16384x256 1 × IVec S16384x256 1 :=
  let main_v0 : FVec F S16384x768 .f32 := (extractStridedSlice S16384x768 ![0, 0] · slices_S16384x1024_S16384x768_0_0) main_arg0
  let main_v1 : FVec F S16384x768 .f32 := Host.absf main_v0
  let main_cst : FVec F S_ .f32 := constant S_ .f32 0x7F800000#32
  let main_v2 : FVec F S16384x768 .f32 := broadcastInDim S16384x768 ![] bcast_S_S16384x768 main_cst
  let main_v3 : IVec S16384x768 1 := cmpf .olt main_v1 main_v2
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_v7 : FVec F S16384x256 .f32 := Host.absf main_arg2
  let main_cst_1 : FVec F S_ .f32 := constant S_ .f32 0x7F800000#32
  let main_v8 : FVec F S16384x256 .f32 := broadcastInDim S16384x256 ![] bcast_S_S16384x256 main_cst_1
  let main_v9 : IVec S16384x256 1 := cmpf .olt main_v7 main_v8
  (main_v3, main_v6, main_v9)
-- ==== Pre_finite6.lean ====
abbrev S16384x512 : Shape := ⟨2, ![16384, 512]⟩
abbrev S4x256 : Shape := ⟨2, ![4, 256]⟩
abbrev S256 : Shape := ⟨1, ![256]⟩
abbrev S4x64x64 : Shape := ⟨3, ![4, 64, 64]⟩
abbrev S16384x256 : Shape := ⟨2, ![16384, 256]⟩
abbrev S_ : Shape := ⟨0, ![]⟩

class Facts : Prop where
  slices_S16384x512_S16384x256_0_256 : S16384x512.Slices ![0, 256] S16384x256
  bcast_S_S16384x256 : S_.BroadcastsInDim S16384x256 (![] : Fin 0 → Fin S16384x256.rank)
  bcast_S_S4x256 : S_.BroadcastsInDim S4x256 (![] : Fin 0 → Fin S4x256.rank)
  bcast_S_S256 : S_.BroadcastsInDim S256 (![] : Fin 0 → Fin S256.rank)
  bcast_S_S4x64x64 : S_.BroadcastsInDim S4x64x64 (![] : Fin 0 → Fin S4x64x64.rank)

variable [Facts]

def fn {F : FTy → Type} [FloatOps F] (main_arg0 : FVec F S16384x512 .f32) (main_arg1 : FVec F S4x256 .f32) (main_arg2 : FVec F S256 .f32) (main_arg3 : FVec F S4x64x64 .f32) (main_arg4 : FVec F S256 .f32) (main_arg5 : FVec F S4x64x64 .f32) (main_arg6 : FVec F S256 .f32) (main_arg7 : FVec F S256 .f32) (main_arg8 : FVec F S256 .f32) : IVec S16384x256 1 × IVec S4x256 1 × IVec S256 1 × IVec S4x64x64 1 × IVec S4x64x64 1 :=
  let main_v0 : FVec F S16384x256 .f32 := (extractStridedSlice S16384x256 ![0, 256] · slices_S16384x512_S16384x256_0_256) main_arg0
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_v7 : FVec F S256 .f32 := Host.absf main_arg2
  let main_cst_1 : FVec F S_ .f32 := constant S_ .f32 0x7F800000#32
  let main_v8 : FVec F S256 .f32 := broadcastInDim S256 ![] bcast_S_S256 main_cst_1
  let main_v9 : IVec S256 1 := cmpf .olt main_v7 main_v8
  let main_v10 : FVec F S4x64x64 .f32 := Host.absf main_arg3
  let main_cst_2 : FVec F S_ .f32 := constant S_ .f32 0x7F800000#32
  let main_v11 : FVec F S4x64x64 .f32 := broadcastInDim S4x64x64 ![] bcast_S_S4x64x64 main_cst_2
  let main_v12 : IVec S4x64x64 1 := cmpf .olt main_v10 main_v11
  let main_v13 : FVec F S4x64x64 .f32 := Host.absf main_arg5
  let main_cst_3 : FVec F S_ .f32 := constant S_ .f32 0x7F800000#32
  let main_v14 : FVec F S4x64x64 .f32 := broadcastInDim S4x64x64 ![] bcast_S_S4x64x64 main_cst_3
  let main_v15 : IVec S4x64x64 1 := cmpf .olt main_v13 main_v14
  (main_v3, main_v6, main_v9, main_v12, main_v15)
-- ==== Kernel.lean ====
abbrev S16384x1024 : Shape := ⟨2, ![16384, 1024]⟩
abbrev S16384x256 : Shape := ⟨2, ![16384, 256]⟩
abbrev S256 : Shape := ⟨1, ![256]⟩
abbrev S4 : Shape := ⟨1, ![4]⟩
abbrev S1x256 : Shape := ⟨2, ![1, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S4x1x1 : Shape := ⟨3, ![4, 1, 1]⟩
abbrev S1x128x128 : Shape := ⟨3, ![1, 128, 128]⟩
abbrev S4x128x128 : Shape := ⟨3, ![4, 128, 128]⟩
abbrev S128x512 : Shape := ⟨2, ![128, 512]⟩
abbrev S1x4 : Shape := ⟨2, ![1, 4]⟩
abbrev S128x4 : Shape := ⟨2, ![128, 4]⟩
abbrev S128x4x64 : Shape := ⟨3, ![128, 4, 64]⟩
abbrev S128x256 : Shape := ⟨2, ![128, 256]⟩
abbrev S4x64 : Shape := ⟨2, ![4, 64]⟩
abbrev S512 : Shape := ⟨1, ![512]⟩
abbrev S512x1 : Shape := ⟨2, ![512, 1]⟩
abbrev S512x256 : Shape := ⟨2, ![512, 256]⟩
abbrev S256x1 : Shape := ⟨2, ![256, 1]⟩
abbrev S256x256 : Shape := ⟨2, ![256, 256]⟩
abbrev S512x1024 : Shape := ⟨2, ![512, 1024]⟩

abbrev nBuf : Space → Nat
  | .hbm => 211
  | .vmem => 19
  | .smem => 0
  | _ => 0

abbrev hbmTy0_0 (i : Nat) : BufTy := match i % 128 with
  | 0 => ⟨S16384x1024, .f32⟩
  | 1 => ⟨S16384x256, .f32⟩
  | 2 => ⟨S16384x256, .f32⟩
  | 3 => ⟨S256, .f32⟩
  | 4 => ⟨S256, .f32⟩
  | 5 => ⟨S4, .f32⟩
  | 6 => ⟨S1x256, .f32⟩
  | 7 => ⟨S1x256, .f32⟩
  | 8 => ⟨S4, .f32⟩
  | 9 => ⟨S128, .f32⟩
  | 10 => ⟨S128x1, .f32⟩
  | 11 => ⟨S1x128, .f32⟩
  | 12 => ⟨S128x128, .f32⟩
  | 13 => ⟨S128x128, .f32⟩
  | 14 => ⟨S128x128, .f32⟩
  | 15 => ⟨S_, .f32⟩
  | 16 => ⟨S128x128, .f32⟩
  | 17 => ⟨S128x128, .i1⟩
  | 18 => ⟨S4x1x1, .f32⟩
  | 19 => ⟨S_, .f32⟩
  | 20 => ⟨S128x128, .f32⟩
  | 21 => ⟨S128x128, .i1⟩
  | 22 => ⟨S_, .f32⟩
  | 23 => ⟨S_, .f32⟩
  | 24 => ⟨S128x128, .f32⟩
  | 25 => ⟨S128x128, .f32⟩
  | 26 => ⟨S1x128x128, .f32⟩
  | 27 => ⟨S4x128x128, .f32⟩
  | 28 => ⟨S4x128x128, .f32⟩
  | 29 => ⟨S4x128x128, .f32⟩
  | 30 => ⟨S4x128x128, .f32⟩
  | 31 => ⟨S_, .f32⟩
  | 32 => ⟨S_, .f32⟩
  | 33 => ⟨S4x128x128, .i1⟩
  | 34 => ⟨S4x128x128, .f32⟩
  | 35 => ⟨S4x128x128, .f32⟩
  | 36 => ⟨S1x128x128, .f32⟩
  | 37 => ⟨S128x128, .f32⟩
  | 38 => ⟨S1x128x128, .f32⟩
  | 39 => ⟨S128x128, .f32⟩
  | 40 => ⟨S1x128x128, .f32⟩
  | 41 => ⟨S128x128, .f32⟩
  | 42 => ⟨S1x128x128, .f32⟩
  | 43 => ⟨S128x128, .f32⟩
  | 44 => ⟨S128x512, .f32⟩
  | 45 => ⟨S1x4, .f32⟩
  | 46 => ⟨S128x1, .f32⟩
  | 47 => ⟨S_, .f32⟩
  | 48 => ⟨S128x1, .f32⟩
  | 49 => ⟨S128x1, .f32⟩
  | 50 => ⟨S128x4, .f32⟩
  | 51 => ⟨S128x4, .f32⟩
  | 52 => ⟨S128x4, .f32⟩
  | 53 => ⟨S128x4, .f32⟩
  | 54 => ⟨S128x4x64, .f32⟩
  | 55 => ⟨S128x256, .f32⟩
  | 56 => ⟨S1x4, .f32⟩
  | 57 => ⟨S128x1, .f32⟩
  | 58 => ⟨S_, .f32⟩
  | 59 => ⟨S128x1, .f32⟩
  | 60 => ⟨S128x1, .f32⟩
  | 61 => ⟨S128x4, .f32⟩
  | 62 => ⟨S128x4, .f32⟩
  | 63 => ⟨S128x4, .f32⟩
  | 64 => ⟨S128x4, .f32⟩
  | 65 => ⟨S128x4x64, .f32⟩
  | 66 => ⟨S128x256, .f32⟩
  | 67 => ⟨S_, .f32⟩
  | 68 => ⟨S4, .f32⟩
  | 69 => ⟨S4, .f32⟩
  | 70 => ⟨S4, .f32⟩
  | 71 => ⟨S4x64, .f32⟩
  | 72 => ⟨S256, .f32⟩
  | 73 => ⟨S1x256, .f32⟩
  | 74 => ⟨S512, .i32⟩
  | 75 => ⟨S512x1, .i32⟩
  | 76 => ⟨S_, .i32⟩
  | 77 => ⟨S_, .i32⟩
  | 78 => ⟨S512x1, .i32⟩
  | 79 => ⟨S512x1, .i32⟩
  | 80 => ⟨S512x1, .i32⟩
  | 81 => ⟨S_, .i32⟩
  | 82 => ⟨S512x1, .i32⟩
  | 83 => ⟨S512x1, .i1⟩
  | 84 => ⟨S512x1, .i32⟩
  | 85 => ⟨S512x1, .i32⟩
  | 86 => ⟨S_, .i32⟩
  | 87 => ⟨S512x1, .i32⟩
  | 88 => ⟨S512x1, .i1⟩
  | 89 => ⟨S512x1, .i1⟩
  | 90 => ⟨S_, .i32⟩
  | 91 => ⟨S512x1, .i32⟩
  | 92 => ⟨S512x1, .i32⟩
  | 93 => ⟨S512x1, .i32⟩
  | 94 => ⟨S256, .i32⟩
  | 95 => ⟨S1x256, .i32⟩
  | 96 => ⟨S_, .i32⟩
  | 97 => ⟨S_, .i32⟩
  | 98 => ⟨S1x256, .i32⟩
  | 99 => ⟨S1x256, .i32⟩
  | 100 => ⟨S1x256, .i32⟩
  | 101 => ⟨S_, .i32⟩
  | 102 => ⟨S1x256, .i32⟩
  | 103 => ⟨S1x256, .i1⟩
  | 104 => ⟨S1x256, .i32⟩
  | 105 => ⟨S1x256, .i32⟩
  | 106 => ⟨S_, .i32⟩
  | 107 => ⟨S1x256, .i32⟩
  | 108 => ⟨S1x256, .i1⟩
  | 109 => ⟨S1x256, .i1⟩
  | 110 => ⟨S_, .i32⟩
  | 111 => ⟨S1x256, .i32⟩
  | 112 => ⟨S1x256, .i32⟩
  | 113 => ⟨S1x256, .i32⟩
  | 114 => ⟨S512x256, .i32⟩
  | 115 => ⟨S512x256, .i32⟩
  | 116 => ⟨S512x256, .i1⟩
  | 117 => ⟨S512x256, .f32⟩
  | 118 => ⟨S256, .i32⟩
  | 119 => ⟨S256x1, .i32⟩
  | 120 => ⟨S_, .i32⟩
  | 121 => ⟨S_, .i32⟩
  | 122 => ⟨S256x1, .i32⟩
  | 123 => ⟨S256x1, .i32⟩
  | 124 => ⟨S256x1, .i32⟩
  | 125 => ⟨S_, .i32⟩
  | 126 => ⟨S256x1, .i32⟩
  | 127 => ⟨S256x1, .i1⟩
  | _ => ⟨S16384x1024, .f32⟩

abbrev hbmTy0_1 (i : Nat) : BufTy := match i % 128 with
  | 0 => ⟨S256x1, .i32⟩
  | 1 => ⟨S256x1, .i32⟩
  | 2 => ⟨S_, .i32⟩
  | 3 => ⟨S256x1, .i32⟩
  | 4 => ⟨S256x1, .i1⟩
  | 5 => ⟨S256x1, .i1⟩
  | 6 => ⟨S_, .i32⟩
  | 7 => ⟨S256x1, .i32⟩
  | 8 => ⟨S256x1, .i32⟩
  | 9 => ⟨S256x1, .i32⟩
  | 10 => ⟨S256, .i32⟩
  | 11 => ⟨S1x256, .i32⟩
  | 12 => ⟨S_, .i32⟩
  | 13 => ⟨S_, .i32⟩
  | 14 => ⟨S1x256, .i32⟩
  | 15 => ⟨S1x256, .i32⟩
  | 16 => ⟨S1x256, .i32⟩
  | 17 => ⟨S_, .i32⟩
  | 18 => ⟨S1x256, .i32⟩
  | 19 => ⟨S1x256, .i1⟩
  | 20 => ⟨S1x256, .i32⟩
  | 21 => ⟨S1x256, .i32⟩
  | 22 => ⟨S_, .i32⟩
  | 23 => ⟨S1x256, .i32⟩
  | 24 => ⟨S1x256, .i1⟩
  | 25 => ⟨S1x256, .i1⟩
  | 26 => ⟨S_, .i32⟩
  | 27 => ⟨S1x256, .i32⟩
  | 28 => ⟨S1x256, .i32⟩
  | 29 => ⟨S1x256, .i32⟩
  | 30 => ⟨S256x256, .i32⟩
  | 31 => ⟨S256x256, .i32⟩
  | 32 => ⟨S256x256, .i1⟩
  | 33 => ⟨S256x256, .f32⟩
  | 34 => ⟨S256, .i32⟩
  | 35 => ⟨S256x1, .i32⟩
  | 36 => ⟨S_, .i32⟩
  | 37 => ⟨S_, .i32⟩
  | 38 => ⟨S256x1, .i32⟩
  | 39 => ⟨S256x1, .i32⟩
  | 40 => ⟨S256x1, .i32⟩
  | 41 => ⟨S_, .i32⟩
  | 42 => ⟨S256x1, .i32⟩
  | 43 => ⟨S256x1, .i1⟩
  | 44 => ⟨S256x1, .i32⟩
  | 45 => ⟨S256x1, .i32⟩
  | 46 => ⟨S_, .i32⟩
  | 47 => ⟨S256x1, .i32⟩
  | 48 => ⟨S256x1, .i1⟩
  | 49 => ⟨S256x1, .i1⟩
  | 50 => ⟨S_, .i32⟩
  | 51 => ⟨S256x1, .i32⟩
  | 52 => ⟨S256x1, .i32⟩
  | 53 => ⟨S256x1, .i32⟩
  | 54 => ⟨S256, .i32⟩
  | 55 => ⟨S1x256, .i32⟩
  | 56 => ⟨S_, .i32⟩
  | 57 => ⟨S_, .i32⟩
  | 58 => ⟨S1x256, .i32⟩
  | 59 => ⟨S1x256, .i32⟩
  | 60 => ⟨S1x256, .i32⟩
  | 61 => ⟨S_, .i32⟩
  | 62 => ⟨S1x256, .i32⟩
  | 63 => ⟨S1x256, .i1⟩
  | 64 => ⟨S1x256, .i32⟩
  | 65 => ⟨S1x256, .i32⟩
  | 66 => ⟨S_, .i32⟩
  | 67 => ⟨S1x256, .i32⟩
  | 68 => ⟨S1x256, .i1⟩
  | 69 => ⟨S1x256, .i1⟩
  | 70 => ⟨S_, .i32⟩
  | 71 => ⟨S1x256, .i32⟩
  | 72 => ⟨S1x256, .i32⟩
  | 73 => ⟨S1x256, .i32⟩
  | 74 => ⟨S256x256, .i32⟩
  | 75 => ⟨S256x256, .i32⟩
  | 76 => ⟨S256x256, .i1⟩
  | 77 => ⟨S256x256, .f32⟩
  | 78 => ⟨S_, .f32⟩
  | 79 => ⟨S256x256, .f32⟩
  | 80 => ⟨S256x256, .f32⟩
  | 81 => ⟨S256x256, .bf16⟩
  | 82 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S128x512, .f32⟩
  | .local _ .vmem, ⟨7, _⟩ => ⟨S128x256, .f32⟩
  | .local _ .vmem, ⟨8, _⟩ => ⟨S128x256, .f32⟩
  | .local _ .vmem, ⟨9, _⟩ => ⟨S1x256, .f32⟩
  | .local _ .vmem, ⟨10, _⟩ => ⟨S512x256, .f32⟩
  | .local _ .vmem, ⟨11, _⟩ => ⟨S256x256, .f32⟩
  | .local _ .vmem, ⟨12, _⟩ => ⟨S256x256, .bf16⟩
  | .local _ .vmem, ⟨13, _⟩ => ⟨S1x256, .f32⟩
  | .local _ .vmem, ⟨14, _⟩ => ⟨S1x256, .f32⟩
  | .local _ .vmem, ⟨15, _⟩ => ⟨S512x256, .bf16⟩
  | .local _ .vmem, ⟨16, _⟩ => ⟨S512x256, .bf16⟩
  | .local _ .vmem, ⟨17, _⟩ => ⟨S256x256, .f32⟩
  | .local _ .vmem, ⟨18, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_c : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_0 : Ref sig .tc := ⟨.hbm, 90, rfl⟩
abbrev main_call2_v12 : Ref sig .tc := ⟨.hbm, 91, rfl⟩
abbrev main_call2_v13 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_7 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_c : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_0 : Ref sig .tc := ⟨.hbm, 110, rfl⟩
abbrev main_call3_v12 : Ref sig .tc := ⟨.hbm, 111, rfl⟩
abbrev main_call3_v13 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_8 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_c : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_c_0 : Ref sig .tc := ⟨.hbm, 134, rfl⟩
abbrev main_call4_v12 : Ref sig .tc := ⟨.hbm, 135, rfl⟩
abbrev main_call4_v13 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_c_9 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_call5_v5 : Ref sig .tc := ⟨.hbm, 146, rfl⟩
abbrev main_call5_v6 : Ref sig .tc := ⟨.hbm, 147, rfl⟩
abbrev main_call5_v7 : Ref sig .tc := ⟨.hbm, 148, rfl⟩
abbrev main_call5_v8 : Ref sig .tc := ⟨.hbm, 149, rfl⟩
abbrev main_call5_c : Ref sig .tc := ⟨.hbm, 150, rfl⟩
abbrev main_call5_v9 : Ref sig .tc := ⟨.hbm, 151, rfl⟩
abbrev main_call5_v10 : Ref sig .tc := ⟨.hbm, 152, rfl⟩
abbrev main_call5_v11 : Ref sig .tc := ⟨.hbm, 153, rfl⟩
abbrev main_call5_c_0 : Ref sig .tc := ⟨.hbm, 154, rfl⟩
abbrev main_call5_v12 : Ref sig .tc := ⟨.hbm, 155, rfl⟩
abbrev main_call5_v13 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_c_10 : Ref sig .tc := ⟨.hbm, 164, rfl⟩
abbrev main_call6_v0 : Ref sig .tc := ⟨.hbm, 165, rfl⟩
abbrev main_call6_v1 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_v6 : Ref sig .tc := ⟨.hbm, 171, rfl⟩
abbrev main_call6_v7 : Ref sig .tc := ⟨.hbm, 172, rfl⟩
abbrev main_call6_v8 : Ref sig .tc := ⟨.hbm, 173, rfl⟩
abbrev main_call6_c : Ref sig .tc := ⟨.hbm, 174, rfl⟩
abbrev main_call6_v9 : Ref sig .tc := ⟨.hbm, 175, rfl⟩
abbrev main_call6_v10 : Ref sig .tc := ⟨.hbm, 176, rfl⟩
abbrev main_call6_v11 : Ref sig .tc := ⟨.hbm, 177, rfl⟩
abbrev main_call6_c_0 : Ref sig .tc := ⟨.hbm, 178, rfl⟩
abbrev main_call6_v12 : Ref sig .tc := ⟨.hbm, 179, rfl⟩
abbrev main_call6_v13 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_c_11 : Ref sig .tc := ⟨.hbm, 184, rfl⟩
abbrev main_call7_v0 : Ref sig .tc := ⟨.hbm, 185, rfl⟩
abbrev main_call7_v1 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_call7_v5 : Ref sig .tc := ⟨.hbm, 190, rfl⟩
abbrev main_call7_v6 : Ref sig .tc := ⟨.hbm, 191, rfl⟩
abbrev main_call7_v7 : Ref sig .tc := ⟨.hbm, 192, rfl⟩
abbrev main_call7_v8 : Ref sig .tc := ⟨.hbm, 193, rfl⟩
abbrev main_call7_c : Ref sig .tc := ⟨.hbm, 194, rfl⟩
abbrev main_call7_v9 : Ref sig .tc := ⟨.hbm, 195, rfl⟩
abbrev main_call7_v10 : Ref sig .tc := ⟨.hbm, 196, rfl⟩
abbrev main_call7_v11 : Ref sig .tc := ⟨.hbm, 197, rfl⟩
abbrev main_call7_c_0 : Ref sig .tc := ⟨.hbm, 198, rfl⟩
abbrev main_call7_v12 : Ref sig .tc := ⟨.hbm, 199, rfl⟩
abbrev main_call7_v13 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_cst_12 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S16384x1024 : Shape := ⟨2, ![16384, 1024]⟩
abbrev S16384x256 : Shape := ⟨2, ![16384, 256]⟩
abbrev S256 : Shape := ⟨1, ![256]⟩
abbrev S16384x4x64 : Shape := ⟨3, ![16384, 4, 64]⟩
abbrev S16384x4x32 : Shape := ⟨3, ![16384, 4, 32]⟩
abbrev S_ : Shape := ⟨0, ![]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x64x64 : Shape := ⟨3, ![4, 64, 64]⟩
abbrev S128x128x4x64 : Shape := ⟨4, ![128, 128, 4, 64]⟩
abbrev S128x4x128x64 : Shape := ⟨4, ![128, 4, 128, 64]⟩
abbrev S1x4x128x64 : Shape := ⟨4, ![1, 4, 128, 64]⟩
abbrev S4x128x64 : Shape := ⟨3, ![4, 128, 64]⟩
abbrev S16384x4 : Shape := ⟨2, ![16384, 4]⟩
abbrev S16384x4x1 : Shape := ⟨3, ![16384, 4, 1]⟩
abbrev S1x256 : Shape := ⟨2, ![1, 256]⟩
abbrev S16384 : Shape := ⟨1, ![16384]⟩
abbrev S16384x1 : Shape := ⟨2, ![16384, 1]⟩

abbrev nBuf : Space → Nat
  | .hbm => 203
  | .vmem => 0
  | .smem => 0
  | _ => 0

abbrev hbmTy0_0 (i : Nat) : BufTy := match i % 128 with
  | 0 => ⟨S16384x1024, .f32⟩
  | 1 => ⟨S16384x256, .f32⟩
  | 2 => ⟨S16384x256, .f32⟩
  | 3 => ⟨S256, .f32⟩
  | 4 => ⟨S256, .f32⟩
  | 5 => ⟨S16384x4x64, .f32⟩
  | 6 => ⟨S16384x4x64, .f32⟩
  | 7 => ⟨S16384x256, .f32⟩
  | 8 => ⟨S16384x256, .f32⟩
  | 9 => ⟨S16384x256, .f32⟩
  | 10 => ⟨S16384x4x64, .f32⟩
  | 11 => ⟨S16384x4x32, .f32⟩
  | 12 => ⟨S16384x4x32, .f32⟩
  | 13 => ⟨S16384x4x64, .f32⟩
  | 14 => ⟨S16384x4x64, .f32⟩
  | 15 => ⟨S16384x4x64, .f32⟩
  | 16 => ⟨S16384x4x64, .f32⟩
  | 17 => ⟨S_, .f32⟩
  | 18 => ⟨S16384x4x64, .f32⟩
  | 19 => ⟨S16384x4x64, .f32⟩
  | 20 => ⟨S16384x4x64, .f32⟩
  | 21 => ⟨S16384x4x32, .f32⟩
  | 22 => ⟨S16384x4x32, .f32⟩
  | 23 => ⟨S16384x4x64, .f32⟩
  | 24 => ⟨S16384x4x64, .f32⟩
  | 25 => ⟨S16384x4x64, .f32⟩
  | 26 => ⟨S16384x4x64, .f32⟩
  | 27 => ⟨S16384x4x64, .f32⟩
  | 28 => ⟨S4, .f32⟩
  | 29 => ⟨S_, .f32⟩
  | 30 => ⟨S4, .f32⟩
  | 31 => ⟨S4, .f32⟩
  | 32 => ⟨S_, .f32⟩
  | 33 => ⟨S4, .f32⟩
  | 34 => ⟨S4, .f32⟩
  | 35 => ⟨S_, .f32⟩
  | 36 => ⟨S4, .f32⟩
  | 37 => ⟨S4, .f32⟩
  | 38 => ⟨S4, .f32⟩
  | 39 => ⟨S128, .f32⟩
  | 40 => ⟨S128x1, .f32⟩
  | 41 => ⟨S1x128, .f32⟩
  | 42 => ⟨S128x128, .f32⟩
  | 43 => ⟨S128x128, .f32⟩
  | 44 => ⟨S128x128, .f32⟩
  | 45 => ⟨S_, .f32⟩
  | 46 => ⟨S128x128, .f32⟩
  | 47 => ⟨S128x128, .i1⟩
  | 48 => ⟨S4x1x1, .f32⟩
  | 49 => ⟨S_, .f32⟩
  | 50 => ⟨S_, .f32⟩
  | 51 => ⟨S128x128, .f32⟩
  | 52 => ⟨S128x128, .f32⟩
  | 53 => ⟨S1x128x128, .f32⟩
  | 54 => ⟨S4x128x128, .f32⟩
  | 55 => ⟨S4x128x128, .f32⟩
  | 56 => ⟨S4x128x128, .f32⟩
  | 57 => ⟨S4x128x128, .f32⟩
  | 58 => ⟨S_, .f32⟩
  | 59 => ⟨S_, .f32⟩
  | 60 => ⟨S4x128x128, .i1⟩
  | 61 => ⟨S4x128x128, .f32⟩
  | 62 => ⟨S4x128x128, .f32⟩
  | 63 => ⟨S4x1, .f32⟩
  | 64 => ⟨S_, .f32⟩
  | 65 => ⟨S128, .f32⟩
  | 66 => ⟨S128, .f32⟩
  | 67 => ⟨S1x128, .f32⟩
  | 68 => ⟨S4x128, .f32⟩
  | 69 => ⟨S4x128, .f32⟩
  | 70 => ⟨S4x128, .f32⟩
  | 71 => ⟨S4x128, .f32⟩
  | 72 => ⟨S4x128x1, .f32⟩
  | 73 => ⟨S4x1, .f32⟩
  | 74 => ⟨S_, .f32⟩
  | 75 => ⟨S128, .f32⟩
  | 76 => ⟨S128, .f32⟩
  | 77 => ⟨S1x128, .f32⟩
  | 78 => ⟨S4x128, .f32⟩
  | 79 => ⟨S4x128, .f32⟩
  | 80 => ⟨S4x128, .f32⟩
  | 81 => ⟨S4x128, .f32⟩
  | 82 => ⟨S4x128x1, .f32⟩
  | 83 => ⟨S_, .f32⟩
  | 84 => ⟨S4, .f32⟩
  | 85 => ⟨S4, .f32⟩
  | 86 => ⟨S4, .f32⟩
  | 87 => ⟨S4x1x1, .f32⟩
  | 88 => ⟨S_, .f32⟩
  | 89 => ⟨S4x64x64, .f32⟩
  | 90 => ⟨S128x128x4x64, .f32⟩
  | 91 => ⟨S128x4x128x64, .f32⟩
  | 92 => ⟨S128x128x4x64, .f32⟩
  | 93 => ⟨S128x4x128x64, .f32⟩
  | 94 => ⟨S128x128x4x64, .f32⟩
  | 95 => ⟨S128x4x128x64, .f32⟩
  | 96 => ⟨S_, .f32⟩
  | 97 => ⟨S128x4x128x64, .f32⟩
  | 98 => ⟨S_, .i32⟩
  | 99 => ⟨S128x4x128x64, .f32⟩
  | 100 => ⟨S128x4x128x64, .f32⟩
  | 101 => ⟨S128x4x128x64, .f32⟩
  | 102 => ⟨S4x128x128, .f32⟩
  | 103 => ⟨S4x128x1, .f32⟩
  | 104 => ⟨S4x1x1, .f32⟩
  | 105 => ⟨S4x128x1, .f32⟩
  | 106 => ⟨S_, .i32⟩
  | 107 => ⟨S4x64x64, .f32⟩
  | 108 => ⟨S128x4x128x64, .f32⟩
  | 109 => ⟨S_, .i32⟩
  | 110 => ⟨S_, .i1⟩
  | 111 => ⟨S_, .i32⟩
  | 112 => ⟨S_, .i32⟩
  | 113 => ⟨S_, .i32⟩
  | 114 => ⟨S1x4x128x64, .f32⟩
  | 115 => ⟨S4x128x64, .f32⟩
  | 116 => ⟨S_, .i32⟩
  | 117 => ⟨S_, .i32⟩
  | 118 => ⟨S_, .i32⟩
  | 119 => ⟨S1x4x128x64, .f32⟩
  | 120 => ⟨S4x128x64, .f32⟩
  | 121 => ⟨S_, .i32⟩
  | 122 => ⟨S_, .i32⟩
  | 123 => ⟨S_, .i32⟩
  | 124 => ⟨S1x4x128x64, .f32⟩
  | 125 => ⟨S4x128x64, .f32⟩
  | 126 => ⟨S4x128x128, .f32⟩
  | 127 => ⟨S4x128x128, .f32⟩
  | _ => ⟨S16384x1024, .f32⟩

abbrev hbmTy0_1 (i : Nat) : BufTy := match i % 128 with
  | 0 => ⟨S4x128x64, .f32⟩
  | 1 => ⟨S4x128x64, .f32⟩
  | 2 => ⟨S4x128x64, .f32⟩
  | 3 => ⟨S4x128x64, .f32⟩
  | 4 => ⟨S4x128x64, .f32⟩
  | 5 => ⟨S4x64x64, .f32⟩
  | 6 => ⟨S4x64x64, .f32⟩
  | 7 => ⟨S4x128x64, .f32⟩
  | 8 => ⟨S4x128x64, .f32⟩
  | 9 => ⟨S4x64x64, .f32⟩
  | 10 => ⟨S4x64x64, .f32⟩
  | 11 => ⟨S1x4x128x64, .f32⟩
  | 12 => ⟨S_, .i32⟩
  | 13 => ⟨S_, .i32⟩
  | 14 => ⟨S_, .i32⟩
  | 15 => ⟨S128x4x128x64, .f32⟩
  | 16 => ⟨S_, .i32⟩
  | 17 => ⟨S_, .i32⟩
  | 18 => ⟨S128x128x4x64, .f32⟩
  | 19 => ⟨S16384x4x64, .f32⟩
  | 20 => ⟨S_, .f32⟩
  | 21 => ⟨S16384x4, .f32⟩
  | 22 => ⟨S16384x4x1, .f32⟩
  | 23 => ⟨S_, .f32⟩
  | 24 => ⟨S16384x4x1, .f32⟩
  | 25 => ⟨S16384x4x1, .f32⟩
  | 26 => ⟨S16384x4x64, .f32⟩
  | 27 => ⟨S16384x4x64, .f32⟩
  | 28 => ⟨S16384x4x64, .f32⟩
  | 29 => ⟨S_, .f32⟩
  | 30 => ⟨S16384x4, .f32⟩
  | 31 => ⟨S16384x4x1, .f32⟩
  | 32 => ⟨S_, .f32⟩
  | 33 => ⟨S16384x4x1, .f32⟩
  | 34 => ⟨S16384x4x1, .f32⟩
  | 35 => ⟨S16384x4x64, .f32⟩
  | 36 => ⟨S16384x4x64, .f32⟩
  | 37 => ⟨S_, .f32⟩
  | 38 => ⟨S16384x4x1, .f32⟩
  | 39 => ⟨S16384x4x1, .f32⟩
  | 40 => ⟨S16384x4x1, .f32⟩
  | 41 => ⟨S16384x4x64, .f32⟩
  | 42 => ⟨S16384x4x64, .f32⟩
  | 43 => ⟨S16384x256, .f32⟩
  | 44 => ⟨S1x256, .f32⟩
  | 45 => ⟨S16384x256, .f32⟩
  | 46 => ⟨S16384x256, .f32⟩
  | 47 => ⟨S16384x256, .f32⟩
  | 48 => ⟨S16384x256, .f32⟩
  | 49 => ⟨S16384x256, .f32⟩
  | 50 => ⟨S_, .f32⟩
  | 51 => ⟨S16384x256, .f32⟩
  | 52 => ⟨S16384x256, .f32⟩
  | 53 => ⟨S_, .f32⟩
  | 54 => ⟨S16384x256, .f32⟩
  | 55 => ⟨S16384x256, .f32⟩
  | 56 => ⟨S16384x256, .f32⟩
  | 57 => ⟨S16384x256, .f32⟩
  | 58 => ⟨S16384x256, .f32⟩
  | 59 => ⟨S_, .f32⟩
  | 60 => ⟨S16384, .f32⟩
  | 61 => ⟨S16384x1, .f32⟩
  | 62 => ⟨S_, .f32⟩
  | 63 => ⟨S16384x1, .f32⟩
  | 64 => ⟨S16384x1, .f32⟩
  | 65 => ⟨S_, .f32⟩
  | 66 => ⟨S16384x1, .f32⟩
  | 67 => ⟨S16384x1, .f32⟩
  | 68 => ⟨S16384x1, .f32⟩
  | 69 => ⟨S16384x256, .f32⟩
  | 70 => ⟨S16384x256, .f32⟩
  | 71 => ⟨S1x256, .f32⟩
  | 72 => ⟨S16384x256, .f32⟩
  | 73 => ⟨S16384x256, .f32⟩
  | 74 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_call0_v0 : Ref sig .tc := ⟨.hbm, 50, rfl⟩
abbrev main_call0_v1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_10 : Ref sig .tc := ⟨.hbm, 96, rfl⟩
abbrev main_v75 : Ref sig .tc := ⟨.hbm, 97, rfl⟩
abbrev main_c : Ref sig .tc := ⟨.hbm, 98, rfl⟩
abbrev main_v76_0 : Ref sig .tc := ⟨.hbm, 99, rfl⟩
abbrev main_v76_1 : Ref sig .tc := ⟨.hbm, 100, rfl⟩
abbrev main_v76_2 : Ref sig .tc := ⟨.hbm, 101, rfl⟩
abbrev main_v76_3 : Ref sig .tc := ⟨.hbm, 102, rfl⟩
abbrev main_v76_4 : Ref sig .tc := ⟨.hbm, 103, rfl⟩
abbrev main_v76_5 : Ref sig .tc := ⟨.hbm, 104, rfl⟩
abbrev main_v76_6 : Ref sig .tc := ⟨.hbm, 105, rfl⟩
abbrev main_v76_7 : Ref sig .tc := ⟨.hbm, 106, rfl⟩
abbrev main_v76_8 : Ref sig .tc := ⟨.hbm, 107, rfl⟩
abbrev main_v76_9 : Ref sig .tc := ⟨.hbm, 108, rfl⟩
abbrev main_while0c_c_28 : Ref sig .tc := ⟨.hbm, 109, rfl⟩
abbrev main_while0c_v118 : Ref sig .tc := ⟨.hbm, 110, rfl⟩
abbrev main_while0b_call2_c : Ref sig .tc := ⟨.hbm, 111, rfl⟩
abbrev main_while0b_call2_c_0 : Ref sig .tc := ⟨.hbm, 112, rfl⟩
abbrev main_while0b_call2_c_1 : Ref sig .tc := ⟨.hbm, 113, rfl⟩
abbrev main_while0b_call2_v0 : Ref sig .tc := ⟨.hbm, 114, rfl⟩
abbrev main_while0b_v118 : Ref sig .tc := ⟨.hbm, 115, rfl⟩
abbrev main_while0b_call3_c : Ref sig .tc := ⟨.hbm, 116, rfl⟩
abbrev main_while0b_call3_c_0 : Ref sig .tc := ⟨.hbm, 117, rfl⟩
abbrev main_while0b_call3_c_1 : Ref sig .tc := ⟨.hbm, 118, rfl⟩
abbrev main_while0b_call3_v0 : Ref sig .tc := ⟨.hbm, 119, rfl⟩
abbrev main_while0b_v119 : Ref sig .tc := ⟨.hbm, 120, rfl⟩
abbrev main_while0b_call4_c : Ref sig .tc := ⟨.hbm, 121, rfl⟩
abbrev main_while0b_call4_c_0 : Ref sig .tc := ⟨.hbm, 122, rfl⟩
abbrev main_while0b_call4_c_1 : Ref sig .tc := ⟨.hbm, 123, rfl⟩
abbrev main_while0b_call4_v0 : Ref sig .tc := ⟨.hbm, 124, rfl⟩
abbrev main_while0b_v120 : Ref sig .tc := ⟨.hbm, 125, rfl⟩
abbrev main_while0b_v121 : Ref sig .tc := ⟨.hbm, 126, rfl⟩
abbrev main_while0b_v122 : Ref sig .tc := ⟨.hbm, 127, rfl⟩
abbrev main_while0b_v123 : Ref sig .tc := ⟨.hbm, 128, rfl⟩
abbrev main_while0b_v124 : Ref sig .tc := ⟨.hbm, 129, rfl⟩
abbrev main_while0b_v125 : Ref sig .tc := ⟨.hbm, 130, rfl⟩
abbrev main_while0b_v126 : Ref sig .tc := ⟨.hbm, 131, rfl⟩
abbrev main_while0b_v127 : Ref sig .tc := ⟨.hbm, 132, rfl⟩
abbrev main_while0b_v128 : Ref sig .tc := ⟨.hbm, 133, rfl⟩
abbrev main_while0b_v129 : Ref sig .tc := ⟨.hbm, 134, rfl⟩
abbrev main_while0b_v130 : Ref sig .tc := ⟨.hbm, 135, rfl⟩
abbrev main_while0b_v131 : Ref sig .tc := ⟨.hbm, 136, rfl⟩
abbrev main_while0b_v132 : Ref sig .tc := ⟨.hbm, 137, rfl⟩
abbrev main_while0b_v133 : Ref sig .tc := ⟨.hbm, 138, rfl⟩
abbrev main_while0b_call5_v0 : Ref sig .tc := ⟨.hbm, 139, rfl⟩
abbrev main_while0b_call5_c : Ref sig .tc := ⟨.hbm, 140, rfl⟩
abbrev main_while0b_call5_c_0 : Ref sig .tc := ⟨.hbm, 141, rfl⟩
abbrev main_while0b_call5_c_1 : Ref sig .tc := ⟨.hbm, 142, rfl⟩
abbrev main_while0b_v134 : Ref sig .tc := ⟨.hbm, 143, rfl⟩
abbrev main_while0b_c_28 : Ref sig .tc := ⟨.hbm, 144, rfl⟩
abbrev main_while0b_v135 : Ref sig .tc := ⟨.hbm, 145, rfl⟩
abbrev main_v77 : Ref sig .tc := ⟨.hbm, 146, rfl⟩
abbrev main_v78 : Ref sig .tc := ⟨.hbm, 147, rfl⟩
abbrev main_cst_11 : Ref sig .tc := ⟨.hbm, 148, rfl⟩
abbrev main_v79 : Ref sig .tc := ⟨.hbm, 149, rfl⟩
abbrev main_v80 : Ref sig .tc := ⟨.hbm, 150, rfl⟩
abbrev main_cst_12 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_cst_13 : Ref sig .tc := ⟨.hbm, 157, rfl⟩
abbrev main_v86 : Ref sig .tc := ⟨.hbm, 158, rfl⟩
abbrev main_v87 : Ref sig .tc := ⟨.hbm, 159, rfl⟩
abbrev main_cst_14 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_cst_15 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_call6_v0 : Ref sig .tc := ⟨.hbm, 176, rfl⟩
abbrev main_call6_v1 : Ref sig .tc := ⟨.hbm, 177, rfl⟩
abbrev main_call6_cst : Ref sig .tc := ⟨.hbm, 178, rfl⟩
abbrev main_call6_v2 : Ref sig .tc := ⟨.hbm, 179, rfl⟩
abbrev main_call6_v3 : Ref sig .tc := ⟨.hbm, 180, rfl⟩
abbrev main_call6_cst_0 : Ref sig .tc := ⟨.hbm, 181, rfl⟩
abbrev main_call6_v4 : Ref sig .tc := ⟨.hbm, 182, rfl⟩
abbrev main_call6_v5 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_cst_16 : Ref sig .tc := ⟨.hbm, 187, rfl⟩
abbrev main_v105 : Ref sig .tc := ⟨.hbm, 188, rfl⟩
abbrev main_v106 : Ref sig .tc := ⟨.hbm, 189, rfl⟩
abbrev main_cst_17 : Ref sig .tc := ⟨.hbm, 190, rfl⟩
abbrev main_v107 : Ref sig .tc := ⟨.hbm, 191, rfl⟩
abbrev main_v108 : Ref sig .tc := ⟨.hbm, 192, rfl⟩
abbrev main_cst_18 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x1024 : Shape := ⟨2, ![16384, 1024]⟩
abbrev S1024 : Shape := ⟨1, ![1024]⟩
abbrev S1024x2824 : Shape := ⟨2, ![1024, 2824]⟩
abbrev S1x1024 : Shape := ⟨2, ![1, 1024]⟩
abbrev S1024x8 : Shape := ⟨2, ![1024, 8]⟩
abbrev S1024x256 : Shape := ⟨2, ![1024, 256]⟩
abbrev S_ : Shape := ⟨0, ![]⟩
abbrev S1024x120 : Shape := ⟨2, ![1024, 120]⟩
abbrev S1024x2560 : Shape := ⟨2, ![1024, 2560]⟩
abbrev S1024x2944 : Shape := ⟨2, ![1024, 2944]⟩
abbrev S16384x512 : Shape := ⟨2, ![16384, 512]⟩
abbrev S16384x256 : Shape := ⟨2, ![16384, 256]⟩
abbrev S16384x1152 : Shape := ⟨2, ![16384, 1152]⟩
abbrev S256x1024 : Shape := ⟨2, ![256, 1024]⟩
abbrev S256x512 : Shape := ⟨2, ![256, 512]⟩
abbrev S256x256 : Shape := ⟨2, ![256, 256]⟩
abbrev S256x1152 : Shape := ⟨2, ![256, 1152]⟩
abbrev S256 : Shape := ⟨1, ![256]⟩
abbrev S256x1 : Shape := ⟨2, ![256, 1]⟩
abbrev S1024x1024 : Shape := ⟨2, ![1024, 1024]⟩
abbrev S1024x512 : Shape := ⟨2, ![1024, 512]⟩
abbrev S1024x1152 : Shape := ⟨2, ![1024, 1152]⟩

abbrev nBuf : Space → Nat
  | .hbm => 15
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2824, .f32⟩
  | .hbm, ⟨3, _⟩ => ⟨S1x1024, .f32⟩
  | .hbm, ⟨4, _⟩ => ⟨S1024x8, .f32⟩
  | .hbm, ⟨5, _⟩ => ⟨S1024x256, .f32⟩
  | .hbm, ⟨6, _⟩ => ⟨S_, .f32⟩
  | .hbm, ⟨7, _⟩ => ⟨S1024x120, .f32⟩
  | .hbm, ⟨8, _⟩ => ⟨S1024x2560, .f32⟩
  | .hbm, ⟨9, _⟩ => ⟨S1024x2944, .f32⟩
  | .hbm, ⟨10, _⟩ => ⟨S1024x2944, .bf16⟩
  | .hbm, ⟨11, _⟩ => ⟨S16384x1024, .f32⟩
  | .hbm, ⟨12, _⟩ => ⟨S16384x512, .f32⟩
  | .hbm, ⟨13, _⟩ => ⟨S16384x256, .f32⟩
  | .hbm, ⟨14, _⟩ => ⟨S16384x1152, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2944, .bf16⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x256, .f32⟩
  | .local _ .vmem, ⟨9, _⟩ => ⟨S256x256, .f32⟩
  | .local _ .vmem, ⟨10, _⟩ => ⟨S256x1152, .f32⟩
  | .local _ .vmem, ⟨11, _⟩ => ⟨S256x1152, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1024 : Shape := ⟨1, ![1024]⟩
abbrev S1024x2824 : Shape := ⟨2, ![1024, 2824]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2824 : Shape := ⟨2, ![16384, 2824]⟩
abbrev S16384x256 : Shape := ⟨2, ![16384, 256]⟩
abbrev S16384x768 : Shape := ⟨2, ![16384, 768]⟩
abbrev S16384x4 : Shape := ⟨2, ![16384, 4]⟩
abbrev S16384x120 : Shape := ⟨2, ![16384, 120]⟩
abbrev S16384x512 : Shape := ⟨2, ![16384, 512]⟩
abbrev S16384x1152 : Shape := ⟨2, ![16384, 1152]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2824, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2824, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S16384x768, .f32⟩
  | .hbm, ⟨28, _⟩ => ⟨S16384x4, .f32⟩
  | .hbm, ⟨29, _⟩ => ⟨S16384x4, .f32⟩
  | .hbm, ⟨30, _⟩ => ⟨S16384x256, .f32⟩
  | .hbm, ⟨31, _⟩ => ⟨S_, .f32⟩
  | .hbm, ⟨32, _⟩ => ⟨S16384x120, .f32⟩
  | .hbm, ⟨33, _⟩ => ⟨S16384x1024, .f32⟩
  | .hbm, ⟨34, _⟩ => ⟨S16384x512, .f32⟩
  | .hbm, ⟨35, _⟩ => ⟨S16384x1152, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel3.lean ====
abbrev S16384x1024 : Shape := ⟨2, ![16384, 1024]⟩
abbrev S16384x256 : Shape := ⟨2, ![16384, 256]⟩
abbrev S1024x1024 : Shape := ⟨2, ![1024, 1024]⟩
abbrev S512x1024 : Shape := ⟨2, ![512, 1024]⟩
abbrev S512x256 : Shape := ⟨2, ![512, 256]⟩
abbrev S256x1024 : Shape := ⟨2, ![256, 1024]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S1024x1024, .f32⟩
  | .hbm, ⟨6, _⟩ => ⟨S1024x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S16384x256 : Shape := ⟨2, ![16384, 256]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S1024x1024, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x1024, .f32⟩
  | .hbm, ⟨11, _⟩ => ⟨S16384x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x1024 : Shape := ⟨2, ![1024, 1024]⟩
abbrev S16384x256 : Shape := ⟨2, ![16384, 256]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x256, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x1024 : Shape := ⟨2, ![16384, 1024]⟩
abbrev S1024 : Shape := ⟨1, ![1024]⟩
abbrev S1024x1024 : Shape := ⟨2, ![1024, 1024]⟩
abbrev S16384x256 : Shape := ⟨2, ![16384, 256]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x256, .f32⟩
  | .hbm, ⟨4, _⟩ => ⟨S256x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x1024 : Shape := ⟨2, ![1024, 1024]⟩
abbrev S16384x256 : Shape := ⟨2, ![16384, 256]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x256, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x256, .f32⟩
  | .local _ .vmem, ⟨5, _⟩ => ⟨S512x256, .f32⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x1024 : Shape := ⟨2, ![16384, 1024]⟩
abbrev S1024 : Shape := ⟨1, ![1024]⟩
abbrev S1024x1024 : Shape := ⟨2, ![1024, 1024]⟩
abbrev S16384x256 : Shape := ⟨2, ![16384, 256]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x256, .f32⟩
  | .hbm, ⟨4, _⟩ => ⟨S256x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel6.lean ====
abbrev S16384x512 : Shape := ⟨2, ![16384, 512]⟩
abbrev S4x256 : Shape := ⟨2, ![4, 256]⟩
abbrev S256 : Shape := ⟨1, ![256]⟩
abbrev S4x64x64 : Shape := ⟨3, ![4, 64, 64]⟩
abbrev S1x4x256 : Shape := ⟨3, ![1, 4, 256]⟩
abbrev S1x256 : Shape := ⟨2, ![1, 256]⟩
abbrev S1x4x64x64 : Shape := ⟨4, ![1, 4, 64, 64]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S16384x256 : Shape := ⟨2, ![16384, 256]⟩
abbrev S512x512 : Shape := ⟨2, ![512, 512]⟩
abbrev S512x256 : Shape := ⟨2, ![512, 256]⟩
abbrev S520x256 : Shape := ⟨2, ![520, 256]⟩
abbrev S8x256 : Shape := ⟨2, ![8, 256]⟩
abbrev S512x1 : Shape := ⟨2, ![512, 1]⟩
abbrev S512 : Shape := ⟨1, ![512]⟩

abbrev nBuf : Space → Nat
  | .hbm => 71
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S4x256, .f32⟩
  | .hbm, ⟨2, _⟩ => ⟨S256, .f32⟩
  | .hbm, ⟨3, _⟩ => ⟨S4x64x64, .f32⟩
  | .hbm, ⟨4, _⟩ => ⟨S256, .f32⟩
  | .hbm, ⟨5, _⟩ => ⟨S4x64x64, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x4x256, .f32⟩
  | .hbm, ⟨10, _⟩ => ⟨S1x256, .f32⟩
  | .hbm, ⟨11, _⟩ => ⟨S1x4x64x64, .f32⟩
  | .hbm, ⟨12, _⟩ => ⟨S1x256, .f32⟩
  | .hbm, ⟨13, _⟩ => ⟨S1x4x64x64, .f32⟩
  | .hbm, ⟨14, _⟩ => ⟨S1x256, .f32⟩
  | .hbm, ⟨15, _⟩ => ⟨S1x256, .f32⟩
  | .hbm, ⟨16, _⟩ => ⟨S4x64x64, .f32⟩
  | .hbm, ⟨17, _⟩ => ⟨S1x64x64, .f32⟩
  | .hbm, ⟨18, _⟩ => ⟨S64x64, .f32⟩
  | .hbm, ⟨19, _⟩ => ⟨S1x64x64, .f32⟩
  | .hbm, ⟨20, _⟩ => ⟨S64x64, .f32⟩
  | .hbm, ⟨21, _⟩ => ⟨S1x64x64, .f32⟩
  | .hbm, ⟨22, _⟩ => ⟨S64x64, .f32⟩
  | .hbm, ⟨23, _⟩ => ⟨S1x64x64, .f32⟩
  | .hbm, ⟨24, _⟩ => ⟨S64x64, .f32⟩
  | .hbm, ⟨25, _⟩ => ⟨S_, .f32⟩
  | .hbm, ⟨26, _⟩ => ⟨S64x256, .f32⟩
  | .hbm, ⟨27, _⟩ => ⟨S_, .f32⟩
  | .hbm, ⟨28, _⟩ => ⟨S64x256, .f32⟩
  | .hbm, ⟨29, _⟩ => ⟨S_, .f32⟩
  | .hbm, ⟨30, _⟩ => ⟨S64x256, .f32⟩
  | .hbm, ⟨31, _⟩ => ⟨S_, .f32⟩
  | .hbm, ⟨32, _⟩ => ⟨S64x256, .f32⟩
  | .hbm, ⟨33, _⟩ => ⟨S256x256, .f32⟩
  | .hbm, ⟨34, _⟩ => ⟨S256x256, .bf16⟩
  | .hbm, ⟨35, _⟩ => ⟨S256x256, .f32⟩
  | .hbm, ⟨36, _⟩ => ⟨S256x256, .f32⟩
  | .hbm, ⟨37, _⟩ => ⟨S256x256, .bf16⟩
  | .hbm, ⟨38, _⟩ => ⟨S4x64x64, .f32⟩
  | .hbm, ⟨39, _⟩ => ⟨S1x64x64, .f32⟩
  | .hbm, ⟨40, _⟩ => ⟨S64x64, .f32⟩
  | .hbm, ⟨41, _⟩ => ⟨S1x64x64, .f32⟩
  | .hbm, ⟨42, _⟩ => ⟨S64x64, .f32⟩
  | .hbm, ⟨43, _⟩ => ⟨S1x64x64, .f32⟩
  | .hbm, ⟨44, _⟩ => ⟨S64x64, .f32⟩
  | .hbm, ⟨45, _⟩ => ⟨S1x64x64, .f32⟩
  | .hbm, ⟨46, _⟩ => ⟨S64x64, .f32⟩
  | .hbm, ⟨47, _⟩ => ⟨S_, .f32⟩
  | .hbm, ⟨48, _⟩ => ⟨S64x256, .f32⟩
  | .hbm, ⟨49, _⟩ => ⟨S_, .f32⟩
  | .hbm, ⟨50, _⟩ => ⟨S64x256, .f32⟩
  | .hbm, ⟨51, _⟩ => ⟨S_, .f32⟩
  | .hbm, ⟨52, _⟩ => ⟨S64x256, .f32⟩
  | .hbm, ⟨53, _⟩ => ⟨S_, .f32⟩
  | .hbm, ⟨54, _⟩ => ⟨S64x256, .f32⟩
  | .hbm, ⟨55, _⟩ => ⟨S256x256, .f32⟩
  | .hbm, ⟨56, _⟩ => ⟨S256x256, .bf16⟩
  | .hbm, ⟨57, _⟩ => ⟨S256x256, .f32⟩
  | .hbm, ⟨58, _⟩ => ⟨S256x256, .f32⟩
  | .hbm, ⟨59, _⟩ => ⟨S256x256, .bf16⟩
  | .hbm, ⟨60, _⟩ => ⟨S4x256, .f32⟩
  | .hbm, ⟨61, _⟩ => ⟨S256, .f32⟩
  | .hbm, ⟨62, _⟩ => ⟨S1x256, .f32⟩
  | .hbm, ⟨63, _⟩ => ⟨S256, .f32⟩
  | .hbm, ⟨64, _⟩ => ⟨S1x256, .f32⟩
  | .hbm, ⟨65, _⟩ => ⟨S256, .f32⟩
  | .hbm, ⟨66, _⟩ => ⟨S1x256, .f32⟩
  | .hbm, ⟨67, _⟩ => ⟨S256, .f32⟩
  | .hbm, ⟨68, _⟩ => ⟨S1x256, .f32⟩
  | .hbm, ⟨69, _⟩ => ⟨S1x256, .f32⟩
  | .hbm, ⟨70, _⟩ => ⟨S16384x256, .bf16⟩
  | .local _ .vmem, ⟨0, _⟩ => ⟨S512x512, .f32⟩
  | .local _ .vmem, ⟨1, _⟩ => ⟨S512x512, .f32⟩
  | .local _ .vmem, ⟨2, _⟩ => ⟨S4x256, .f32⟩
  | .local _ .vmem, ⟨3, _⟩ => ⟨S1x256, .f32⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S256x256, .bf16⟩
  | .local _ .vmem, ⟨8, _⟩ => ⟨S256x256, .bf16⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S520x256, .f32⟩
  | .local _ .vmem, ⟨15, _⟩ => ⟨S1x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v4 : Ref sig .tc := ⟨.hbm, 26, rfl⟩
abbrev main_call0_cst_0 : Ref sig .tc := ⟨.hbm, 27, rfl⟩
abbrev main_call0_v5 : Ref sig .tc := ⟨.hbm, 28, rfl⟩
abbrev main_call0_cst_1 : Ref sig .tc := ⟨.hbm, 29, rfl⟩
abbrev main_call0_v6 : Ref sig .tc := ⟨.hbm, 30, rfl⟩
abbrev main_call0_cst_2 : Ref sig .tc := ⟨.hbm, 31, rfl⟩
abbrev main_call0_v7 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v4 : Ref sig .tc := ⟨.hbm, 48, rfl⟩
abbrev main_call1_cst_0 : Ref sig .tc := ⟨.hbm, 49, rfl⟩
abbrev main_call1_v5 : Ref sig .tc := ⟨.hbm, 50, rfl⟩
abbrev main_call1_cst_1 : Ref sig .tc := ⟨.hbm, 51, rfl⟩
abbrev main_call1_v6 : Ref sig .tc := ⟨.hbm, 52, rfl⟩
abbrev main_call1_cst_2 : Ref sig .tc := ⟨.hbm, 53, rfl⟩
abbrev main_call1_v7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S16384x512 : Shape := ⟨2, ![16384, 512]⟩
abbrev S4x256 : Shape := ⟨2, ![4, 256]⟩
abbrev S256 : Shape := ⟨1, ![256]⟩
abbrev S4x64x64 : Shape := ⟨3, ![4, 64, 64]⟩
abbrev S16384x256 : Shape := ⟨2, ![16384, 256]⟩
abbrev S_ : Shape := ⟨0, ![]⟩
abbrev S16387x256 : Shape := ⟨2, ![16387, 256]⟩
abbrev S1x256 : Shape := ⟨2, ![1, 256]⟩
abbrev S16384x4x64 : Shape := ⟨3, ![16384, 4, 64]⟩
abbrev S4x64x16384 : Shape := ⟨3, ![4, 64, 16384]⟩
abbrev S16384 : Shape := ⟨1, ![16384]⟩
abbrev S16384x1 : Shape := ⟨2, ![16384, 1]⟩

abbrev nBuf : Space → Nat
  | .hbm => 166
  | .vmem => 0
  | .smem => 0
  | _ => 0

abbrev hbmTy0_0 (i : Nat) : BufTy := match i % 128 with
  | 0 => ⟨S16384x512, .f32⟩
  | 1 => ⟨S4x256, .f32⟩
  | 2 => ⟨S256, .f32⟩
  | 3 => ⟨S4x64x64, .f32⟩
  | 4 => ⟨S256, .f32⟩
  | 5 => ⟨S4x64x64, .f32⟩
  | 6 => ⟨S256, .f32⟩
  | 7 => ⟨S256, .f32⟩
  | 8 => ⟨S256, .f32⟩
  | 9 => ⟨S16384x256, .f32⟩
  | 10 => ⟨S_, .i32⟩
  | 11 => ⟨S_, .f32⟩
  | 12 => ⟨S16387x256, .f32⟩
  | 13 => ⟨S1x256, .f32⟩
  | 14 => ⟨S256, .f32⟩
  | 15 => ⟨S16384x256, .f32⟩
  | 16 => ⟨S1x256, .f32⟩
  | 17 => ⟨S16384x256, .f32⟩
  | 18 => ⟨S16384x256, .f32⟩
  | 19 => ⟨S_, .f32⟩
  | 20 => ⟨S16384x256, .f32⟩
  | 21 => ⟨S16384x256, .f32⟩
  | 22 => ⟨S1x256, .f32⟩
  | 23 => ⟨S256, .f32⟩
  | 24 => ⟨S16384x256, .f32⟩
  | 25 => ⟨S1x256, .f32⟩
  | 26 => ⟨S16384x256, .f32⟩
  | 27 => ⟨S16384x256, .f32⟩
  | 28 => ⟨S16384x256, .f32⟩
  | 29 => ⟨S1x256, .f32⟩
  | 30 => ⟨S256, .f32⟩
  | 31 => ⟨S16384x256, .f32⟩
  | 32 => ⟨S1x256, .f32⟩
  | 33 => ⟨S16384x256, .f32⟩
  | 34 => ⟨S16384x256, .f32⟩
  | 35 => ⟨S16384x256, .f32⟩
  | 36 => ⟨S1x256, .f32⟩
  | 37 => ⟨S256, .f32⟩
  | 38 => ⟨S16384x256, .f32⟩
  | 39 => ⟨S1x256, .f32⟩
  | 40 => ⟨S16384x256, .f32⟩
  | 41 => ⟨S16384x256, .f32⟩
  | 42 => ⟨S16384x256, .f32⟩
  | 43 => ⟨S1x256, .f32⟩
  | 44 => ⟨S16384x256, .f32⟩
  | 45 => ⟨S16384x256, .f32⟩
  | 46 => ⟨S16384x4x64, .f32⟩
  | 47 => ⟨S4x64x16384, .f32⟩
  | 48 => ⟨S16384x4x64, .f32⟩
  | 49 => ⟨S16384x256, .f32⟩
  | 50 => ⟨S1x256, .f32⟩
  | 51 => ⟨S16384x256, .f32⟩
  | 52 => ⟨S16384x256, .f32⟩
  | 53 => ⟨S16384x256, .f32⟩
  | 54 => ⟨S16384x256, .f32⟩
  | 55 => ⟨S_, .f32⟩
  | 56 => ⟨S16384x256, .f32⟩
  | 57 => ⟨S16384x256, .f32⟩
  | 58 => ⟨S_, .f32⟩
  | 59 => ⟨S16384x256, .f32⟩
  | 60 => ⟨S16384x256, .f32⟩
  | 61 => ⟨S4x64x16384, .f32⟩
  | 62 => ⟨S16384x4x64, .f32⟩
  | 63 => ⟨S16384x256, .f32⟩
  | 64 => ⟨S1x256, .f32⟩
  | 65 => ⟨S16384x256, .f32⟩
  | 66 => ⟨S16384x256, .f32⟩
  | 67 => ⟨S16384x256, .f32⟩
  | 68 => ⟨S16384x256, .f32⟩
  | 69 => ⟨S_, .f32⟩
  | 70 => ⟨S16384x256, .f32⟩
  | 71 => ⟨S16384x256, .f32⟩
  | 72 => ⟨S_, .f32⟩
  | 73 => ⟨S16384x256, .f32⟩
  | 74 => ⟨S16384x256, .f32⟩
  | 75 => ⟨S_, .f32⟩
  | 76 => ⟨S16384x256, .f32⟩
  | 77 => ⟨S16384x256, .f32⟩
  | 78 => ⟨S256, .f32⟩
  | 79 => ⟨S_, .f32⟩
  | 80 => ⟨S256, .f32⟩
  | 81 => ⟨S256, .f32⟩
  | 82 => ⟨S256, .f32⟩
  | 83 => ⟨S256, .f32⟩
  | 84 => ⟨S256, .i1⟩
  | 85 => ⟨S256, .f32⟩
  | 86 => ⟨S256, .f32⟩
  | 87 => ⟨S256, .f32⟩
  | 88 => ⟨S256, .f32⟩
  | 89 => ⟨S256, .f32⟩
  | 90 => ⟨S256, .f32⟩
  | 91 => ⟨S256, .f32⟩
  | 92 => ⟨S256, .f32⟩
  | 93 => ⟨S1x256, .f32⟩
  | 94 => ⟨S16384x256, .f32⟩
  | 95 => ⟨S16384x256, .f32⟩
  | 96 => ⟨S16384x256, .f32⟩
  | 97 => ⟨S_, .f32⟩
  | 98 => ⟨S16384x256, .f32⟩
  | 99 => ⟨S16384x256, .f32⟩
  | 100 => ⟨S16384x256, .f32⟩
  | 101 => ⟨S16384x256, .f32⟩
  | 102 => ⟨S16384x256, .f32⟩
  | 103 => ⟨S16384x256, .f32⟩
  | 104 => ⟨S16384x256, .f32⟩
  | 105 => ⟨S_, .f32⟩
  | 106 => ⟨S256, .f32⟩
  | 107 => ⟨S_, .f32⟩
  | 108 => ⟨S16384x256, .f32⟩
  | 109 => ⟨S_, .i32⟩
  | 110 => ⟨S16384x256, .f32⟩
  | 111 => ⟨S16384x256, .f32⟩
  | 112 => ⟨S_, .i32⟩
  | 113 => ⟨S256, .f32⟩
  | 114 => ⟨S16384x256, .f32⟩
  | 115 => ⟨S_, .i32⟩
  | 116 => ⟨S_, .i1⟩
  | 117 => ⟨S_, .i32⟩
  | 118 => ⟨S1x256, .f32⟩
  | 119 => ⟨S256, .f32⟩
  | 120 => ⟨S_, .i32⟩
  | 121 => ⟨S1x256, .f32⟩
  | 122 => ⟨S256, .f32⟩
  | 123 => ⟨S256, .f32⟩
  | 124 => ⟨S256, .f32⟩
  | 125 => ⟨S1x256, .f32⟩
  | 126 => ⟨S_, .i32⟩
  | 127 => ⟨S16384x256, .f32⟩
  | _ => ⟨S16384x512, .f32⟩

abbrev hbmTy0_1 (i : Nat) : BufTy := match i % 128 with
  | 0 => ⟨S_, .i32⟩
  | 1 => ⟨S_, .i32⟩
  | 2 => ⟨S16384x256, .f32⟩
  | 3 => ⟨S16384x256, .f32⟩
  | 4 => ⟨S16384x256, .f32⟩
  | 5 => ⟨S_, .f32⟩
  | 6 => ⟨S16384x256, .f32⟩
  | 7 => ⟨S16384x256, .f32⟩
  | 8 => ⟨S16384x256, .f32⟩
  | 9 => ⟨S_, .f32⟩
  | 10 => ⟨S16384x256, .f32⟩
  | 11 => ⟨S16384x256, .f32⟩
  | 12 => ⟨S16384x256, .f32⟩
  | 13 => ⟨S_, .f32⟩
  | 14 => ⟨S16384x256, .f32⟩
  | 15 => ⟨S16384x256, .f32⟩
  | 16 => ⟨S_, .f32⟩
  | 17 => ⟨S16384x256, .f32⟩
  | 18 => ⟨S16384x256, .f32⟩
  | 19 => ⟨S16384x256, .f32⟩
  | 20 => ⟨S16384x256, .f32⟩
  | 21 => ⟨S16384x256, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S16384x1, .f32⟩
  | 32 => ⟨S16384x256, .f32⟩
  | 33 => ⟨S16384x256, .f32⟩
  | 34 => ⟨S1x256, .f32⟩
  | 35 => ⟨S16384x256, .f32⟩
  | 36 => ⟨S16384x256, .f32⟩
  | 37 => ⟨S16384x256, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_0 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_2 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_5 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_6 : Ref sig .tc := ⟨.hbm, 105, rfl⟩
abbrev main_v74 : Ref sig .tc := ⟨.hbm, 106, rfl⟩
abbrev main_cst_7 : Ref sig .tc := ⟨.hbm, 107, rfl⟩
abbrev main_v75 : Ref sig .tc := ⟨.hbm, 108, rfl⟩
abbrev main_c_8 : Ref sig .tc := ⟨.hbm, 109, rfl⟩
abbrev main_v76_0 : Ref sig .tc := ⟨.hbm, 110, rfl⟩
abbrev main_v76_1 : Ref sig .tc := ⟨.hbm, 111, rfl⟩
abbrev main_v76_2 : Ref sig .tc := ⟨.hbm, 112, rfl⟩
abbrev main_v76_3 : Ref sig .tc := ⟨.hbm, 113, rfl⟩
abbrev main_v76_4 : Ref sig .tc := ⟨.hbm, 114, rfl⟩
abbrev main_while0c_c_20 : Ref sig .tc := ⟨.hbm, 115, rfl⟩
abbrev main_while0c_v106 : Ref sig .tc := ⟨.hbm, 116, rfl⟩
abbrev main_while0b_call2_c : Ref sig .tc := ⟨.hbm, 117, rfl⟩
abbrev main_while0b_call2_v0 : Ref sig .tc := ⟨.hbm, 118, rfl⟩
abbrev main_while0b_v106 : Ref sig .tc := ⟨.hbm, 119, rfl⟩
abbrev main_while0b_call3_c : Ref sig .tc := ⟨.hbm, 120, rfl⟩
abbrev main_while0b_call3_v0 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_v110 : Ref sig .tc := ⟨.hbm, 127, rfl⟩
abbrev main_while0b_c_20 : Ref sig .tc := ⟨.hbm, 128, rfl⟩
abbrev main_while0b_v111 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_9 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_10 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_11 : Ref sig .tc := ⟨.hbm, 141, rfl⟩
abbrev main_v86 : Ref sig .tc := ⟨.hbm, 142, rfl⟩
abbrev main_v87 : Ref sig .tc := ⟨.hbm, 143, rfl⟩
abbrev main_cst_12 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_13 : Ref sig .tc := ⟨.hbm, 150, rfl⟩
abbrev main_v93 : Ref sig .tc := ⟨.hbm, 151, rfl⟩
abbrev main_v94 : Ref sig .tc := ⟨.hbm, 152, rfl⟩
abbrev main_cst_14 : Ref sig .tc := ⟨.hbm, 153, rfl⟩
abbrev main_v95 : Ref sig .tc := ⟨.hbm, 154, rfl⟩
abbrev main_v96 : Ref sig .tc := ⟨.hbm, 155, rfl⟩
abbrev main_cst_15 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩

abbrev nD : Nat := 1
abbrev τ : Topo := Topo.v7x

variable {F : FTy → Type} [FloatOps F]

abbrev main_while0_count : Scf.Loop 32 := ⟨0#32, 16384#32, 1#32⟩
-- ==== Proof.Trips.lean ====
/-
  The reference's run as one trip iterated: the loop's memory before each trip holds the states of a sequence that starts
  at `init` and goes on by `step`.
-/
module

public import proofs.«01_k».proof.Proof.Gen.ReferenceIdeal.Run
public import proofs.«01_k».proof.Proof.Gen.ReferenceIdeal.Step

@[expose] public section

set_option maxRecDepth 16384

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- What a memory of the loop holds as a state. -/
def stateOf (W : Valuation τ sig (Elt F)) : State F :=
  ⟨W (Proc.devRef .tc main_v76_8), W (Proc.devRef .tc main_v76_9), W (Proc.devRef .tc main_v76_0),
    W (Proc.devRef .tc main_v76_1), W (Proc.devRef .tc main_v76_2)⟩

/-- The memory holds the state `s` before trip `j`, and the four decay tables. -/
structure At (W : Valuation τ sig (Elt F)) (s : State F) (j : ℕ) : Prop where
  st : s = stateOf W
  num : W (Proc.devRef .tc main_v76_7) = constantI S_ 32 (BitVec.ofNat 32 j)
  mask : W (Proc.devRef .tc main_v76_3) = K_main_v45 (F := F)
  qdec : W (Proc.devRef .tc main_v76_4) = K_main_v54 (F := F)
  cdec : W (Proc.devRef .tc main_v76_5) = K_main_v67 (F := F)
  kdec : W (Proc.devRef .tc main_v76_6) = K_main_v63 (F := F)

variable {W : Valuation τ sig (Elt F)} {s : State F} {j : ℕ}

theorem new_state (h : At W s j) : step_main_v76_8 W = b27 j s := by
  obtain ⟨rfl, hn, h3, h4, h5, h6⟩ := h
  unfold b27 b26 b25 b24 b23 b22 b14 b13 b12 b11 b10 b9 b8 b7 b6 b5
  rw [← h5, ← h6, ← hn]
  rfl

theorem new_out (h : At W s j) : step_main_v76_9 W = b32 j s := by
  obtain ⟨rfl, hn, h3, h4, h5, h6⟩ := h
  unfold b32 b31 b30 b29 b28 b21 b20 b19 b18 b17 b16 b15 b14 b13 b12 b11 b10 b9 b8 b7 b6 b5 b4 b3 b2 b1 b0
  rw [← h3, ← h4, ← hn]
  rfl

theorem new_num (h : At W s j) : step_main_v76_7 W = constantI S_ 32 (BitVec.ofNat 32 (j + 1)) := by
  unfold step_main_v76_7
  rw [h.num]
  funext i
  show BitVec.ofNat 32 j + 1#32 = BitVec.ofNat 32 (j + 1)
  rw [BitVec.ofNat_add]

/-- One trip. -/
theorem trip (h : At W s j) : At (STEP W) (step j s) (j + 1) where
  st := by
    have e8 := (STEP_main_v76_8 W).trans (new_state h)
    have e9 := (STEP_main_v76_9 W).trans (new_out h)
    have hs := h.st
    unfold step stateOf
    rw [e8, e9, STEP_main_v76_0, STEP_main_v76_1, STEP_main_v76_2]
    simp only [hs, stateOf]
  num := (STEP_main_v76_7 W).trans (new_num h)
  mask := (STEP_main_v76_3 W).trans h.mask
  qdec := (STEP_main_v76_4 W).trans h.qdec
  cdec := (STEP_main_v76_5 W).trans h.cdec
  kdec := (STEP_main_v76_6 W).trans h.kdec

variable (m : (ℓ : Loc nD τ sig) → Buf (Elt F) ℓ) (c : Dev nD)

/-- The state before the first trip. -/
abbrev start : State F :=
  init (m ((c.tc : Thread nD τ).loc main_arg0)) (m ((c.tc : Thread nD τ).loc main_arg1)) (m ((c.tc : Thread nD τ).loc main_arg2))

set_option maxRecDepth 65536 in
set_option maxHeartbeats 600000 in
theorem entry : At (entryContents preI m c) (start m c) 0 := by
  constructor
  · unfold stateOf start init
    congr 1 <;> (simp only [entryContents, afterL_cons, afterL_nil]; after_reads_simp) <;> rfl
  all_goals ((simp only [entryContents, afterL_cons, afterL_nil]; after_reads_simp) <;> rfl)

/-- The states of the run. -/
def it : ℕ → State F
  | 0 => start m c
  | n + 1 => step n (it n)

theorem at_trip : ∀ n, At (STEP^[n] (entryContents preI m c)) (it m c n) n
  | 0 => entry m c
  | n + 1 => by
    rw [Function.iterate_succ_apply']
    exact trip (at_trip n)

/-- What the operations after the loop make of the last state. -/
theorem tail (h : At W s j) : out_main_v117 W = R_main_v117 s (W (Proc.devRef .tc main_arg0))
    (W (Proc.devRef .tc main_arg3)) (W (Proc.devRef .tc main_arg4)) := by
  obtain ⟨rfl, -, -, -, -, -⟩ := h
  rfl

/-- The reference's run. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v117) = R_main_v117 (it m c 128) (m ((c.tc : Thread nD τ).loc main_arg0))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((tail (at_trip m c 128)).trans (by
      rw [iter_main_arg0 m c 128, iter_main_arg3 m c 128, iter_main_arg4 m c 128])), (h c).2⟩) (Value.run m ρ)

end Cert.ReferenceIdeal.Trips
end
-- ==== Proof.Chunk.lean ====
/- One chunk of 128 rows, as the kernel's body computes it. The body is unrolled over four chunks: the
   first one's operations are named here (`rotQ`, `rotK`, `chunkOut`, `chunkState`, and `post` for
   the normalisation that follows the four), and the other three are shown to be the same
   functions of their own rows. -/
module

public import proofs.«01_k».proof.Proof.Gen.KernelIdeal.Skeleton
public import Idealize.ShloMosaic.Lib.Pipeline.ValueKit

@[expose] public section

set_option maxRecDepth 16384

noncomputable section

namespace Cert.KernelIdeal.Chunk

open Idealize.ShloMosaic Idealize.SL.Sem Cert.KernelIdeal.Gen

abbrev M (s : Shape) := Vec Ideal s .f32

/-- The rotated and scaled queries of a chunk. -/
def rotQ (cos sin q : M S128x256) : M S128x256 := k0_pay3 (F := Ideal) cos sin q

/-- The rotated keys of a chunk. -/
def rotK (cos sin k : M S128x256) : M S128x256 :=
  k0_pay5 (F := Ideal) sin k (k0_pay4 (F := Ideal) cos k)

/-- The chunk's outputs, given the state that entered it. -/
def chunkOut (cos sin q k v : M S128x256) (st : M S256x256) (mv : M S512x256) (dm : M S128x512)
    (qd : M S128x256) : M S128x256 :=
  k0_pay9 (F := Ideal) (rotQ cos sin q) st
    (k0_pay6 (F := Ideal) sin k (rotQ cos sin q) (k0_pay4 (F := Ideal) cos k) mv dm)
    (k0_pay7 (F := Ideal) v mv) (constant S128x256 .f32 0x00000000#32) qd

/-- The state that leaves the chunk. -/
def chunkState (cos sin k v : M S128x256) (st : M S256x256) (cd : M S1x256) (kd : M S128x256)
    (bd : M S256x256) : M S256x256 :=
  k0_pay8 (F := Ideal) v (rotK cos sin k) st cd kd bd

/-- What follows the chunks: per-head centring and scaling, gating, and the row's normalisation. -/
def post (o : M S512x256) (avg : Vec Ideal S256x256 .bf16) (gn bn : M S1x256) (g : M S512x256) :
    Vec Ideal S512x256 .bf16 :=
  k0_pay1 (F := Ideal)
    (k0_pay38 (F := Ideal) (k0_pay36 (F := Ideal) o avg) (k0_pay37 (F := Ideal) o avg) avg gn g)
    (k0_pay39 (F := Ideal) bn)
    (k0_pay40 (F := Ideal) (k0_pay36 (F := Ideal) o avg) (k0_pay37 (F := Ideal) o avg) avg gn g)

/-- The stored block. -/
theorem post_eq (o : M S512x256) (avg : Vec Ideal S256x256 .bf16) (gn bn : M S1x256) (g : M S512x256) :
    k0_pay1 (F := Ideal)
      (k0_pay38 (F := Ideal) (k0_pay36 (F := Ideal) o avg) (k0_pay37 (F := Ideal) o avg) avg gn g)
      (k0_pay39 (F := Ideal) bn)
      (k0_pay40 (F := Ideal) (k0_pay36 (F := Ideal) o avg) (k0_pay37 (F := Ideal) o avg) avg gn g)
    = post o avg gn bn g := rfl

/-- The first chunk's outputs. -/
theorem out0 (cos sin q k v : M S128x256) (st : M S256x256) (mv : M S512x256) (dm : M S128x512)
    (qd : M S128x256) :
    k0_pay9 (F := Ideal) (k0_pay3 (F := Ideal) cos sin q) st
      (k0_pay6 (F := Ideal) sin k (k0_pay3 (F := Ideal) cos sin q) (k0_pay4 (F := Ideal) cos k) mv dm)
      (k0_pay7 (F := Ideal) v mv) (constant S128x256 .f32 0x00000000#32) qd
    = chunkOut cos sin q k v st mv dm qd := rfl

/-- The first chunk's state. -/
theorem state0 (cos sin k v : M S128x256) (st : M S256x256) (cd : M S1x256) (kd : M S128x256)
    (bd : M S256x256) :
    k0_pay8 (F := Ideal) v (k0_pay5 (F := Ideal) sin k (k0_pay4 (F := Ideal) cos k)) st cd kd bd
    = chunkState cos sin k v st cd kd bd := rfl

/-- The second chunk's outputs. -/
theorem out1 (cos sin q k v : M S128x256) (st : M S256x256) (mv : M S512x256) (dm : M S128x512)
    (qd : M S128x256) :
    k0_pay19 (F := Ideal) (k0_pay15 (F := Ideal) sin k v
      (k0_pay11 (F := Ideal) sin q (k0_pay10 (F := Ideal) cos q)) (k0_pay12 (F := Ideal) cos k)
      k0_pay13 mv dm mv st qd)
    = chunkOut cos sin q k v st mv dm qd := rfl

/-- The second chunk's state. -/
theorem state1 (cos sin k v : M S128x256) (st : M S256x256) (cd : M S1x256) (kd : M S128x256)
    (bd : M S256x256) :
    k0_pay18 (F := Ideal) v (k0_pay16 (F := Ideal) st cd)
      (k0_pay17 (F := Ideal) sin k (k0_pay12 (F := Ideal) cos k) k0_pay13 kd) bd
    = chunkState cos sin k v st cd kd bd := rfl

/-- The third chunk's outputs. -/
theorem out2 (cos sin q k v : M S128x256) (st : M S256x256) (mv : M S512x256) (dm : M S128x512)
    (qd : M S128x256) :
    k0_pay26 (F := Ideal) v
      (k0_pay22 (F := Ideal) sin q (k0_pay20 (F := Ideal) cos q) k0_pay21)
      (k0_pay24 (F := Ideal) cos sin q k (k0_pay20 (F := Ideal) cos q) k0_pay21 mv)
      dm mv st qd
    = chunkOut cos sin q k v st mv dm qd := rfl

/-- The third chunk's state. -/
theorem state2 (cos sin k v : M S128x256) (st : M S256x256) (cd : M S1x256) (kd : M S128x256)
    (bd : M S256x256) :
    k0_pay25 (F := Ideal) v (k0_pay23 (F := Ideal) cos sin k) st cd kd bd
    = chunkState cos sin k v st cd kd bd := rfl

/-- The fourth chunk's outputs. -/
theorem out3 (cos sin q k v : M S128x256) (st : M S256x256) (mv : M S512x256) (dm : M S128x512)
    (qd : M S128x256) :
    k0_pay35 (F := Ideal)
      (k0_pay31 (F := Ideal) sin k v (k0_pay27 (F := Ideal) cos sin q) (k0_pay28 (F := Ideal) cos k)
        64#32 k0_pay29 0#32 mv dm mv)
      (k0_pay32 (F := Ideal) (k0_pay27 (F := Ideal) cos sin q) st) (k0_pay33 (F := Ideal) qd)
    = chunkOut cos sin q k v st mv dm qd := rfl

/-- The fourth chunk's state. -/
theorem state3 (cos sin k v : M S128x256) (st : M S256x256) (cd : M S1x256) (kd : M S128x256)
    (bd : M S256x256) :
    k0_pay34 (F := Ideal) v
      (k0_pay30 (F := Ideal) sin k (k0_pay28 (F := Ideal) cos k)
        64#32 k0_pay29 0#32) st cd kd bd
    = chunkState cos sin k v st cd kd bd := rfl

end Cert.KernelIdeal.Chunk

end
-- ==== Proof.Body.lean ====
/- What each grid point leaves: `post` of its four chunks' outputs, and the state after them. The
   chunks of the whole sequence are numbered 0 … 127, and point `t` works chunks 4t … 4t+3. -/
module

public import proofs.«01_k».proof.Proof.Gen.KernelIdeal.Value
public import proofs.«01_k».proof.Proof.Chunk
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Body

open Idealize.ShloMosaic Idealize.ShloMosaic.TcCoe Idealize.SL.Sem Cert.KernelIdeal Cert.KernelIdeal.Gen Cert.KernelIdeal.Chunk Cert.KernelIdeal.Value

/-- Chunk `n` of the columns 256p … 256p+255 of the projections. -/
def cols (x : M S16384x1024) (p : Fin 4) (n : ℕ) : M S128x256 := fun j =>
  x (ix2 ⟨(128 * n + (j 0).val) % 16384, Nat.mod_lt _ (by decide)⟩
    ⟨256 * p.val + (j 1).val, by have h : (j 1).val < 256 := (j 1).isLt; omega⟩)

/-- Chunk `n` of a rotary table. -/
def rows (x : M S16384x256) (n : ℕ) : M S128x256 := fun j =>
  x (ix2 ⟨(128 * n + (j 0).val) % 16384, Nat.mod_lt _ (by decide)⟩ (j 1))

/-- The arrays a grid point reads. -/
structure Ins where
  x : M S16384x1024
  cos : M S16384x256
  sin : M S16384x256
  dm : M S128x512
  qd : M S128x256
  kd : M S128x256
  cd : M S1x256
  mv : M S512x256
  bd : M S256x256
  avg : Vec Ideal S256x256 .bf16
  gn : M S1x256
  bn : M S1x256

/-- The state that enters chunk `n`. -/
def stAt (I : Ins) : ℕ → M S256x256
  | 0 => k0_pay2 (F := Ideal)
  | n + 1 => chunkState (rows I.cos n) (rows I.sin n) (cols I.x 1 n) (cols I.x 2 n) (stAt I n) I.cd I.kd I.bd

/-- The outputs of chunk `n`. -/
def outAt (I : Ins) (n : ℕ) : M S128x256 :=
  chunkOut (rows I.cos n) (rows I.sin n) (cols I.x 0 n) (cols I.x 1 n) (cols I.x 2 n) (stAt I n) I.mv I.dm I.qd

/-- The outputs of the four chunks of point `t`, one under the other. -/
def oBlk (I : Ins) (t : ℕ) : M S512x256 := fun j =>
  outAt I (4 * t + (j 0).val / 128)
    (ix2 (⟨(j 0).val % 128, Nat.mod_lt _ (by decide)⟩ : Fin 128) (j 1))

/-- The gates of point `t`. -/
def gBlk (x : M S16384x1024) (t : ℕ) : M S512x256 := fun j =>
  x (ix2 ⟨(512 * t + (j 0).val) % 16384, Nat.mod_lt _ (by decide)⟩
    ⟨768 + (j 1).val, by have h : (j 1).val < 256 := (j 1).isLt; omega⟩)

variable (m : (ℓ : Loc nD τ sig) → Buf (Elt Ideal) ℓ)

/-- The arrays as the launch finds them. -/
def ins (c : Dev nD) : Ins where
  x := V m c main_arg0
  cos := V m c main_arg1
  sin := V m c main_arg2
  dm := V m c main_v29
  qd := V m c main_v39
  kd := V m c main_v49
  cd := V m c main_v55
  mv := V m c main_v65
  bd := V m c main_v75
  avg := V m c main_v88
  gn := V m c main_v0
  bn := V m c main_v1

/-- The windows' block indices: the three row-blocked arrays at the point's rows, the others at the origin. -/
theorem idx : ∀ t : Fin cfg0.N, (win0_0.index t = ![t.val, 0] ∧ win0_1.index t = ![t.val, 0] ∧ win0_2.index t = ![t.val, 0])
    ∧ (win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0])
    ∧ t.val < 32 :=
  (by decide +kernel : ∀ t : Fin grid0.N, _)

/-- The block of a whole table is the table. -/
theorem blk3 (c : Dev nD) (t : Fin cfg0.N) : iblk m c 3 t = (ins m c).dm := by
  have hi := (idx t).2.1.1
  refine Eq.trans (b := V m c main_v29) ?_ rfl
  generalize hV : V m c = W
  funext j
  blk_simp [iblk, hi]
  rw [hV]
  refine congrArg _ ?_
  blk_ext [hi]

theorem blk4 (c : Dev nD) (t : Fin cfg0.N) : iblk m c 4 t = (ins m c).qd := by
  have hi := (idx t).2.1.2.1
  refine Eq.trans (b := V m c main_v39) ?_ rfl
  generalize hV : V m c = W
  funext j
  blk_simp [iblk, hi]
  rw [hV]
  refine congrArg _ ?_
  blk_ext [hi]

theorem blk5 (c : Dev nD) (t : Fin cfg0.N) : iblk m c 5 t = (ins m c).kd := by
  have hi := (idx t).2.1.2.2.1
  refine Eq.trans (b := V m c main_v49) ?_ rfl
  generalize hV : V m c = W
  funext j
  blk_simp [iblk, hi]
  rw [hV]
  refine congrArg _ ?_
  blk_ext [hi]

theorem blk6 (c : Dev nD) (t : Fin cfg0.N) : iblk m c 6 t = (ins m c).cd := by
  have hi := (idx t).2.1.2.2.2.1
  refine Eq.trans (b := V m c main_v55) ?_ rfl
  generalize hV : V m c = W
  funext j
  blk_simp [iblk, hi]
  rw [hV]
  refine congrArg _ ?_
  blk_ext [hi]

theorem blk7 (c : Dev nD) (t : Fin cfg0.N) : iblk m c 7 t = (ins m c).mv := by
  have hi := (idx t).2.1.2.2.2.2.1
  refine Eq.trans (b := V m c main_v65) ?_ rfl
  generalize hV : V m c = W
  funext j
  blk_simp [iblk, hi]
  rw [hV]
  refine congrArg _ ?_
  blk_ext [hi]

theorem blk8 (c : Dev nD) (t : Fin cfg0.N) : iblk m c 8 t = (ins m c).bd := by
  have hi := (idx t).2.1.2.2.2.2.2.1
  refine Eq.trans (b := V m c main_v75) ?_ rfl
  generalize hV : V m c = W
  funext j
  blk_simp [iblk, hi]
  rw [hV]
  refine congrArg _ ?_
  blk_ext [hi]

theorem blk9 (c : Dev nD) (t : Fin cfg0.N) : iblk m c 9 t = (ins m c).avg := by
  have hi := (idx t).2.1.2.2.2.2.2.2.1
  refine Eq.trans (b := V m c main_v88) ?_ rfl
  generalize hV : V m c = W
  funext j
  blk_simp [iblk, hi]
  rw [hV]
  refine congrArg _ ?_
  blk_ext [hi]

theorem blk10 (c : Dev nD) (t : Fin cfg0.N) : iblk m c 10 t = (ins m c).gn := by
  have hi := (idx t).2.1.2.2.2.2.2.2.2.1
  refine Eq.trans (b := V m c main_v0) ?_ rfl
  generalize hV : V m c = W
  funext j
  blk_simp [iblk, hi]
  rw [hV]
  refine congrArg _ ?_
  blk_ext [hi]

theorem blk11 (c : Dev nD) (t : Fin cfg0.N) : iblk m c 11 t = (ins m c).bn := by
  have hi := (idx t).2.1.2.2.2.2.2.2.2.2
  refine Eq.trans (b := V m c main_v1) ?_ rfl
  generalize hV : V m c = W
  funext j
  blk_simp [iblk, hi]
  rw [hV]
  refine congrArg _ ?_
  blk_ext [hi]

/-- The row-blocked array at point `t` is its rows 512t … 512t+511. -/
theorem blk0 (c : Dev nD) (t : Fin cfg0.N) : iblk m c 0 t = fun j : S512x1024.Idx =>
    (ins m c).x (ix2 ⟨(512 * t.val + (j 0).val) % 16384, Nat.mod_lt _ (by decide)⟩ (j 1)) := by
  have hN := (idx t).2.2
  have hi := (idx t).1.1
  funext j
  refine Eq.trans (b := V m c main_arg0 (ix2 ⟨(512 * t.val + (j 0).val) % 16384, Nat.mod_lt _ (by decide)⟩ (j 1))) ?_ rfl
  generalize hV : V m c = W
  blk_simp [iblk, hi]
  rw [hV]
  refine congrArg _ ?_
  blk_ext [hi]

/-- The row-blocked array at point `t` is its rows 512t … 512t+511. -/
theorem blk1 (c : Dev nD) (t : Fin cfg0.N) : iblk m c 1 t = fun j : S512x256.Idx =>
    (ins m c).cos (ix2 ⟨(512 * t.val + (j 0).val) % 16384, Nat.mod_lt _ (by decide)⟩ (j 1)) := by
  have hN := (idx t).2.2
  have hi := (idx t).1.2.1
  funext j
  refine Eq.trans (b := V m c main_arg1 (ix2 ⟨(512 * t.val + (j 0).val) % 16384, Nat.mod_lt _ (by decide)⟩ (j 1))) ?_ rfl
  generalize hV : V m c = W
  blk_simp [iblk, hi]
  rw [hV]
  refine congrArg _ ?_
  blk_ext [hi]

/-- The row-blocked array at point `t` is its rows 512t … 512t+511. -/
theorem blk2 (c : Dev nD) (t : Fin cfg0.N) : iblk m c 2 t = fun j : S512x256.Idx =>
    (ins m c).sin (ix2 ⟨(512 * t.val + (j 0).val) % 16384, Nat.mod_lt _ (by decide)⟩ (j 1)) := by
  have hN := (idx t).2.2
  have hi := (idx t).1.2.2
  funext j
  refine Eq.trans (b := V m c main_arg2 (ix2 ⟨(512 * t.val + (j 0).val) % 16384, Nat.mod_lt _ (by decide)⟩ (j 1))) ?_ rfl
  generalize hV : V m c = W
  blk_simp [iblk, hi]
  rw [hV]
  refine congrArg _ ?_
  blk_ext [hi]

/-- The loads of a point, chunk by chunk. -/
theorem ld0_00 (c : Dev nD) (t : Fin cfg0.N) :
    View.ld (iblk m c 0 t) (Rect.unit ![0, 0] ![128, 256] inb_S512x1024_S128x256_0_0)
      = cols (ins m c).x 0 (4 * t.val + 0) := by
  rw [blk0]
  funext j
  idx_vars j
  pointwise [cols]
  blk_ext
theorem ld0_01 (c : Dev nD) (t : Fin cfg0.N) :
    View.ld (iblk m c 0 t) (Rect.unit ![0, 256] ![128, 256] inb_S512x1024_S128x256_0_256)
      = cols (ins m c).x 1 (4 * t.val + 0) := by
  rw [blk0]
  funext j
  idx_vars j
  pointwise [cols]
  blk_ext
theorem ld0_02 (c : Dev nD) (t : Fin cfg0.N) :
    View.ld (iblk m c 0 t) (Rect.unit ![0, 512] ![128, 256] inb_S512x1024_S128x256_0_512)
      = cols (ins m c).x 2 (4 * t.val + 0) := by
  rw [blk0]
  funext j
  idx_vars j
  pointwise [cols]
  blk_ext
theorem ld0_10 (c : Dev nD) (t : Fin cfg0.N) :
    View.ld (iblk m c 0 t) (Rect.unit ![128, 0] ![128, 256] inb_S512x1024_S128x256_128_0)
      = cols (ins m c).x 0 (4 * t.val + 1) := by
  rw [blk0]
  funext j
  idx_vars j
  pointwise [cols]
  blk_ext
theorem ld0_11 (c : Dev nD) (t : Fin cfg0.N) :
    View.ld (iblk m c 0 t) (Rect.unit ![128, 256] ![128, 256] inb_S512x1024_S128x256_128_256)
      = cols (ins m c).x 1 (4 * t.val + 1) := by
  rw [blk0]
  funext j
  idx_vars j
  pointwise [cols]
  blk_ext
theorem ld0_12 (c : Dev nD) (t : Fin cfg0.N) :
    View.ld (iblk m c 0 t) (Rect.unit ![128, 512] ![128, 256] inb_S512x1024_S128x256_128_512)
      = cols (ins m c).x 2 (4 * t.val + 1) := by
  rw [blk0]
  funext j
  idx_vars j
  pointwise [cols]
  blk_ext
theorem ld0_20 (c : Dev nD) (t : Fin cfg0.N) :
    View.ld (iblk m c 0 t) (Rect.unit ![256, 0] ![128, 256] inb_S512x1024_S128x256_256_0)
      = cols (ins m c).x 0 (4 * t.val + 2) := by
  rw [blk0]
  funext j
  idx_vars j
  pointwise [cols]
  blk_ext
theorem ld0_21 (c : Dev nD) (t : Fin cfg0.N) :
    View.ld (iblk m c 0 t) (Rect.unit ![256, 256] ![128, 256] inb_S512x1024_S128x256_256_256)
      = cols (ins m c).x 1 (4 * t.val + 2) := by
  rw [blk0]
  funext j
  idx_vars j
  pointwise [cols]
  blk_ext
theorem ld0_22 (c : Dev nD) (t : Fin cfg0.N) :
    View.ld (iblk m c 0 t) (Rect.unit ![256, 512] ![128, 256] inb_S512x1024_S128x256_256_512)
      = cols (ins m c).x 2 (4 * t.val + 2) := by
  rw [blk0]
  funext j
  idx_vars j
  pointwise [cols]
  blk_ext
theorem ld0_30 (c : Dev nD) (t : Fin cfg0.N) :
    View.ld (iblk m c 0 t) (Rect.unit ![384, 0] ![128, 256] inb_S512x1024_S128x256_384_0)
      = cols (ins m c).x 0 (4 * t.val + 3) := by
  rw [blk0]
  funext j
  idx_vars j
  pointwise [cols]
  blk_ext
theorem ld0_31 (c : Dev nD) (t : Fin cfg0.N) :
    View.ld (iblk m c 0 t) (Rect.unit ![384, 256] ![128, 256] inb_S512x1024_S128x256_384_256)
      = cols (ins m c).x 1 (4 * t.val + 3) := by
  rw [blk0]
  funext j
  idx_vars j
  pointwise [cols]
  blk_ext
theorem ld0_32 (c : Dev nD) (t : Fin cfg0.N) :
    View.ld (iblk m c 0 t) (Rect.unit ![384, 512] ![128, 256] inb_S512x1024_S128x256_384_512)
      = cols (ins m c).x 2 (4 * t.val + 3) := by
  rw [blk0]
  funext j
  idx_vars j
  pointwise [cols]
  blk_ext
theorem ld1_0 (c : Dev nD) (t : Fin cfg0.N) :
    View.ld (iblk m c 1 t) (Rect.unit ![0, 0] ![128, 256] inb_S512x256_S128x256_0_0)
      = rows (ins m c).cos (4 * t.val + 0) := by
  rw [blk1]
  funext j
  idx_vars j
  pointwise [rows]
  blk_ext
theorem ld1_1 (c : Dev nD) (t : Fin cfg0.N) :
    View.ld (iblk m c 1 t) (Rect.unit ![128, 0] ![128, 256] inb_S512x256_S128x256_128_0)
      = rows (ins m c).cos (4 * t.val + 1) := by
  rw [blk1]
  funext j
  idx_vars j
  pointwise [rows]
  blk_ext
theorem ld1_2 (c : Dev nD) (t : Fin cfg0.N) :
    View.ld (iblk m c 1 t) (Rect.unit ![256, 0] ![128, 256] inb_S512x256_S128x256_256_0)
      = rows (ins m c).cos (4 * t.val + 2) := by
  rw [blk1]
  funext j
  idx_vars j
  pointwise [rows]
  blk_ext
theorem ld1_3 (c : Dev nD) (t : Fin cfg0.N) :
    View.ld (iblk m c 1 t) (Rect.unit ![384, 0] ![128, 256] inb_S512x256_S128x256_384_0)
      = rows (ins m c).cos (4 * t.val + 3) := by
  rw [blk1]
  funext j
  idx_vars j
  pointwise [rows]
  blk_ext
theorem ld2_0 (c : Dev nD) (t : Fin cfg0.N) :
    View.ld (iblk m c 2 t) (Rect.unit ![0, 0] ![128, 256] inb_S512x256_S128x256_0_0)
      = rows (ins m c).sin (4 * t.val + 0) := by
  rw [blk2]
  funext j
  idx_vars j
  pointwise [rows]
  blk_ext
theorem ld2_1 (c : Dev nD) (t : Fin cfg0.N) :
    View.ld (iblk m c 2 t) (Rect.unit ![128, 0] ![128, 256] inb_S512x256_S128x256_128_0)
      = rows (ins m c).sin (4 * t.val + 1) := by
  rw [blk2]
  funext j
  idx_vars j
  pointwise [rows]
  blk_ext
theorem ld2_2 (c : Dev nD) (t : Fin cfg0.N) :
    View.ld (iblk m c 2 t) (Rect.unit ![256, 0] ![128, 256] inb_S512x256_S128x256_256_0)
      = rows (ins m c).sin (4 * t.val + 2) := by
  rw [blk2]
  funext j
  idx_vars j
  pointwise [rows]
  blk_ext
theorem ld2_3 (c : Dev nD) (t : Fin cfg0.N) :
    View.ld (iblk m c 2 t) (Rect.unit ![384, 0] ![128, 256] inb_S512x256_S128x256_384_0)
      = rows (ins m c).sin (4 * t.val + 3) := by
  rw [blk2]
  funext j
  idx_vars j
  pointwise [rows]
  blk_ext
theorem ldg (c : Dev nD) (t : Fin cfg0.N) :
    View.ld (iblk m c 0 t) (Rect.unit ![0, 768] ![512, 256] inb_S512x1024_S512x256_0_768)
      = gBlk (ins m c).x t.val := by
  rw [blk0]
  funext j
  idx_vars j
  pointwise [gBlk]

end Cert.KernelIdeal.Body

end
-- ==== Proof.Decay.lean ====
/-
  The retention's decay as real numbers: one rate per head, and the four tables made of it.
-/
module

public import Idealize.ShloMosaic.Lib.Pointwise
public import Idealize.ShloMosaic.Lib.Claim

@[expose] public section

noncomputable section

namespace Cert.Decay

open Idealize.ShloMosaic

/-- The decay of head `h` per token: `1 - 2 ^ (-5 - h)`. -/
def gam (h : Fin 4) : ℝ := ![31 / 32, 63 / 64, 127 / 128, 255 / 256] h

/-- The logarithm of the decay. -/
def lg (h : Fin 4) : ℝ := Real.log (gam h)

/-- What position `j` of a chunk contributes to position `r`: the decay between them, nothing from later positions. -/
def D (h : Fin 4) (r j : ℕ) : ℝ := if j ≤ r then Real.exp (lg h * ((r : ℝ) - j)) else 0

/-- The decay from the chunk's start up to and with position `r`. -/
def QD (h : Fin 4) (r : ℕ) : ℝ := Real.exp (lg h * ((r : ℝ) + 1))

/-- The decay from position `r` to the chunk's end. -/
def KD (h : Fin 4) (r : ℕ) : ℝ := Real.exp (lg h * (127 - (r : ℝ)))

/-- The decay over a whole chunk. -/
def CD (h : Fin 4) : ℝ := Real.exp (lg h * 128)

theorem gam_pos (h : Fin 4) : 0 < gam h := by
  fin_cases h <;> simp [gam] <;> norm_num

/-- The logarithm in the ideal model is the real one. -/
theorem log_gam (h : Fin 4) : Ideal.log ((gam h : ℝ) : EReal) = ((lg h : ℝ) : EReal) := by
  rw [Ideal.log_coe, if_neg (not_le.mpr (gam_pos h))]; rfl

/-- A small natural number as a float. -/
theorem sitofp_nat (n : ℕ) (h : n < 1024) : (FloatOps.sitofp .f32 (BitVec.ofNat 32 n) : Ideal .f32) = ((n : ℝ) : EReal) := by
  have e : (BitVec.ofNat 32 n).toInt = (n : ℤ) := by
    rw [BitVec.toInt_eq_toNat_of_lt] <;> simp [BitVec.toNat_ofNat] <;> omega
  show (((BitVec.ofNat 32 n).toInt : ℝ) : EReal) = _
  rw [e]; simp

theorem lit_zero : Ideal.ofBits .f32 0x00000000#32 = ((0 : ℝ) : EReal) := by simp [Ideal.ofBits, Ideal.ieee]
theorem lit_one : Ideal.ofBits .f32 0x3F800000#32 = ((1 : ℝ) : EReal) := by simp
theorem lit_two : Ideal.ofBits .f32 0x40000000#32 = ((2 : ℝ) : EReal) := by
  simp [Ideal.ofBits, Ideal.ieee]; norm_cast; norm_num
theorem lit_five : Ideal.ofBits .f32 0xC0A00000#32 = ((-5 : ℝ) : EReal) := by
  simp [Ideal.ofBits, Ideal.ieee]; norm_cast; norm_num
theorem lit_127 : Ideal.ofBits .f32 0x42FE0000#32 = ((127 : ℝ) : EReal) := by
  simp [Ideal.ofBits, Ideal.ieee]; norm_cast; norm_num
theorem lit_128 : Ideal.ofBits .f32 0x43000000#32 = ((128 : ℝ) : EReal) := by
  simp [Ideal.ofBits, Ideal.ieee]; norm_cast; norm_num
theorem lit_64 : Ideal.ofBits .f32 0x42800000#32 = ((64 : ℝ) : EReal) := by
  simp [Ideal.ofBits, Ideal.ieee]; norm_cast; norm_num
theorem lit_256 : Ideal.ofBits .f32 0x43800000#32 = ((256 : ℝ) : EReal) := by
  simp [Ideal.ofBits, Ideal.ieee]; norm_cast; norm_num
theorem lit_eighth : Ideal.ofBits .f32 0x3E000000#32 = ((1 / 8 : ℝ) : EReal) := by
  simp [Ideal.ofBits, Ideal.ieee]; norm_cast; norm_num

/-- The decay between two positions, as both programs select it. -/
theorem D_select (h : Fin 4) (r j : ℕ) :
    (if (0 : EReal) ≤ (((r : ℝ) - (j : ℝ) : ℝ) : EReal) then
        Ideal.exp (((lg h : ℝ) : EReal) * if (0 : EReal) ≤ (((r : ℝ) - (j : ℝ) : ℝ) : EReal) then (((r : ℝ) - (j : ℝ) : ℝ) : EReal)
          else id (constant (F := Ideal) ⟨0, ![]⟩ FTy.f32 0#32) ix0)
      else id (constant (F := Ideal) ⟨0, ![]⟩ FTy.f32 0#32) ix0) = ((D h r j : ℝ) : EReal) := by
  have hi : ((0 : EReal) ≤ (((r : ℝ) - (j : ℝ) : ℝ) : EReal)) ↔ j ≤ r := by
    rw [← EReal.coe_zero, EReal.coe_le_coe_iff, sub_nonneg, Nat.cast_le]
  have hz : (id (constant (F := Ideal) ⟨0, ![]⟩ FTy.f32 0#32) ix0 : EReal) = 0 := by
    show Ideal.ofBits .f32 0x00000000#32 = 0
    rw [lit_zero]; rfl
  simp only [hi, D]
  split
  · rw [← EReal.coe_mul, Ideal.exp_coe]
  · exact hz

end Cert.Decay
end
-- ==== Proof.Tables.lean ====
/-
  The kernel's constant tables, entry by entry: the decay tables of `Decay` and the 0/1 masks of the heads.
-/
module

public import proofs.«01_k».proof.Proof.Gen.KernelIdeal.Value
public import proofs.«01_k».proof.Proof.Decay
public import Idealize.ShloMosaic.Lib.Pipeline.ValueKit
public import Idealize.ShloMosaic.Lib.StableHlo.RunRead
public import Idealize.ShloMosaic.Lib.Pointwise
public import Idealize.ShloMosaic.Lib.Claim
public import Idealize.ShloMosaic.Lib.Tactic.CleanTypes

@[expose] public section

set_option maxRecDepth 16384

noncomputable section

namespace Cert.KernelIdeal.Tables

open Idealize.ShloMosaic Idealize.ShloMosaic.TcCoe Idealize.SL.Sem Cert.KernelIdeal Cert.KernelIdeal.Gen Cert.Decay

variable (m : (ℓ : Loc nD τ sig) → Buf (Elt Ideal) ℓ)

/-- The head of lane `b`. -/
def hd (b : Fin 256) : Fin 4 := ⟨b.val / 64, by omega⟩

/-- Division of a small nonnegative word by a positive one, rounded down: the printed case split never takes its first branch. -/
def fdiv (a w : BitVec 32) : BitVec 32 :=
  Scalar.select
    (IntOp.andi
      (IntOp.cmpi CmpIPredicate.ne (if a = 0 then 0 else if a.msb = true then -1 else 1)
        (if w = 0 then 0 else if w.msb = true then -1 else (1 : BitVec 32)))
      (IntOp.cmpi CmpIPredicate.ne (IntOp.remsi ArithUnit.host a w) 0#32))
    (IntOp.subi (IntOp.divsi ArithUnit.host a w) 1#32)
    (IntOp.divsi ArithUnit.host a w)

theorem fdiv_64 (a : Fin 256) : fdiv (BitVec.ofNat 32 a.val) 64#32 = BitVec.ofNat 32 (a.val / 64) := by
  revert a; decide +kernel

theorem fdiv_128 (a : Fin 512) : fdiv (BitVec.ofNat 32 a.val) 128#32 = BitVec.ofNat 32 (a.val / 128) := by
  revert a; decide +kernel

/-- Equality of two head numbers as a float. -/
theorem eq_mask (a b : ℕ) (ha : a < 4) (hb : b < 4) :
    (FloatOps.uitofp FTy.f32 (IntOp.cmpi CmpIPredicate.eq (BitVec.ofNat 32 a) (BitVec.ofNat 32 b)) : Ideal .f32)
      = if a = b then 1 else 0 := by
  interval_cases a <;> interval_cases b <;> simp [IntOp.cmpi, FloatOps.uitofp]

/-- The position of an entry in a list of four. -/
theorem row_eq (h : Fin 4) : S4.rowMajor (ix1 h) = h := by fin_cases h <;> rfl

theorem lit_gam (h : Fin 4) : Ideal.ofBits .f32 (lit0 h) = ((gam h : ℝ) : EReal) := by
  fin_cases h <;> simp [lit0, gam, Ideal.ofBits, Ideal.ieee] <;> norm_cast <;> norm_num

theorem lg_eq (h : Fin 4) : Ideal.log (Ideal.ofBits .f32 (lit0 h)) = ((lg h : ℝ) : EReal) := by
  rw [lit_gam, log_gam]

/-- The whole chunk's decay, by lane. -/
theorem cd_apply (c : Dev nD) (b : Fin 256) : (V m c main_v55 : Vec Ideal S1x256 .f32) (ix2 0 b) = ((CD (hd b) : ℝ) : EReal) := by
  unfold_abbrev_sides
  simp only [List.flatten_cons, List.flatten_nil, List.append_nil, StableHlo.after_append]
  unfold_abbrev_sides
  after_reads_simp
  pointwise
  have e : S4.rowMajor (ix1 (⟨b.val / 64, by omega⟩ : Fin 4)) = hd b := row_eq _
  rw [e, lg_eq, lit_128, ← EReal.coe_mul, Ideal.exp_coe]; rfl

/-- The decay to the chunk's end, by lane. -/
theorem kd_apply (c : Dev nD) (r : Fin 128) (b : Fin 256) : (V m c main_v49 : Vec Ideal S128x256 .f32) (ix2 r b) = ((KD (hd b) r.val : ℝ) : EReal) := by
  unfold_abbrev_sides
  simp only [List.flatten_cons, List.flatten_nil, List.append_nil, StableHlo.after_append]
  unfold_abbrev_sides
  after_reads_simp
  pointwise
  have e : S4.rowMajor (ix1 (⟨b.val / 64, by omega⟩ : Fin 4)) = hd b := row_eq _
  rw [e, lg_eq, lit_127, sitofp_nat _ (by omega), ← EReal.coe_sub, ← EReal.coe_mul, Ideal.exp_coe]; rfl

/-- The decay from the chunk's start, by lane. -/
theorem qd_apply (c : Dev nD) (r : Fin 128) (b : Fin 256) : (V m c main_v39 : Vec Ideal S128x256 .f32) (ix2 r b) = ((QD (hd b) r.val : ℝ) : EReal) := by
  unfold_abbrev_sides
  simp only [List.flatten_cons, List.flatten_nil, List.append_nil, StableHlo.after_append]
  unfold_abbrev_sides
  after_reads_simp
  pointwise
  have e : S4.rowMajor (ix1 (⟨b.val / 64, by omega⟩ : Fin 4)) = hd b := row_eq _
  rw [e, lg_eq, sitofp_nat _ (by omega), ← EReal.coe_one, ← EReal.coe_add, ← EReal.coe_mul, Ideal.exp_coe]; rfl

/-- The mask of the state: one within a head. -/
theorem bd_apply (c : Dev nD) (a b : Fin 256) : (V m c main_v75 : Vec Ideal S256x256 .f32) (ix2 a b) = (if a.val / 64 = b.val / 64 then 1 else 0 : EReal) := by
  unfold_abbrev_sides
  simp only [List.flatten_cons, List.flatten_nil, List.append_nil, StableHlo.after_append]
  unfold_abbrev_sides
  after_reads_simp
  simp only [StableHlo.TRef.ofBuf_toBuf]
  simp only [StableHlo.TRef.ofBuf, StableHlo.TRef.toBuf]
  clean_types
  simp only [cast_eq]
  pointwise
  show (FloatOps.uitofp FTy.f32 (IntOp.cmpi CmpIPredicate.eq (fdiv (BitVec.ofNat 32 a.val) 64#32) (fdiv (BitVec.ofNat 32 b.val) 64#32)) : Ideal .f32) = _
  rw [fdiv_64, fdiv_64, eq_mask _ _ (by omega) (by omega)]

/-- The mask of the stacked keys and values: one where the copy is the lane's head. -/
theorem mv_apply (c : Dev nD) (a : Fin 512) (b : Fin 256) : (V m c main_v65 : Vec Ideal S512x256 .f32) (ix2 a b) = (if a.val / 128 = b.val / 64 then 1 else 0 : EReal) := by
  unfold_abbrev_sides
  simp only [List.flatten_cons, List.flatten_nil, List.append_nil, StableHlo.after_append]
  unfold_abbrev_sides
  after_reads_simp
  simp only [StableHlo.TRef.ofBuf_toBuf]
  simp only [StableHlo.TRef.ofBuf, StableHlo.TRef.toBuf]
  clean_types
  simp only [cast_eq]
  pointwise
  show (FloatOps.uitofp FTy.f32 (IntOp.cmpi CmpIPredicate.eq (fdiv (BitVec.ofNat 32 a.val) 128#32) (fdiv (BitVec.ofNat 32 b.val) 64#32)) : Ideal .f32) = _
  rw [fdiv_128, fdiv_64, eq_mask _ _ (by omega) (by omega)]

/-- The averaging matrix: a 64th within a head. -/
theorem avg_apply (c : Dev nD) (a b : Fin 256) : (V m c main_v88 : Vec Ideal S256x256 .bf16) (ix2 a b) = (if a.val / 64 = b.val / 64 then ((1 / 64 : ℝ) : EReal) else 0 : EReal) := by
  unfold_abbrev_sides
  simp only [List.flatten_cons, List.flatten_nil, List.append_nil, StableHlo.after_append]
  unfold_abbrev_sides
  after_reads_simp
  simp only [StableHlo.TRef.ofBuf_toBuf]
  simp only [StableHlo.TRef.ofBuf, StableHlo.TRef.toBuf]
  clean_types
  simp only [cast_eq]
  pointwise
  show Ideal.div (FloatOps.uitofp FTy.f32 (IntOp.cmpi CmpIPredicate.eq (fdiv (BitVec.ofNat 32 a.val) 64#32) (fdiv (BitVec.ofNat 32 b.val) 64#32)) : Ideal .f32) (Ideal.ofBits .f32 0x42800000#32) = _
  rw [fdiv_64, fdiv_64, eq_mask _ _ (by omega) (by omega), lit_64, Ideal.div_coe (by norm_num)]
  split <;> simp

/-- The decay mask before the heads are laid side by side. -/
theorem dm_head (c : Dev nD) (h : Fin 4) (r j : Fin 128) :
    (StableHlo.after hostOps0_3 (StableHlo.after hostOps0_2 (StableHlo.after hostOps0_1 (StableHlo.after hostOps0 fun b => m (c, b))))
      (Proc.tc.devRef main_v20) : Vec Ideal S4x128x128 .f32) (ix3 h r j) = ((D h r.val j.val : ℝ) : EReal) := by
  unfold_abbrev_sides
  after_reads_simp
  simp only [StableHlo.TRef.ofBuf_toBuf]
  simp only [StableHlo.TRef.ofBuf, StableHlo.TRef.toBuf]
  clean_types
  simp only [cast_eq]
  pointwise
  have e : S4.rowMajor (ix1 h) = h := row_eq h
  rw [e, lg_eq, sitofp_nat _ (by omega), sitofp_nat _ (by omega), ← EReal.coe_sub]
  exact D_select h r.val j.val

/-- The decay mask: head `b / 128` in the columns `128 (b / 128) …`. -/
theorem dm_apply (c : Dev nD) (r : Fin 128) (b : Fin 512) : (V m c main_v29 : Vec Ideal S128x512 .f32) (ix2 r b)
    = ((D ⟨b.val / 128, by omega⟩ r.val (b.val % 128) : ℝ) : EReal) := by
  unfold_abbrev_sides
  simp only [List.flatten_cons, List.flatten_nil, List.append_nil, StableHlo.after_append]
  generalize hF : StableHlo.after hostOps0_3 _ = F
  unfold_abbrev_sides
  after_reads_simp
  pointwise
  after_reads_simp
  pointwise
  have key : ∀ (h : Fin 4) (r j : Fin 128), (F (Proc.tc.devRef main_v20) : Vec Ideal S4x128x128 .f32) (ix3 h r j)
      = ((D h r.val j.val : ℝ) : EReal) := by
    subst hF; exact dm_head m c
  clear hF
  have hb := b.isLt
  have fin : ∀ (h : Fin 4) (j : ℕ), b.val / 128 = h.val → j = b.val % 128 →
      ((D h r.val j : ℝ) : EReal) = ((D ⟨b.val / 128, by omega⟩ r.val (b.val % 128) : ℝ) : EReal) := by
    intro h j e1 e2
    rw [e2, show (⟨b.val / 128, by omega⟩ : Fin 4) = h from Fin.ext e1]
  split
  · exact (key 0 r ⟨b.val, by omega⟩).trans (fin 0 _ (by show _ = 0; omega) (by show b.val = _; omega))
  · split
    · exact (key 1 r ⟨b.val - 128, by omega⟩).trans (fin 1 _ (by show _ = 1; omega) (by show b.val - 128 = _; omega))
    · split
      · exact (key 2 r ⟨b.val - 128 - 128, by omega⟩).trans (fin 2 _ (by show _ = 2; omega) (by show b.val - 128 - 128 = _; omega))
      · exact (key 3 r ⟨b.val - 128 - 128 - 128, by omega⟩).trans
          (fin 3 _ (by show _ = 3; omega) (by show b.val - 128 - 128 - 128 = _; omega))

end Cert.KernelIdeal.Tables
end
-- ==== Proof.Retention.lean ====
/-
  The chunkwise recurrent retention, as an equation between extended reals: per head a 64 by 64 state that decays over
  each chunk and gains the chunk's keys and values, and an output that attends within the chunk and reads the state.
-/
module

public import proofs.«01_k».proof.Proof.Decay

@[expose] public section

set_option maxRecDepth 16384

noncomputable section

namespace Cert.Retention

open Idealize.ShloMosaic Cert.Decay

/-- Queries, keys or values: by chunk, head, position in the chunk and coordinate. -/
abbrev Arr := ℕ → Fin 4 → Fin 128 → Fin 64 → EReal

/-- The state before chunk `n`. -/
def S (k v : Arr) : ℕ → Fin 4 → Fin 64 → Fin 64 → EReal
  | 0, _, _, _ => 0
  | n + 1, h, a, e => S k v n h a e * ((CD h : ℝ) : EReal) + ∑ j : Fin 128, k n h j a * ((KD h j.val : ℝ) : EReal) * v n h j e

/-- The output of chunk `n`. -/
def O (q k v : Arr) (n : ℕ) (h : Fin 4) (r : Fin 128) (e : Fin 64) : EReal :=
  ∑ j : Fin 128, (∑ d : Fin 64, q n h r d * k n h j d) * ((D h r.val j.val : ℝ) : EReal) * v n h j e
    + (∑ d : Fin 64, q n h r d * S k v n h d e) * ((QD h r.val : ℝ) : EReal)

/-- Row `r` of chunk `n` in the whole array. -/
def row (n : ℕ) (r : Fin 128) : Fin 16384 := ⟨(128 * n + r.val) % 16384, Nat.mod_lt _ (by decide)⟩
/-- Coordinate `d` of head `h` in part `p` (queries, keys, values, gates) of a row. -/
def lane (p h : Fin 4) (d : Fin 64) : Fin 1024 := ⟨256 * p.val + 64 * h.val + d.val, by omega⟩
/-- Coordinate `d` of head `h` among the 256 of one part. -/
def own (h : Fin 4) (d : Fin 64) : Fin 256 := ⟨64 * h.val + d.val, by omega⟩
/-- The coordinate half a head away. -/
def half (d : Fin 64) : Fin 64 := ⟨(d.val + 32) % 64, Nat.mod_lt _ (by decide)⟩

/-- Part `p` of `x`, its coordinate pairs rotated by the angles of their row. -/
def rot (x : Fin 16384 → Fin 1024 → EReal) (cos sin : Fin 16384 → Fin 256 → EReal) (p : Fin 4) : Arr := fun n h r d =>
  x (row n r) (lane p h d) * cos (row n r) (own h d) + x (row n r) (lane p h (half d)) * sin (row n r) (own h d)
/-- The queries, divided by the root of a head's width. -/
def qs (x : Fin 16384 → Fin 1024 → EReal) (cos sin : Fin 16384 → Fin 256 → EReal) : Arr := fun n h r d =>
  rot x cos sin 0 n h r d * ((1 / 8 : ℝ) : EReal)
/-- The keys. -/
def ks (x : Fin 16384 → Fin 1024 → EReal) (cos sin : Fin 16384 → Fin 256 → EReal) : Arr := rot x cos sin 1
/-- The values. -/
def vs (x : Fin 16384 → Fin 1024 → EReal) : Arr := fun n h r d => x (row n r) (lane 2 h d)

/-- The small number under the square roots. -/
def eps : EReal := Ideal.ofBits .f32 897988541#32

section
variable (o : Fin 4 → Fin 64 → EReal) (gate gn bn : Fin 256 → EReal)

/-- A head's mean. -/
def mean (h : Fin 4) : EReal := (∑ e, o h e) * ((1 / 64 : ℝ) : EReal)
/-- A head's variance. -/
def var (h : Fin 4) : EReal := (∑ e, (o h e - mean o h) * (o h e - mean o h)) * ((1 / 64 : ℝ) : EReal)
/-- A head's outputs with mean 0 and variance 1, times their weight. -/
def scaled (l : Fin 256) : EReal :=
  (o ⟨l.val / 64, by omega⟩ ⟨l.val % 64, Nat.mod_lt _ (by decide)⟩ - mean o ⟨l.val / 64, by omega⟩)
    * Ideal.rsqrt (var o ⟨l.val / 64, by omega⟩ + eps) * gn l
/-- The gated outputs. -/
def gated (l : Fin 256) : EReal := gate l * Ideal.div 1 (1 + Ideal.exp (-gate l)) * scaled o gn l
/-- The gated outputs over the root of their mean square, times their weight. -/
def final (l : Fin 256) : EReal :=
  gated o gate gn l * Ideal.rsqrt ((∑ i, gated o gate gn i * gated o gate gn i) * ((1 / 256 : ℝ) : EReal) + eps) * bn l
end

end Cert.Retention
end
-- ==== Proof.Values.lean ====
/-
  The kernel's chunks, entry by entry: their states and outputs are those of `Retention`, a head's in its own block.
-/
module

public import proofs.«01_k».proof.Proof.Body
public import proofs.«01_k».proof.Proof.Tables
public import proofs.«01_k».proof.Proof.Retention

@[expose] public section

set_option maxRecDepth 16384

noncomputable section

namespace Cert.KernelIdeal.Values

open Idealize.ShloMosaic Idealize.ShloMosaic.TcCoe Idealize.SL.Sem Cert.KernelIdeal Cert.KernelIdeal.Gen
open Cert.KernelIdeal.Chunk Cert.KernelIdeal.Value Cert.KernelIdeal.Body Cert.KernelIdeal.Tables Cert.Decay Cert.Retention

/-- Position `j` of head `h` among the 512 columns of the four heads' scores. -/
def slot (h : Fin 4) (j : Fin 128) : Fin 512 := ⟨128 * h.val + j.val, by omega⟩

/-- A sum over 256 coordinates, head by head. -/
theorem sum_own (f : Fin 256 → EReal) : ∑ l, f l = ∑ h : Fin 4, ∑ d : Fin 64, f (own h d) := by
  rw [← Fintype.sum_prod_type']
  exact (Fintype.sum_equiv (finProdFinEquiv (m := 4) (n := 64)) (fun p => f (own p.1 p.2)) f (fun p =>
    congrArg f (Fin.ext (by show 64 * _ + _ = _ + 64 * _; omega)))).symm

/-- A sum over 512 columns, head by head. -/
theorem sum_slot (f : Fin 512 → EReal) : ∑ l, f l = ∑ h : Fin 4, ∑ j : Fin 128, f (slot h j) := by
  rw [← Fintype.sum_prod_type']
  exact (Fintype.sum_equiv (finProdFinEquiv (m := 4) (n := 128)) (fun p => f (slot p.1 p.2)) f (fun p =>
    congrArg f (Fin.ext (by show 128 * _ + _ = _ + 128 * _; omega)))).symm

/-- A sum over the heads that only one of them has a share in. -/
theorem sum_one (h : Fin 4) (f : Fin 4 → EReal) (hf : ∀ g, g ≠ h → f g = 0) : ∑ g, f g = f h :=
  Finset.sum_eq_single h (fun g _ e => hf g e) (fun e => absurd (Finset.mem_univ h) e)

theorem own_div (h : Fin 4) (d : Fin 64) : (own h d).val / 64 = h.val := by show (64 * _ + _) / 64 = _; omega
theorem own_mod (h : Fin 4) (d : Fin 64) : (own h d).val % 64 = d.val := by show (64 * _ + _) % 64 = _; omega
theorem slot_div (h : Fin 4) (j : Fin 128) : (slot h j).val / 128 = h.val := by show (128 * _ + _) / 128 = _; omega
theorem slot_mod (h : Fin 4) (j : Fin 128) : (slot h j).val % 128 = j.val := by show (128 * _ + _) % 128 = _; omega

/-- Every coordinate is some head's. -/
theorem own_split (l : Fin 256) : l = own ⟨l.val / 64, by omega⟩ ⟨l.val % 64, by omega⟩ :=
  Fin.ext (by show _ = 64 * (_ / 64) + _ % 64; omega)

set_option maxHeartbeats 1000000 in
/-- The lanes whose half of a head is the first, told by their number. -/
theorem first_half (l : Fin 256) :
    IntOp.cmpi CmpIPredicate.slt
      (Scalar.select
        (IntOp.andi
          (IntOp.xori
            (IntOp.cmpi CmpIPredicate.slt
              (IntOp.remsi ArithUnit.vector (BitVec.ofNat 32 l.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 l.val)
              (Scalar.select (Scalar.cmpi CmpIPredicate.eq 64#32 0#32) 1#32 64#32))
            0#32))
        (IntOp.addi
          (IntOp.remsi ArithUnit.vector (BitVec.ofNat 32 l.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 l.val)
          (Scalar.select (Scalar.cmpi CmpIPredicate.eq 64#32 0#32) 1#32 64#32)))
      32#32 = (if l.val % 64 < 32 then 1#1 else 0#1) := by
  revert l
  decide

/-- The lane half a head away, chosen by `first_half`. -/
theorem flip_own (k : M S128x256) (r : Fin 128) (h : Fin 4) (d : Fin 64) :
    Scalar.select (if (own h d).val % 64 < 32 then 1#1 else 0#1)
        (k (ix2 r (⟨((own h d).val + 256 - 224) % 256, Nat.mod_lt _ (by decide)⟩ : Fin 256)))
        (k (ix2 r (⟨((own h d).val + 256 - 32) % 256, Nat.mod_lt _ (by decide)⟩ : Fin 256)))
      = k (ix2 r (own h (half d))) := by
  by_cases hd : (own h d).val % 64 < 32
  · rw [if_pos hd]
    show k _ = k _
    refine congrArg (fun z => k (ix2 r z)) (Fin.ext ?_)
    simp only [own, half] at *
    omega
  · rw [if_neg hd]
    show k _ = k _
    refine congrArg (fun z => k (ix2 r z)) (Fin.ext ?_)
    simp only [own, half] at *
    omega

/-- A chunk's rotated keys. -/
theorem rotK_own (cos sin k : M S128x256) (r : Fin 128) (h : Fin 4) (d : Fin 64) :
    rotK cos sin k (ix2 r (own h d)) = k (ix2 r (own h d)) * cos (ix2 r (own h d)) + k (ix2 r (own h (half d))) * sin (ix2 r (own h d)) := by
  pointwise [rotK, k0_pay4, k0_pay5]
  rw [first_half, flip_own]

/-- A chunk's rotated and scaled queries. -/
theorem rotQ_own (cos sin k : M S128x256) (r : Fin 128) (h : Fin 4) (d : Fin 64) :
    rotQ cos sin k (ix2 r (own h d))
      = (k (ix2 r (own h d)) * cos (ix2 r (own h d)) + k (ix2 r (own h (half d))) * sin (ix2 r (own h d))) * ((1 / 8 : ℝ) : EReal) := by
  pointwise [rotQ, k0_pay3]
  rw [first_half, flip_own, lit_eighth]

/-- The state that leaves a chunk. -/
theorem chunkState_own (cos sin k v : M S128x256) (st : M S256x256) (cd : M S1x256) (kd : M S128x256) (bd : M S256x256) (a b : Fin 256) :
    chunkState cos sin k v st cd kd bd (ix2 a b)
      = st (ix2 a b) * cd (ix2 0 b) + (∑ x, rotK cos sin k (ix2 x a) * kd (ix2 x a) * v (ix2 x b)) * bd (ix2 a b) := by
  unfold chunkState
  generalize rotK cos sin k = K
  pointwise [k0_pay8]

/-- Four copies of the chunk, one under the other: row `j` of any of them is row `j` of the chunk. -/
theorem stacked (A : M S128x256) (h : Fin 4) (j : Fin 128) (x : Fin 256) :
    (if h1 : (slot h j).val < 128 then A (ix2 (⟨(slot h j).val, h1⟩ : Fin 128) x)
      else if h2 : (slot h j).val - 128 < 128 then A (ix2 (⟨(slot h j).val - 128, h2⟩ : Fin 128) x)
      else if h3 : (slot h j).val - 128 - 128 < 128 then A (ix2 (⟨(slot h j).val - 128 - 128, h3⟩ : Fin 128) x)
      else A (ix2 (⟨(slot h j).val - 128 - 128 - 128, by omega⟩ : Fin 128) x)) = A (ix2 j x) := by
  have hs : (slot h j).val = 128 * h.val + j.val := rfl
  split_ifs with h1 h2 h3 <;> exact congrArg (fun z => A (ix2 z x)) (Fin.ext (by dsimp only; omega))

/-- A chunk's outputs. -/
theorem chunkOut_own (cos sin q k v : M S128x256) (st : M S256x256) (mv : M S512x256) (dm : M S128x512) (qd : M S128x256)
    (r : Fin 128) (l : Fin 256) :
    chunkOut cos sin q k v st mv dm qd (ix2 r l)
      = ∑ g : Fin 4, ∑ j : Fin 128, (∑ i : Fin 256, rotQ cos sin q (ix2 r i) * (rotK cos sin k (ix2 j i) * mv (ix2 (slot g j) i)))
            * dm (ix2 r (slot g j)) * (v (ix2 j l) * mv (ix2 (slot g j) l))
          + (∑ i, rotQ cos sin q (ix2 r i) * st (ix2 i l)) * qd (ix2 r l) := by
  unfold chunkOut rotK
  generalize rotQ cos sin q = Q
  generalize k0_pay4 (F := Ideal) cos k = K4
  pointwise [k0_pay9, k0_pay6, k0_pay7]
  rw [sum_slot]
  generalize k0_pay5 (F := Ideal) sin k K4 = K
  exact congrArg₂ HAdd.hAdd (Finset.sum_congr rfl fun g _ => Finset.sum_congr rfl fun j _ =>
    congrArg₂ HMul.hMul (congrArg₂ HMul.hMul (Finset.sum_congr rfl fun i _ =>
      congrArg₂ HMul.hMul rfl (congrArg₂ HMul.hMul (stacked K g j i) rfl)) rfl)
      (congrArg₂ HMul.hMul (stacked v g j l) rfl)) rfl

/-- A row times the averaging matrix, in the three parts the kernel splits the row into. -/
def av (o : Fin 256 → EReal) (w : Fin 256 → Fin 256 → EReal) (l : Fin 256) : EReal :=
  ∑ x, o x * w x l + ∑ x, (o x - o x) * w x l + ∑ x, (o x - o x - (o x - o x)) * w x l

/-- The gated outputs of a row. -/
def pre (o gn g : Fin 256 → EReal) (w : Fin 256 → Fin 256 → EReal) (l : Fin 256) : EReal :=
  g l * Ideal.div 1 (1 + Ideal.exp (0 - g l))
    * ((o l - av o w l) * Ideal.rsqrt (av (fun i => (o i - av o w i) * (o i - av o w i)) w l + eps) * gn l)

/-- What follows the chunks, entry by entry. -/
theorem post_apply (o : M S512x256) (avg : Vec Ideal S256x256 .bf16) (gn bn : M S1x256) (g : M S512x256) (r : Fin 512) (l : Fin 256) :
    post o avg gn bn g (ix2 r l)
      = pre (fun i => o (ix2 r i)) (fun i => gn (ix2 0 i)) (fun i => g (ix2 r i)) (fun a b => avg (ix2 a b)) l
        * Ideal.rsqrt ((∑ x, pre (fun i => o (ix2 r i)) (fun i => gn (ix2 0 i)) (fun i => g (ix2 r i)) (fun a b => avg (ix2 a b)) x
            * pre (fun i => o (ix2 r i)) (fun i => gn (ix2 0 i)) (fun i => g (ix2 r i)) (fun a b => avg (ix2 a b)) x)
            * ((1 / 256 : ℝ) : EReal) + eps) * bn (ix2 0 l) := by
  unfold Chunk.post
  pointwise [k0_pay1, k0_pay38, k0_pay36, k0_pay37, k0_pay39, k0_pay40]
  simp only [lit_256, Ideal.div_coe (by norm_num : (256 : ℝ) ≠ 0)]
  rfl

section
variable (m : (ℓ : Loc nD τ sig) → Buf (Elt Ideal) ℓ) (c : Dev nD)

/-- The argument arrays by row and column. -/
abbrev X : Fin 16384 → Fin 1024 → EReal := fun t l => (V m c main_arg0 : Vec Ideal S16384x1024 .f32) (ix2 t l)
abbrev C : Fin 16384 → Fin 256 → EReal := fun t l => (V m c main_arg1 : Vec Ideal S16384x256 .f32) (ix2 t l)
abbrev N : Fin 16384 → Fin 256 → EReal := fun t l => (V m c main_arg2 : Vec Ideal S16384x256 .f32) (ix2 t l)
abbrev Q : Arr := qs (X m c) (C m c) (N m c)
abbrev K : Arr := ks (X m c) (C m c) (N m c)
abbrev W : Arr := vs (X m c)

theorem cols_own (x : M S16384x1024) (p : Fin 4) (n : ℕ) (r : Fin 128) (h : Fin 4) (d : Fin 64) :
    cols x p n (ix2 r (own h d)) = x (ix2 (row n r) (lane p h d)) :=
  congrArg (fun z => x (ix2 (row n r) z)) (Fin.ext (by show 256 * _ + (64 * _ + _) = 256 * _ + 64 * _ + _; omega))

theorem rows_own (x : M S16384x256) (n : ℕ) (r : Fin 128) (l : Fin 256) : rows x n (ix2 r l) = x (ix2 (row n r) l) := rfl

theorem q_own (n : ℕ) (h : Fin 4) (r : Fin 128) (d : Fin 64) :
    rotQ (rows (ins m c).cos n) (rows (ins m c).sin n) (cols (ins m c).x 0 n) (ix2 r (own h d)) = Q m c n h r d := by
  rw [rotQ_own, cols_own, cols_own, rows_own, rows_own]
  rfl
theorem k_own (n : ℕ) (h : Fin 4) (r : Fin 128) (d : Fin 64) :
    rotK (rows (ins m c).cos n) (rows (ins m c).sin n) (cols (ins m c).x 1 n) (ix2 r (own h d)) = K m c n h r d := by
  rw [rotK_own, cols_own, cols_own, rows_own, rows_own]
  rfl
theorem v_own (n : ℕ) (h : Fin 4) (r : Fin 128) (d : Fin 64) :
    cols (ins m c).x 2 n (ix2 r (own h d)) = W m c n h r d := cols_own _ _ _ _ _ _

theorem hd_own (h : Fin 4) (d : Fin 64) : hd (own h d) = h := Fin.ext (own_div h d)

theorem cd_own (h : Fin 4) (d : Fin 64) : (ins m c).cd (ix2 0 (own h d)) = ((CD h : ℝ) : EReal) :=
  (cd_apply m c (own h d)).trans (by rw [hd_own])
theorem kd_own (r : Fin 128) (h : Fin 4) (d : Fin 64) : (ins m c).kd (ix2 r (own h d)) = ((KD h r.val : ℝ) : EReal) :=
  (kd_apply m c r (own h d)).trans (by rw [hd_own])
theorem qd_own (r : Fin 128) (h : Fin 4) (d : Fin 64) : (ins m c).qd (ix2 r (own h d)) = ((QD h r.val : ℝ) : EReal) :=
  (qd_apply m c r (own h d)).trans (by rw [hd_own])
theorem bd_own (g : Fin 4) (a : Fin 64) (h : Fin 4) (d : Fin 64) :
    (ins m c).bd (ix2 (own g a) (own h d)) = (if g = h then 1 else 0 : EReal) := by
  refine (bd_apply m c (own g a) (own h d)).trans ?_
  rw [own_div, own_div]
  simp only [Fin.ext_iff]
theorem mv_own (g : Fin 4) (j : Fin 128) (h : Fin 4) (d : Fin 64) :
    (ins m c).mv (ix2 (slot g j) (own h d)) = (if g = h then 1 else 0 : EReal) := by
  refine (mv_apply m c (slot g j) (own h d)).trans ?_
  rw [slot_div, own_div]
  simp only [Fin.ext_iff]
theorem avg_own (g : Fin 4) (a : Fin 64) (h : Fin 4) (d : Fin 64) :
    (ins m c).avg (ix2 (own g a) (own h d)) = (if g = h then ((1 / 64 : ℝ) : EReal) else 0 : EReal) := by
  refine (avg_apply m c (own g a) (own h d)).trans ?_
  rw [own_div, own_div]
  simp only [Fin.ext_iff]
theorem dm_own (r : Fin 128) (h : Fin 4) (j : Fin 128) : (ins m c).dm (ix2 r (slot h j)) = ((D h r.val j.val : ℝ) : EReal) := by
  refine (dm_apply m c r (slot h j)).trans ?_
  rw [slot_mod, show (⟨(slot h j).val / 128, by omega⟩ : Fin 4) = h from Fin.ext (slot_div h j)]

/-- The states, each head's in its own diagonal block. -/
theorem state_own : ∀ (n : ℕ) (g : Fin 4) (a : Fin 64) (h : Fin 4) (e : Fin 64),
    stAt (ins m c) n (ix2 (own g a) (own h e)) = if g = h then S (K m c) (W m c) n h a e else 0
  | 0, g, a, h, e => by
    show (k0_pay2 (F := Ideal)) (ix2 (own g a) (own h e)) = _
    pointwise [k0_pay2]
    simp [S]
  | n + 1, g, a, h, e => by
    show chunkState _ _ _ _ (stAt (ins m c) n) _ _ _ _ = _
    rw [chunkState_own, state_own n, cd_own, bd_own]
    simp only [kd_own, k_own, v_own]
    by_cases e : g = h
    · subst e
      simp only [if_true, mul_one]
      rfl
    · simp only [if_neg e, mul_zero, zero_mul, add_zero]

/-- The outputs. -/
theorem out_own (n : ℕ) (r : Fin 128) (h : Fin 4) (e : Fin 64) :
    outAt (ins m c) n (ix2 r (own h e)) = O (Q m c) (K m c) (W m c) n h r e := by
  unfold outAt O
  rw [chunkOut_own, qd_own, sum_one h]
  · refine congrArg₂ HAdd.hAdd ?_ (congrArg₂ HMul.hMul ?_ rfl)
    · refine Finset.sum_congr rfl fun j _ => ?_
      rw [dm_own, v_own, mv_own, if_pos rfl, mul_one, sum_own, sum_one h]
      · simp only [q_own, k_own, mv_own, if_true, mul_one]
      · intro g hg
        simp only [mv_own, if_neg hg.symm, mul_zero, Finset.sum_const_zero]
    · rw [sum_own, sum_one h]
      · simp only [q_own, state_own, if_true]
      · intro g hg
        simp only [state_own, if_neg hg, mul_zero, Finset.sum_const_zero]
  · intro g hg
    simp only [mv_own, if_neg hg, mul_zero, Finset.sum_const_zero]
end

end Cert.KernelIdeal.Values
end
-- ==== Proof.Points.lean ====
/- The contents each grid point leaves, in the terms of Body.lean. -/
module

public import proofs.«01_k».proof.Proof.Body

@[expose] public section

set_option maxRecDepth 16384

noncomputable section

namespace Cert.KernelIdeal.Body

open Idealize.ShloMosaic Idealize.ShloMosaic.TcCoe Idealize.SL.Sem Cert.KernelIdeal Cert.KernelIdeal.Gen Cert.KernelIdeal.Chunk Cert.KernelIdeal.Value

variable (m : (ℓ : Loc nD τ sig) → Buf (Elt Ideal) ℓ)

/-- The state after chunk `n`. -/
theorem stAt_succ (I : Ins) (n : ℕ) :
    chunkState (rows I.cos n) (rows I.sin n) (cols I.x 1 n) (cols I.x 2 n) (stAt I n) I.cd I.kd I.bd = stAt I (n + 1) := rfl

/-- The outputs of chunk `n`. -/
theorem outAt_eq (I : Ins) (n : ℕ) :
    chunkOut (rows I.cos n) (rows I.sin n) (cols I.x 0 n) (cols I.x 1 n) (cols I.x 2 n) (stAt I n) I.mv I.dm I.qd = outAt I n := rfl

/-- Row `128i + r` of the point's outputs is row `r` of chunk `4t + i`. -/
theorem piece (I : Ins) (t i k : ℕ) (hk : k = 128 * i) (x : S128x256.Idx) (y0 : Fin 512) (y1 : Fin 256)
    (h0 : y0.val = k + (x 0).val) (h1 : y1.val = (x 1).val) :
    outAt I (4 * t + i) x = oBlk I t (ix2 y0 y1) := by
  idx_vars x
  have h0' : y0.val = k + x0.val := h0
  have hx : x0.val < 128 := x0.isLt
  have h1' : y1 = x1 := Fin.ext h1
  show _ = outAt I (4 * t + y0.val / 128) (ix2 (⟨y0.val % 128, _⟩ : Fin 128) y1)
  have e1 : y0.val / 128 = i := by omega
  have e2 : (⟨y0.val % 128, Nat.mod_lt _ (by decide)⟩ : Fin 128) = x0 := Fin.ext (by show y0.val % 128 = _; omega)
  rw [e1, h1']
  exact congrArg (fun z => outAt I (4 * t + i) (ix2 z x1)) e2.symm

/-- The four chunks stored over the scratch are the point's outputs. -/
theorem scratch (I : Ins) (t : ℕ) (a b c d : M S128x256) (ha : a = outAt I (4 * t)) (hb : b = outAt I (4 * t + 1))
    (hc : c = outAt I (4 * t + 2)) (hd : d = outAt I (4 * t + 3)) :
    (View.whole cc0_scratch1).readCov (Val := Elt Ideal)
      [⟨Rect.unit ![384, 0] ![128, 256] inb_S512x256_S128x256_384_0, d⟩,
        ⟨Rect.unit ![256, 0] ![128, 256] inb_S512x256_S128x256_256_0, c⟩,
        ⟨Rect.unit ![128, 0] ![128, 256] inb_S512x256_S128x256_128_0, b⟩,
        ⟨Rect.unit ![0, 0] ![128, 256] inb_S512x256_S128x256_0_0, a⟩]
      (Rect.unit ![0, 0] ![512, 256] inb_S512x256_S512x256_0_0).toLoadRect = oBlk I t := by
  rw [View.readCov_eq_canon']
  funext y
  idx_vars y
  canon_tiles x h
  · rw [hd]; exact piece I t 3 384 rfl x y0 y1 (by simpa using h0) (by simpa using h1)
  · rw [hc]; exact piece I t 2 256 rfl x y0 y1 (by simpa using h0) (by simpa using h1)
  · rw [hb]; exact piece I t 1 128 rfl x y0 y1 (by simpa using h0) (by simpa using h1)
  · rw [ha]; exact piece I t 0 0 rfl x y0 y1 (by simpa using h0) (by simpa using h1)

/-- What the first point leaves. -/
theorem pointA (c : Dev nD) (t : Fin cfg0.N) (h0 : t.val % 32 = 0) (ht : t.val = 0) :
    outsAt0 m c t.val t.isLt = (post (oBlk (ins m c) t.val) (ins m c).avg (ins m c).gn (ins m c).bn (gBlk (ins m c).x t.val),
      stAt (ins m c) (4 * t.val + 4)) := by
  have hS : k0_pay2 (F := Ideal) = stAt (ins m c) (4 * t.val) := by rw [ht]; rfl
  rw [outsAt0_A m c t h0]
  frame_open
  simp (disch := decide) only [↓ View.readCov_skip, ↓ View.readCov_cons_toLoadRect, ↓ View.readCov_fill]
  frame_out
  rw [hS]
  simp only [ld0_00, ld0_01, ld0_02, ld0_10, ld0_11, ld0_12, ld0_20, ld0_21, ld0_22, ld0_30, ld0_31, ld0_32,
    ld1_0, ld1_1, ld1_2, ld1_3, ld2_0, ld2_1, ld2_2, ld2_3, ldg, blk3, blk4, blk5, blk6, blk7, blk8, blk9, blk10, blk11, add_zero]
  simp only [out0, state0, out1, state1, out2, state2, out3, state3, stAt_succ, outAt_eq, Nat.add_assoc, Nat.reduceAdd]
  rw [scratch (ins m c) t.val _ _ _ _ rfl rfl rfl rfl, post_eq]

/-- What a later point leaves, over the state the point before left. -/
theorem pointB (c : Dev nD) (t : Fin cfg0.N) (h0 : ¬t.val % 32 = 0)
    (hS : (outsAt0 m c (t.val - 1) (Nat.lt_of_le_of_lt (Nat.sub_le _ _) t.isLt)).2 = stAt (ins m c) (4 * t.val)) :
    outsAt0 m c t.val t.isLt = (post (oBlk (ins m c) t.val) (ins m c).avg (ins m c).gn (ins m c).bn (gBlk (ins m c).x t.val),
      stAt (ins m c) (4 * t.val + 4)) := by
  rw [outsAt0_B m c t h0, hS]
  frame_open
  simp (disch := decide) only [↓ View.readCov_skip, ↓ View.readCov_cons_toLoadRect, ↓ View.readCov_fill]
  frame_out
  simp only [read_unread_whole]
  simp only [ld0_00, ld0_01, ld0_02, ld0_10, ld0_11, ld0_12, ld0_20, ld0_21, ld0_22, ld0_30, ld0_31, ld0_32,
    ld1_0, ld1_1, ld1_2, ld1_3, ld2_0, ld2_1, ld2_2, ld2_3, ldg, blk3, blk4, blk5, blk6, blk7, blk8, blk9, blk10, blk11, add_zero]
  simp only [out0, state0, out1, state1, out2, state2, out3, state3, stAt_succ, outAt_eq, Nat.add_assoc, Nat.reduceAdd]
  rw [scratch (ins m c) t.val _ _ _ _ rfl rfl rfl rfl, post_eq]

/-- What every point leaves. -/
theorem point (c : Dev nD) (n : ℕ) (hn : n < cfg0.N) :
    outsAt0 m c n hn = (post (oBlk (ins m c) n) (ins m c).avg (ins m c).gn (ins m c).bn (gBlk (ins m c).x n),
      stAt (ins m c) (4 * n + 4)) := by
  induction n with
  | zero => exact pointA m c ⟨0, hn⟩ rfl rfl
  | succ n ih =>
    have hN := (idx ⟨n + 1, hn⟩).2.2
    refine pointB m c ⟨n + 1, hn⟩ (fun h => ?_) ?_
    · have h' : (n + 1) % 32 = 0 := h
      have hN' : n + 1 < 32 := hN
      omega
    · exact congrArg Prod.snd (ih (Nat.lt_of_succ_lt hn))

/-- The kernel's result: row `512t + r` is row `r` of what point `t` leaves. -/
theorem result (c : Dev nD) (r : Fin 16384) (l : Fin 256) :
    G12 m c (ix2 r l) = post (oBlk (ins m c) (r.val / 512)) (ins m c).avg (ins m c).gn (ins m c).bn
      (gBlk (ins m c).x (r.val / 512)) (ix2 (⟨r.val % 512, Nat.mod_lt _ (by decide)⟩ : Fin 512) l) := by
  have hp : pt12Of (ix2 r l : S16384x256.Idx) = r.val / 512 := by
    show 1 * (r.val / 512 - 0) + 1 * (l.val / 256 - 0) = _
    omega
  have hl : loc12Of (ix2 r l : S16384x256.Idx) = ix2 (⟨r.val % 512, Nat.mod_lt _ (by decide)⟩ : Fin 512) l := by
    funext a
    match a with
    | ⟨0, _⟩ => rfl
    | ⟨1, _⟩ => exact Fin.ext (Nat.mod_eq_of_lt l.isLt)
  have hlt : pt12Of (ix2 r l : S16384x256.Idx) < cfg0.N := by
    rw [hp]
    exact lt_of_lt_of_eq (by omega) N_0.symm
  unfold G12
  rw [dif_pos hlt, ← outsAt0_sweep m c _ hlt, point, hl, hp]

end Cert.KernelIdeal.Body

end
-- ==== Proof.Reals.lean ====
/-
  With real projections and angles every retention output is real, and then the kernel's averaging of a row, made in three
  parts, is the mean of each head: what follows the chunks is `final`.
-/
module

public import proofs.«01_k».proof.Proof.Values
public import proofs.«01_k».proof.Proof.Points

@[expose] public section

set_option maxRecDepth 16384

noncomputable section

namespace Cert.KernelIdeal.Values

open Idealize.ShloMosaic Idealize.ShloMosaic.TcCoe Idealize.SL.Sem Cert.KernelIdeal Cert.KernelIdeal.Gen
open Cert.KernelIdeal.Chunk Cert.KernelIdeal.Value Cert.KernelIdeal.Body Cert.KernelIdeal.Tables Cert.Decay Cert.Retention

/-- An extended real that is a real number. -/
def IsReal (x : EReal) : Prop := ∃ r : ℝ, x = (r : EReal)

theorem IsReal.coe (r : ℝ) : IsReal (r : EReal) := ⟨r, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- Real queries, keys and values keep every state and output real. -/
theorem isReal_S (k v : Arr) (hk : ∀ n h r d, IsReal (k n h r d)) (hv : ∀ n h r d, IsReal (v n h r d)) :
    ∀ n h a e, IsReal (S k v n h a e)
  | 0, _, _, _ => ⟨0, by simp [S]⟩
  | n + 1, h, a, e => ((isReal_S k v hk hv n h a e).mul (.coe _)).add
      (.sum _ _ fun j => ((hk n h j a).mul (.coe _)).mul (hv n h j e))
theorem isReal_O (q k v : Arr) (hq : ∀ n h r d, IsReal (q n h r d)) (hk : ∀ n h r d, IsReal (k n h r d))
    (hv : ∀ n h r d, IsReal (v n h r d)) (n : ℕ) (h : Fin 4) (r : Fin 128) (e : Fin 64) : IsReal (O q k v n h r e) :=
  (IsReal.sum _ _ fun j => ((IsReal.sum _ _ fun d => (hq n h r d).mul (hk n h j d)).mul (.coe _)).mul (hv n h j e)).add
    ((IsReal.sum _ _ fun d => (hq n h r d).mul (isReal_S k v hk hv n h d e)).mul (.coe _))

/-- The averaging matrix: a 64th within a head, 0 across heads. -/
def Averages (w : Fin 256 → Fin 256 → EReal) : Prop :=
  ∀ g a h d, w (own g a) (own h d) = if g = h then ((1 / 64 : ℝ) : EReal) else 0

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On a real row the averaging gives each lane its head's mean. -/
theorem av_real (f : Fin 256 → ℝ) (w : Fin 256 → Fin 256 → EReal) (hw : Averages w) (h : Fin 4) (d : Fin 64) :
    av (fun i => (f i : EReal)) w (own h d) = (∑ e : Fin 64, (f (own h e) : EReal)) * ((1 / 64 : ℝ) : EReal) := by
  have z : ∀ i, ((f i : EReal) - (f i : EReal)) = 0 := fun i => by rw [← EReal.coe_sub, sub_self, EReal.coe_zero]
  unfold av
  simp only [z, sub_zero, zero_mul, Finset.sum_const_zero, add_zero]
  rw [sum_own, sum_one h]
  · simp only [hw _ _ _ _, if_true]
    simp only [← EReal.coe_mul, ← coe_sum]
    rw [Finset.sum_mul]
  · intro g hg
    simp only [hw _ _ _ _, if_neg hg, mul_zero, Finset.sum_const_zero]

/-- The kernel's gated row is the reference's. -/
theorem pre_eq (o : Fin 4 → Fin 64 → EReal) (ho : ∀ h e, IsReal (o h e)) (row gn g : Fin 256 → EReal)
    (hr : ∀ h e, row (own h e) = o h e) (w : Fin 256 → Fin 256 → EReal) (hw : Averages w) (l : Fin 256) :
    pre row gn g w l = gated o g gn l := by
  choose f hf using ho
  have e1 : row = fun i => ((f ⟨i.val / 64, by omega⟩ ⟨i.val % 64, by omega⟩ : ℝ) : EReal) := by
    funext i
    conv_lhs => rw [own_split i]
    rw [hr, hf]
  have own1 : ∀ h d, (⟨(own h d).val / 64, by omega⟩ : Fin 4) = h := fun h d => Fin.ext (own_div h d)
  have own2 : ∀ h d, (⟨(own h d).val % 64, by omega⟩ : Fin 64) = d := fun h d => Fin.ext (own_mod h d)
  have hm : ∀ h d, av row w (own h d) = mean o h := by
    intro h d
    rw [e1, av_real _ w hw]
    unfold mean
    simp only [hf, own1, own2]
  have hc : ∀ h d, row (own h d) - av row w (own h d) = ((f h d - (∑ e, f h e) * (1 / 64) : ℝ) : EReal) := by
    intro h d
    rw [hm, hr, hf]
    unfold mean
    simp only [hf, ← coe_sum, ← EReal.coe_mul, ← EReal.coe_sub]
  have hv : ∀ h d, av (fun i => (row i - av row w i) * (row i - av row w i)) w (own h d) = var o h := by
    intro h d
    have e2 : (fun i => (row i - av row w i) * (row i - av row w i)) = fun i =>
        (((f ⟨i.val / 64, by omega⟩ ⟨i.val % 64, by omega⟩ - (∑ e, f ⟨i.val / 64, by omega⟩ e) * (1 / 64))
          * (f ⟨i.val / 64, by omega⟩ ⟨i.val % 64, by omega⟩ - (∑ e, f ⟨i.val / 64, by omega⟩ e) * (1 / 64)) : ℝ) : EReal) := by
      funext i
      conv_lhs => rw [own_split i]
      rw [hc, EReal.coe_mul]
    rw [e2, av_real _ w hw]
    unfold var mean
    simp only [hf, own1, own2, ← coe_sum, ← EReal.coe_mul, ← EReal.coe_sub]
  unfold pre gated scaled
  have hl := own_split l
  rw [show av row w l = mean o ⟨l.val / 64, by omega⟩ by conv_lhs => rw [hl, hm]]
  rw [show av (fun i => (row i - av row w i) * (row i - av row w i)) w l = var o ⟨l.val / 64, by omega⟩ by conv_lhs => rw [hl, hv]]
  rw [show row l = o ⟨l.val / 64, by omega⟩ ⟨l.val % 64, by omega⟩ by conv_lhs => rw [hl, hr]]
  rw [sub_eq_add_neg (0 : EReal), zero_add]

section
variable (m : (ℓ : Loc nD τ sig) → Buf (Elt Ideal) ℓ) (c : Dev nD)

/-- The kernel's result, entry by entry, where projections and angles are real. -/
theorem result (hx : ∀ t (l : Fin 1024), l.val < 768 → IsReal (X m c t l)) (hc : ∀ t l, IsReal (C m c t l)) (hs : ∀ t l, IsReal (N m c t l))
    (t : Fin 16384) (l : Fin 256) :
    G12 m c (ix2 t l) = final (fun h e => O (Q m c) (K m c) (W m c) (t.val / 128) h ⟨t.val % 128, by omega⟩ e)
      (fun l => X m c t ⟨768 + l.val, by omega⟩)
      (fun l => (V m c main_v0 : Vec Ideal S1x256 .f32) (ix2 0 l)) (fun l => (V m c main_v1 : Vec Ideal S1x256 .f32) (ix2 0 l)) l := by
  have hrot : ∀ p : Fin 4, p.val < 3 → ∀ n h r d, IsReal (rot (X m c) (C m c) (N m c) p n h r d) := fun p hp n h r d =>
    ((hx _ _ (by simp only [lane]; omega)).mul (hc _ _)).add ((hx _ _ (by simp only [lane, half]; omega)).mul (hs _ _))
  have hO := isReal_O (Q m c) (K m c) (W m c) (fun n h r d => (hrot 0 (by decide) n h r d).mul (.coe _)) (hrot 1 (by decide))
    (fun n h r d => hx _ _ (by simp only [lane]; show 256 * 2 + _ + _ < _; omega))
  rw [Body.result, post_apply]
  have key : ∀ i, pre (fun i => oBlk (ins m c) (t.val / 512) (ix2 (⟨t.val % 512, Nat.mod_lt _ (by decide)⟩ : Fin 512) i))
      (fun i => (ins m c).gn (ix2 0 i)) (fun i => gBlk (ins m c).x (t.val / 512) (ix2 (⟨t.val % 512, Nat.mod_lt _ (by decide)⟩ : Fin 512) i))
      (fun a b => (ins m c).avg (ix2 a b)) i
      = gated (fun h e => O (Q m c) (K m c) (W m c) (t.val / 128) h ⟨t.val % 128, by omega⟩ e)
          (fun l => X m c t ⟨768 + l.val, by omega⟩) (fun l => (V m c main_v0 : Vec Ideal S1x256 .f32) (ix2 0 l)) i := by
    intro i
    have eg : (fun i => gBlk (ins m c).x (t.val / 512) (ix2 (⟨t.val % 512, Nat.mod_lt _ (by decide)⟩ : Fin 512) i))
        = fun l : Fin 256 => X m c t ⟨768 + l.val, by omega⟩ := by
      funext i
      show (V m c main_arg0 : Vec Ideal S16384x1024 .f32) (ix2 _ _) = (V m c main_arg0 : Vec Ideal S16384x1024 .f32) (ix2 _ _)
      refine congrArg (fun z => (V m c main_arg0 : Vec Ideal S16384x1024 .f32) (ix2 z _)) (Fin.ext ?_)
      show (512 * (t.val / 512) + t.val % 512) % 16384 = t.val
      omega
    rw [eg]
    refine pre_eq (fun h e => O (Q m c) (K m c) (W m c) (t.val / 128) h ⟨t.val % 128, by omega⟩ e) (fun h e => hO _ _ _ _) _ _ _ ?_
      (fun a b => (ins m c).avg (ix2 a b)) (fun g a h d => avg_own m c g a h d) i
    intro h e
    show outAt (ins m c) (4 * (t.val / 512) + t.val % 512 / 128) (ix2 (⟨t.val % 512 % 128, _⟩ : Fin 128) (own h e)) = _
    rw [out_own]
    have a1 : 4 * (t.val / 512) + t.val % 512 / 128 = t.val / 128 := by omega
    have a2 : t.val % 512 % 128 = t.val % 128 := by omega
    simp only [a1, a2]
  simp only [key]
  rfl
end

end Cert.KernelIdeal.Values
end
-- ==== Proof.RefTables.lean ====
/-
  The reference's decay tables, entry by entry: the same real numbers.
-/
module

public import proofs.«01_k».proof.Proof.Gen.ReferenceIdeal.Step
public import proofs.«01_k».proof.Proof.Decay
public import Idealize.ShloMosaic.Lib.Pointwise
public import Idealize.ShloMosaic.Lib.Claim
public import Idealize.ShloMosaic.Lib.Tactic.CleanTypes

@[expose] public section

set_option maxRecDepth 16384

noncomputable section

namespace Cert.ReferenceIdeal.Tables

open Idealize.ShloMosaic Cert.ReferenceIdeal Cert.ReferenceIdeal.Gen Cert.ReferenceIdeal.Step Cert.Decay

/-- The logarithm of a head's decay, as the reference computes it. -/
theorem lg_apply (h : Fin 4) : (K_main_v29 : Vec Ideal S4 .f32) (ix1 h) = ((lg h : ℝ) : EReal) := by
  unfold K_main_v29 K_main_v28 K_main_v27 K_main_cst_2 K_main_v26 K_main_v25 K_main_cst_1 K_main_v24 K_main_v23 K_main_cst_0 K_main_v22
  pointwise
  rw [sitofp_nat _ (by omega)]
  rw [lit_two, lit_five, ← EReal.coe_sub]
  show Ideal.log (1 - ((Real.rpow 2 (-5 - (h.val : ℝ)) : ℝ) : EReal)) = _
  rw [← EReal.coe_one, ← EReal.coe_sub, ← log_gam]
  congr 2
  have e : Real.rpow 2 (-5 - (h.val : ℝ)) = ((2 : ℝ) ^ (5 + h.val))⁻¹ := by
    show (2 : ℝ) ^ (-5 - (h.val : ℝ)) = _
    rw [show (-5 - (h.val : ℝ)) = -((5 + h.val : ℕ) : ℝ) by push_cast; ring, Real.rpow_neg (by norm_num), Real.rpow_natCast]
  rw [e]
  fin_cases h <;> simp [gam] <;> norm_num

theorem diff_apply (r j : Fin 128) : (K_main_v35 : Vec Ideal S128x128 .f32) (ix2 r j) = (((r.val : ℝ) - (j.val : ℝ) : ℝ) : EReal) := by
  unfold K_main_v35 K_main_v34 K_main_v33 K_main_v32 K_main_v31 K_main_v30
  pointwise
  rw [sitofp_nat _ (by omega), sitofp_nat _ (by omega)]
  exact (EReal.coe_sub _ _).symm

theorem D_apply (h : Fin 4) (r j : Fin 128) : (K_main_v45 : Vec Ideal S4x128x128 .f32) (ix3 h r j) = ((D h r.val j.val : ℝ) : EReal) := by
  have hl := lg_apply h
  have hd := diff_apply r j
  unfold K_main_v45 K_main_v44 K_main_v43 K_main_v42 K_main_v41 K_main_v40 K_main_v39 K_main_v38 K_main_call1_v1 K_main_call1_v2 K_main_call0_v1 K_main_call1_v0 K_main_call0_v0 K_main_v37 K_main_v36 K_main_cst_3 K_main_cst_4 K_main_cst_5
  generalize (K_main_v35 : Vec Ideal S128x128 .f32) = A at *
  generalize (K_main_v29 : Vec Ideal S4 .f32) = B at *
  pointwise
  rw [hd, hl]
  exact D_select h r.val j.val

theorem QD_apply (h : Fin 4) (r : Fin 128) : (K_main_v54 : Vec Ideal S4x128x1 .f32) (ix3 h r 0) = ((QD h r.val : ℝ) : EReal) := by
  have hl := lg_apply h
  unfold K_main_v54 K_main_v53 K_main_v52 K_main_v51 K_main_v50 K_main_v49 K_main_v48 K_main_v47 K_main_v46 K_main_cst_6 K_main_v30
  generalize (K_main_v29 : Vec Ideal S4 .f32) = B at *
  pointwise
  rw [hl, sitofp_nat _ (by omega), ← EReal.coe_one, ← EReal.coe_add, ← EReal.coe_mul, Ideal.exp_coe]; rfl

theorem KD_apply (h : Fin 4) (r : Fin 128) : (K_main_v63 : Vec Ideal S4x128x1 .f32) (ix3 h r 0) = ((KD h r.val : ℝ) : EReal) := by
  have hl := lg_apply h
  unfold K_main_v63 K_main_v62 K_main_v61 K_main_v60 K_main_v59 K_main_v58 K_main_v57 K_main_v56 K_main_v55 K_main_cst_7 K_main_v30
  generalize (K_main_v29 : Vec Ideal S4 .f32) = B at *
  pointwise
  rw [hl, lit_127, sitofp_nat _ (by omega), ← EReal.coe_sub, ← EReal.coe_mul, Ideal.exp_coe]; rfl

theorem CD_apply (h : Fin 4) : (K_main_v67 : Vec Ideal S4x1x1 .f32) (ix3 h 0 0) = ((CD h : ℝ) : EReal) := by
  have hl := lg_apply h
  unfold K_main_v67 K_main_v66 K_main_v65 K_main_v64 K_main_cst_8
  generalize (K_main_v29 : Vec Ideal S4 .f32) = B at *
  pointwise
  rw [hl, lit_128, ← EReal.coe_mul, Ideal.exp_coe]; rfl

end Cert.ReferenceIdeal.Tables
end
-- ==== Proof.Reference.lean ====
/-
  The reference's scan, entry by entry: the states and outputs of `Retention`.
-/
module

public import proofs.«01_k».proof.Proof.RefTables
public import proofs.«01_k».proof.Proof.Trips
public import proofs.«01_k».proof.Proof.Retention
public import Idealize.ShloMosaic.Lib.Pointwise
public import Idealize.ShloMosaic.Lib.Pipeline.Value
public import Idealize.ShloMosaic.Lib.DynamicIndex
public import Idealize.ShloMosaic.Lib.Claim
public import Idealize.ShloMosaic.Lib.Tactic.CleanTypes

@[expose] public section

set_option maxRecDepth 16384

noncomputable section

namespace Cert.ReferenceIdeal.Scan

open Idealize.ShloMosaic Cert.ReferenceIdeal Cert.ReferenceIdeal.Gen Cert.ReferenceIdeal.Step Cert.Decay Cert.Retention Cert.ReferenceIdeal.Tables Cert.ReferenceIdeal.Trips Idealize.ShloMosaic.TcCoe Idealize.SL.Sem

/-- Chunk `j` lies inside the array. -/
theorem fits (j : Fin 128) : S128x4x128x64.Slices ![j.val, 0, 0, 0] S1x4x128x64 :=
  ⟨rfl, fun a => by
    have := j.isLt
    fin_cases a
    · show j.val + 1 ≤ 128; omega
    all_goals exact Nat.le_refl _⟩

theorem b4_apply (j : Fin 128) (s : State Ideal) (h : Fin 4) (r : Fin 128) (d : Fin 64) :
    (b4 j.val s : Vec Ideal S4x128x64 .f32) (ix3 h r d) = (s.main_v76_0 : Vec Ideal S128x4x128x64 .f32) (ix4 j h r d) := by
  unfold b4 b3
  generalize (s.main_v76_0 : Vec Ideal S128x4x128x64 .f32) = A
  rw [Host.dynamicSlice_eq_extractStridedSlice _ _ _ ![j.val, 0, 0, 0] _ (fits j) (fun a => by
    fin_cases a
    · exact toInt_ofNat_of_lt (by omega)
    all_goals rfl)]
  pointwise

theorem b9_apply (j : Fin 128) (s : State Ideal) (h : Fin 4) (r : Fin 128) (d : Fin 64) :
    (b9 j.val s : Vec Ideal S4x128x64 .f32) (ix3 h r d) = (s.main_v76_1 : Vec Ideal S128x4x128x64 .f32) (ix4 j h r d) := by
  unfold b9 b8
  generalize (s.main_v76_1 : Vec Ideal S128x4x128x64 .f32) = A
  rw [Host.dynamicSlice_eq_extractStridedSlice _ _ _ ![j.val, 0, 0, 0] _ (fits j) (fun a => by
    fin_cases a
    · exact toInt_ofNat_of_lt (by omega)
    all_goals rfl)]
  pointwise

theorem b14_apply (j : Fin 128) (s : State Ideal) (h : Fin 4) (r : Fin 128) (d : Fin 64) :
    (b14 j.val s : Vec Ideal S4x128x64 .f32) (ix3 h r d) = (s.main_v76_2 : Vec Ideal S128x4x128x64 .f32) (ix4 j h r d) := by
  unfold b14 b13
  generalize (s.main_v76_2 : Vec Ideal S128x4x128x64 .f32) = A
  rw [Host.dynamicSlice_eq_extractStridedSlice _ _ _ ![j.val, 0, 0, 0] _ (fits j) (fun a => by
    fin_cases a
    · exact toInt_ofNat_of_lt (by omega)
    all_goals rfl)]
  pointwise

/-- One trip's output. -/
theorem b21_apply (j : Fin 128) (s : State Ideal) (h : Fin 4) (r : Fin 128) (e : Fin 64) :
    (b21 j.val s : Vec Ideal S4x128x64 .f32) (ix3 h r e)
      = ∑ i : Fin 128, (∑ d : Fin 64, (b4 j.val s : Vec Ideal S4x128x64 .f32) (ix3 h r d) * (b9 j.val s : Vec Ideal S4x128x64 .f32) (ix3 h i d))
            * ((D h r.val i.val : ℝ) : EReal) * (b14 j.val s : Vec Ideal S4x128x64 .f32) (ix3 h i e)
          + (∑ d : Fin 64, (b4 j.val s : Vec Ideal S4x128x64 .f32) (ix3 h r d) * (s.main_v76_8 : Vec Ideal S4x64x64 .f32) (ix3 h d e))
            * ((QD h r.val : ℝ) : EReal) := by
  have h1 := D_apply
  have h2 := QD_apply
  unfold b21 b20 b19 b18 b17 b16 b15
  generalize (s.main_v76_8 : Vec Ideal S4x64x64 .f32) = A
  generalize (b4 j.val s : Vec Ideal S4x128x64 .f32) = Q
  generalize (b9 j.val s : Vec Ideal S4x128x64 .f32) = K
  generalize (b14 j.val s : Vec Ideal S4x128x64 .f32) = W
  generalize (K_main_v45 : Vec Ideal S4x128x128 .f32) = T1 at *
  generalize (K_main_v54 : Vec Ideal S4x128x1 .f32) = T2 at *
  pointwise
  simp only [h1, h2]

/-- One trip's state. -/
theorem b27_apply (j : Fin 128) (s : State Ideal) (h : Fin 4) (a : Fin 64) (e : Fin 64) :
    (b27 j.val s : Vec Ideal S4x64x64 .f32) (ix3 h a e)
      = (s.main_v76_8 : Vec Ideal S4x64x64 .f32) (ix3 h a e) * ((CD h : ℝ) : EReal)
          + ∑ i : Fin 128, (b9 j.val s : Vec Ideal S4x128x64 .f32) (ix3 h i a) * ((KD h i.val : ℝ) : EReal)
            * (b14 j.val s : Vec Ideal S4x128x64 .f32) (ix3 h i e) := by
  have h1 := CD_apply
  have h2 := KD_apply
  unfold b27 b26 b25 b24 b23 b22
  generalize (s.main_v76_8 : Vec Ideal S4x64x64 .f32) = A
  generalize (b9 j.val s : Vec Ideal S4x128x64 .f32) = K
  generalize (b14 j.val s : Vec Ideal S4x128x64 .f32) = W
  generalize (K_main_v67 : Vec Ideal S4x1x1 .f32) = T1 at *
  generalize (K_main_v63 : Vec Ideal S4x128x1 .f32) = T2 at *
  pointwise
  simp only [h1, h2]

/-- The stack of outputs after a trip: the new one in its place, the others as they were. -/
theorem b32_apply (j : Fin 128) (s : State Ideal) (n : Fin 128) (h : Fin 4) (r : Fin 128) (e : Fin 64) :
    (b32 j.val s : Vec Ideal S128x4x128x64 .f32) (ix4 n h r e)
      = if n = j then (b21 j.val s : Vec Ideal S4x128x64 .f32) (ix3 h r e)
        else (s.main_v76_9 : Vec Ideal S128x4x128x64 .f32) (ix4 n h r e) := by
  unfold b32 b28
  generalize (s.main_v76_9 : Vec Ideal S128x4x128x64 .f32) = A
  generalize (b21 j.val s : Vec Ideal S4x128x64 .f32) = Q
  rw [Host.dynamicUpdateSlice_eq_updateSlice _ _ _ _ ![j.val, 0, 0, 0] (fun a => by
    fin_cases a
    · have e : ((BitVec.ofNat 32 j.val).toInt : ℤ) = j.val := toInt_ofNat_of_lt (by omega)
      show (min (max (BitVec.ofNat 32 j.val).toInt 0) ((128 - 1 : ℕ) : ℤ)).toNat = j.val
      rw [e]; omega
    all_goals rfl) (fits j)]
  pointwise
  by_cases e : n = j
  · subst e
    rw [dif_pos ⟨le_refl _, Nat.lt_succ_self _⟩, if_pos rfl]
  · rw [dif_neg (fun ⟨a, b⟩ => e (Fin.ext (by omega))), if_neg e]

/-- Equal coordinates, equal entries. -/
theorem ix_eq {n k : ℕ} (x : Vec Ideal ⟨2, ![n, k]⟩ .f32) {a a' : Fin n} {b b' : Fin k} (ha : a.val = a'.val) (hb : b.val = b'.val) :
    x (ix2 a b) = x (ix2 a' b') := by
  cases Fin.ext ha; cases Fin.ext hb; rfl

section
variable (x : Vec Ideal S16384x1024 .f32) (cos sin : Vec Ideal S16384x256 .f32)

/-- The scanned queries. -/
theorem q_apply (n : Fin 128) (h : Fin 4) (r : Fin 128) (d : Fin 64) :
    (A_main_v70 x cos sin : Vec Ideal S128x4x128x64 .f32) (ix4 n h r d)
      = qs (fun t l => x (ix2 t l)) (fun t l => cos (ix2 t l)) (fun t l => sin (ix2 t l)) n.val h r d := by
  unfold A_main_v70 A_main_v69 A_main_v13 A_main_v11 A_main_v10 A_main_v9 A_main_v8 A_main_v7 A_main_v6 A_main_v5 A_main_v2 A_main_v1 A_main_v0 K_main_v12 K_main_cst
  pointwise
  unfold qs rot
  rw [lit_eighth]
  have hr : n.val * 128 + r.val = (128 * n.val + r.val) % 16384 := by omega
  by_cases hd : d.val < 32
  · rw [dif_pos hd]
    refine congrArg₂ HMul.hMul (congrArg₂ HAdd.hAdd (congrArg₂ HMul.hMul (ix_eq x ?_ ?_) (ix_eq cos ?_ ?_)) (congrArg₂ HMul.hMul (ix_eq x ?_ ?_) (ix_eq sin ?_ ?_))) rfl
    all_goals simp only [row, lane, own, half]
    all_goals first | exact hr | omega
  · rw [dif_neg hd]
    refine congrArg₂ HMul.hMul (congrArg₂ HAdd.hAdd (congrArg₂ HMul.hMul (ix_eq x ?_ ?_) (ix_eq cos ?_ ?_)) (congrArg₂ HMul.hMul (ix_eq x ?_ ?_) (ix_eq sin ?_ ?_))) rfl
    all_goals simp only [row, lane, own, half]
    all_goals first | exact hr | omega

/-- The scanned keys. -/
theorem k_apply (n : Fin 128) (h : Fin 4) (r : Fin 128) (d : Fin 64) :
    (A_main_v72 x cos sin : Vec Ideal S128x4x128x64 .f32) (ix4 n h r d)
      = ks (fun t l => x (ix2 t l)) (fun t l => cos (ix2 t l)) (fun t l => sin (ix2 t l)) n.val h r d := by
  unfold A_main_v72 A_main_v71 A_main_v20 A_main_v19 A_main_v18 A_main_v17 A_main_v16 A_main_v15 A_main_v14 A_main_v3 A_main_v1 A_main_v0
  pointwise
  unfold ks rot
  have hr : n.val * 128 + r.val = (128 * n.val + r.val) % 16384 := by omega
  by_cases hd : d.val < 32
  · rw [dif_pos hd]
    refine congrArg₂ HAdd.hAdd (congrArg₂ HMul.hMul (ix_eq x ?_ ?_) (ix_eq cos ?_ ?_)) (congrArg₂ HMul.hMul (ix_eq x ?_ ?_) (ix_eq sin ?_ ?_))
    all_goals simp only [row, lane, own, half]
    all_goals first | exact hr | omega
  · rw [dif_neg hd]
    refine congrArg₂ HAdd.hAdd (congrArg₂ HMul.hMul (ix_eq x ?_ ?_) (ix_eq cos ?_ ?_)) (congrArg₂ HMul.hMul (ix_eq x ?_ ?_) (ix_eq sin ?_ ?_))
    all_goals simp only [row, lane, own, half]
    all_goals first | exact hr | omega

/-- The scanned values. -/
theorem v_apply (n : Fin 128) (h : Fin 4) (r : Fin 128) (d : Fin 64) :
    (A_main_v74 x cos sin : Vec Ideal S128x4x128x64 .f32) (ix4 n h r d) = vs (fun t l => x (ix2 t l)) n.val h r d := by
  unfold A_main_v74 A_main_v73 A_main_v21 A_main_v4
  pointwise
  unfold vs
  refine ix_eq x ?_ ?_
  all_goals simp only [row, lane]
  all_goals omega
end

/-- The result, from the scan's outputs. -/
theorem out_apply (s : State Ideal) (x : Vec Ideal S16384x1024 .f32) (gn bn : Vec Ideal S256 .f32) (t : Fin 16384) (l : Fin 256) :
    (R_main_v117 s x gn bn : Vec Ideal S16384x256 .bf16) (ix2 t l)
      = final (fun h e => (s.main_v76_9 : Vec Ideal S128x4x128x64 .f32) (ix4 ⟨t.val / 128, by omega⟩ h ⟨t.val % 128, by omega⟩ e))
          (fun l => x (ix2 t ⟨768 + l.val, by omega⟩)) (fun l => gn (ix1 l)) (fun l => bn (ix1 l)) l := by
  unfold R_main_v117
  generalize (s.main_v76_9 : Vec Ideal S128x4x128x64 .f32) = A
  pointwise
  simp only [lit_64, lit_256, Ideal.div_coe (by norm_num : (64 : ℝ) ≠ 0), Ideal.div_coe (by norm_num : (256 : ℝ) ≠ 0)]
  rfl

section
variable (m : (ℓ : Loc nD τ sig) → Buf (Elt Ideal) ℓ) (c : Dev nD)

/-- The argument arrays by row and column. -/
abbrev X : Fin 16384 → Fin 1024 → EReal := fun t l => (m ((c.tc : Thread nD τ).loc main_arg0) : Vec Ideal S16384x1024 .f32) (ix2 t l)
abbrev C : Fin 16384 → Fin 256 → EReal := fun t l => (m ((c.tc : Thread nD τ).loc main_arg1) : Vec Ideal S16384x256 .f32) (ix2 t l)
abbrev N : Fin 16384 → Fin 256 → EReal := fun t l => (m ((c.tc : Thread nD τ).loc main_arg2) : Vec Ideal S16384x256 .f32) (ix2 t l)
abbrev Q : Arr := qs (X m c) (C m c) (N m c)
abbrev K : Arr := ks (X m c) (C m c) (N m c)
abbrev W : Arr := vs (X m c)

/-- No trip changes the scanned arrays. -/
theorem it_scanned : ∀ n, (it m c n).main_v76_0 = (start m c).main_v76_0 ∧ (it m c n).main_v76_1 = (start m c).main_v76_1
    ∧ (it m c n).main_v76_2 = (start m c).main_v76_2
  | 0 => ⟨rfl, rfl, rfl⟩
  | n + 1 => it_scanned n

theorem it_q (n j : ℕ) (hj : j < 128) (h : Fin 4) (r : Fin 128) (d : Fin 64) :
    (b4 j (it m c n) : Vec Ideal S4x128x64 .f32) (ix3 h r d) = Q m c j h r d := by
  refine (b4_apply ⟨j, hj⟩ (it m c n) h r d).trans ?_
  rw [(it_scanned m c n).1]
  exact q_apply _ _ _ ⟨j, hj⟩ h r d
theorem it_k (n j : ℕ) (hj : j < 128) (h : Fin 4) (r : Fin 128) (d : Fin 64) :
    (b9 j (it m c n) : Vec Ideal S4x128x64 .f32) (ix3 h r d) = K m c j h r d := by
  refine (b9_apply ⟨j, hj⟩ (it m c n) h r d).trans ?_
  rw [(it_scanned m c n).2.1]
  exact k_apply _ _ _ ⟨j, hj⟩ h r d
theorem it_v (n j : ℕ) (hj : j < 128) (h : Fin 4) (r : Fin 128) (d : Fin 64) :
    (b14 j (it m c n) : Vec Ideal S4x128x64 .f32) (ix3 h r d) = W m c j h r d := by
  refine (b14_apply ⟨j, hj⟩ (it m c n) h r d).trans ?_
  rw [(it_scanned m c n).2.2]
  exact v_apply _ (m ((c.tc : Thread nD τ).loc main_arg1)) (m ((c.tc : Thread nD τ).loc main_arg2)) ⟨j, hj⟩ h r d

/-- The states of the scan. -/
theorem it_state : ∀ n ≤ 128, ∀ (h : Fin 4) (a e : Fin 64),
    ((it m c n).main_v76_8 : Vec Ideal S4x64x64 .f32) (ix3 h a e) = S (K m c) (W m c) n h a e
  | 0, _, h, a, e => by
    show (K_main_v68 (F := Ideal) : Vec Ideal S4x64x64 .f32) (ix3 h a e) = 0
    unfold K_main_v68 K_main_cst_9
    pointwise
  | n + 1, hn, h, a, e => by
    show (b27 n (it m c n) : Vec Ideal S4x64x64 .f32) (ix3 h a e) = _
    refine (b27_apply ⟨n, hn⟩ (it m c n) h a e).trans ?_
    rw [it_state n (by omega)]
    simp only [it_k m c n n hn, it_v m c n n hn]
    rfl

/-- The outputs stacked so far. -/
theorem it_out : ∀ N ≤ 128, ∀ (n : Fin 128), n.val < N → ∀ (h : Fin 4) (r : Fin 128) (e : Fin 64),
    ((it m c N).main_v76_9 : Vec Ideal S128x4x128x64 .f32) (ix4 n h r e) = O (Q m c) (K m c) (W m c) n.val h r e
  | 0, _, n, hn, _, _, _ => absurd hn (Nat.not_lt_zero _)
  | N + 1, hN, n, hn, h, r, e => by
    show (b32 N (it m c N) : Vec Ideal S128x4x128x64 .f32) (ix4 n h r e) = _
    refine (b32_apply ⟨N, hN⟩ (it m c N) n h r e).trans ?_
    by_cases en : n = ⟨N, hN⟩
    · rw [if_pos en, b21_apply]
      simp only [it_q m c N N hN, it_k m c N N hN, it_v m c N N hN, it_state m c N (by omega)]
      rw [en]
      rfl
    · rw [if_neg en]
      exact it_out N (by omega) n (by
        have : n.val ≠ N := fun q => en (Fin.ext q)
        omega) h r e

/-- The reference's result. -/
theorem result (gn bn : Vec Ideal S256 .f32) (t : Fin 16384) (l : Fin 256) :
    (R_main_v117 (it m c 128) (m ((c.tc : Thread nD τ).loc main_arg0)) gn bn : Vec Ideal S16384x256 .bf16) (ix2 t l)
      = final (fun h e => O (Q m c) (K m c) (W m c) (t.val / 128) h ⟨t.val % 128, by omega⟩ e)
          (fun l => X m c t ⟨768 + l.val, by omega⟩) (fun l => gn (ix1 l)) (fun l => bn (ix1 l)) l := by
  rw [out_apply]
  simp only [it_out m c 128 (le_refl _) ⟨t.val / 128, by omega⟩ (by show t.val / 128 < 128; omega)]
end

end Cert.ReferenceIdeal.Scan
end
-- ==== Proof.Equation.lean ====
/-
  The two programs leave the same array: both results are `final` of the same retention outputs.
-/
module

public import proofs.«01_k».proof.Defs
public import proofs.«01_k».proof.Proof.Reals
public import proofs.«01_k».proof.Proof.Reference
public import Idealize.ShloMosaic.Lib.StableHlo.RunRead

@[expose] public section

set_option maxRecDepth 16384

noncomputable section

namespace Cert.Equation

open Idealize.ShloMosaic Idealize.ShloMosaic.TcCoe Idealize.SL.Sem Cert.KernelIdeal Cert.KernelIdeal.Gen
open Cert.KernelIdeal.Value Cert.KernelIdeal.Values

/-- The side conditions of the precondition's own operations. -/
theorem preFacts : Cert.Pre_finite.Facts where
  slices_S16384x1024_S16384x768_0_0 := by decide
  bcast_S_S16384x768 := by decide
  bcast_S_S16384x256 := by decide

/-- A number whose absolute value is below infinity is real. -/
theorem real_of_lt (x : EReal)
    (h : BitVec.ofBool (decide (FloatOps.absf (F := Ideal) (φ := .f32) x < Ideal.ofBits FTy.f32 2139095040#32)) = 1#1) : IsReal x := by
  have inf : Ideal.ofBits FTy.f32 2139095040#32 = (⊤ : EReal) := by simp [Ideal.ofBits, Ideal.ieee]
  have ha : FloatOps.absf (F := Ideal) (φ := .f32) x = max x (-x) := rfl
  rw [inf, ha] at h
  have hlt : max x (-x) < ⊤ := by
    by_contra hn
    rw [decide_eq_false hn] at h
    exact absurd h (by decide)
  induction x with
  | bot => simp at hlt
  | top => simp at hlt
  | coe r => exact ⟨r, rfl⟩

section
variable (m : (ℓ : Loc nD τ sig) → Buf (Elt Ideal) ℓ) (c : Dev nD)

/-- The rows of scales are the last two arguments. -/
theorem gn_apply (l : Fin 256) : (V m c main_v0 : Vec Ideal S1x256 .f32) (ix2 0 l)
    = (m ((c : Thread nD τ).loc main_arg3) : Vec Ideal S256 .f32) (ix1 l) := by
  dsimp only [V]
  after_reads_simp
  pointwise
theorem bn_apply (l : Fin 256) : (V m c main_v1 : Vec Ideal S1x256 .f32) (ix2 0 l)
    = (m ((c : Thread nD τ).loc main_arg4) : Vec Ideal S256 .f32) (ix1 l) := by
  dsimp only [V]
  after_reads_simp
  pointwise

/-- The precondition, entry by entry: queries, keys and values are real, and so are the angles' cosines and sines. -/
theorem pre_x (h : @Cert.Pre_KernelIdeal_finite preFacts m) (t : Fin 16384) (l : Fin 1024) (hl : l.val < 768) : IsReal (X m c t l) := by
  have e := congrFun (h c).1 (ix2 t (⟨l.val, hl⟩ : Fin 768))
  unfold Cert.Pre_finite.fn at e
  revert e
  pointwise
  intro e
  have := real_of_lt _ e
  rw [← V_main_arg0 m c] at this
  exact this
theorem pre_cos (h : @Cert.Pre_KernelIdeal_finite preFacts m) (t : Fin 16384) (l : Fin 256) : IsReal (C m c t l) := by
  have e := congrFun (h c).2.1 (ix2 t l)
  unfold Cert.Pre_finite.fn at e
  revert e
  pointwise
  intro e
  have := real_of_lt _ e
  rw [← V_main_arg1 m c] at this
  exact this
theorem pre_sin (h : @Cert.Pre_KernelIdeal_finite preFacts m) (t : Fin 16384) (l : Fin 256) : IsReal (N m c t l) := by
  have e := congrFun (h c).2.2 (ix2 t l)
  unfold Cert.Pre_finite.fn at e
  revert e
  pointwise
  intro e
  have := real_of_lt _ e
  rw [← V_main_arg2 m c] at this
  exact this
end

/-- Equal arguments, equal results. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h : @Cert.Pre_KernelIdeal_finite preFacts m)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    (Cert.ReferenceIdeal.Step.R_main_v117 (Cert.ReferenceIdeal.Trips.it m' c 128)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) : Vec Ideal S16384x256 .bf16)
      = G12 m c := by
  funext j
  obtain ⟨t, l, rfl⟩ : ∃ (t : Fin 16384) (l : Fin 256), j = ix2 t l := ⟨j 0, j 1, by funext a; match a with | ⟨0, _⟩ => rfl | ⟨1, _⟩ => rfl⟩
  rw [result m c (pre_x m c h) (pre_cos m c h) (pre_sin m c h)]
  refine (Cert.ReferenceIdeal.Scan.result m' c _ _ t l).trans ?_
  have eX : Cert.ReferenceIdeal.Scan.X m' c = X m c := by
    funext t l
    dsimp only [Cert.ReferenceIdeal.Scan.X, X]
    rw [h0, V_main_arg0]
  have eC : Cert.ReferenceIdeal.Scan.C m' c = C m c := by
    funext t l
    dsimp only [Cert.ReferenceIdeal.Scan.C, C]
    rw [h1, V_main_arg1]
  have eN : Cert.ReferenceIdeal.Scan.N m' c = N m c := by
    funext t l
    dsimp only [Cert.ReferenceIdeal.Scan.N, N]
    rw [h2, V_main_arg2]
  dsimp only [Cert.ReferenceIdeal.Scan.Q, Cert.ReferenceIdeal.Scan.K, Cert.ReferenceIdeal.Scan.W]
  rw [eX, eC, eN, h3, h4]
  have e3 := funext (gn_apply m c)
  have e4 := funext (bn_apply m c)
  rw [e3, e4]

end Cert.Equation
end
-- ==== Proof.Rows.lean ====
/-
  A row of activations: its root-mean-square normalisation and the gated projection that is added to it.
-/
module

public import Idealize.ShloMosaic.Lib.Pointwise

@[expose] public section

noncomputable section

namespace Cert.Rows

open Idealize.ShloMosaic

/-- The reciprocal root mean square of a row of 1024 numbers. -/
def scale (x : Fin 1024 → EReal) : EReal :=
  Ideal.rsqrt (Ideal.div (∑ i, x i * x i) (Ideal.ofBits .f32 0x44800000#32) + Ideal.ofBits .f32 0x358637BD#32)

/-- The row normalised, with a gain at each place. -/
def normed (x g : Fin 1024 → EReal) (k : Fin 1024) : EReal := x k * scale x * g k

/-- The row times a matrix's column `l`. -/
def dot {n k : ℕ} (x : Fin n → EReal) (w : Fin n → Fin k → EReal) (l : Fin k) : EReal := ∑ i, x i * w i l

/-- The logistic function. -/
def sigmoid (x : EReal) : EReal :=
  Ideal.div (Ideal.ofBits .f32 0x3F800000#32) (Ideal.ofBits .f32 0x3F800000#32 + Ideal.exp (-x))

/-- The row with the projection of its embedding added, gated by the normalised row. -/
def gated (x g : Fin 1024 → EReal) (wg : Fin 1024 → Fin 1024 → EReal) (p : Fin 256 → EReal)
    (wp : Fin 256 → Fin 1024 → EReal) (l : Fin 1024) : EReal :=
  x l + dot p wp l * sigmoid (dot (normed x g) wg l)

theorem gated_congr {x x' g g' : Fin 1024 → EReal} {wg wg' : Fin 1024 → Fin 1024 → EReal} {p p' : Fin 256 → EReal}
    {wp wp' : Fin 256 → Fin 1024 → EReal} (l : Fin 1024) (hx : ∀ k, x k = x' k) (hg : ∀ k, g k = g' k)
    (hwg : ∀ k l, wg k l = wg' k l) (hp : ∀ k, p k = p' k) (hwp : ∀ k l, wp k l = wp' k l) :
    gated x g wg p wp l = gated x' g' wg' p' wp' l := by
  rw [funext hx, funext hg, funext fun k => funext (hwg k), funext hp, funext fun k => funext (hwp k)]

/-- Place `k` of part `j` of a row of four parts. -/
def part (j : Fin 4) (k : Fin 256) : Fin 1024 := ⟨256 * j.val + k.val, by omega⟩

/-- A sum over a row, part by part. -/
theorem sum_part (f : Fin 1024 → EReal) : ∑ l, f l = ∑ j : Fin 4, ∑ k : Fin 256, f (part j k) := by
  rw [← Fintype.sum_prod_type']
  exact (Fintype.sum_equiv (finProdFinEquiv (m := 4) (n := 256)) (fun p => f (part p.1 p.2)) f (fun p =>
    congrArg f (Fin.ext (by show 256 * _ + _ = _ + 256 * _; omega)))).symm

/-- A number with the products of four branches and the parts of a column added. -/
def mixed (h : EReal) (a b c d : Fin 256 → EReal) (w : Fin 1024 → EReal) : EReal :=
  h + (∑ k, a k * w (part 0 k)) + (∑ k, b k * w (part 1 k)) + (∑ k, c k * w (part 2 k)) + ∑ k, d k * w (part 3 k)

theorem mixed_congr {h h' : EReal} {a a' b b' c c' d d' : Fin 256 → EReal} {w w' : Fin 1024 → EReal} (eh : h = h')
    (ea : ∀ k, a k = a' k) (eb : ∀ k, b k = b' k) (ec : ∀ k, c k = c' k) (ed : ∀ k, d k = d' k) (ew : ∀ k, w k = w' k) :
    mixed h a b c d w = mixed h' a' b' c' d' w' := by
  rw [eh, funext ea, funext eb, funext ec, funext ed, funext ew]

/-- The branches side by side times the column. -/
theorem mixed_eq (h : EReal) (a b c d : Fin 256 → EReal) (w y : Fin 1024 → EReal) (ha : ∀ k, y (part 0 k) = a k)
    (hb : ∀ k, y (part 1 k) = b k) (hc : ∀ k, y (part 2 k) = c k) (hd : ∀ k, y (part 3 k) = d k) :
    h + ∑ k, y k * w k = mixed h a b c d w := by
  rw [sum_part, Fin.sum_univ_four]
  simp only [ha, hb, hc, hd, mixed, add_assoc]

theorem sum_scaled (a b b' : Fin 1024 → EReal) (h : ∀ x, b' x = b x) : ∑ x, a x * b x = ∑ x, a x * b' x := by
  rw [funext h]

theorem sum_zeros (a b : Fin 1024 → EReal) (h : ∀ x, b x = 0) : 0 = ∑ x, a x * b x := by
  simp only [h, mul_zero, Finset.sum_const_zero]

end Cert.Rows

end
-- ==== Proof.InProj.lean ====
/-
  The combined input projection: what each grid point leaves, and the four whole arrays.
-/
module

public import proofs.«01_k».proof.Proof.Gen.Kernel2Ideal.Value
public import proofs.«01_k».proof.Proof.Rows
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.InProj

open Idealize.ShloMosaic Idealize.ShloMosaic.TcCoe Idealize.SL.Sem Cert.Kernel2Ideal Cert.Kernel2Ideal.Gen Cert.Kernel2Ideal.Value
open Cert.Rows

/-- Column `o + l` of the widened matrix. -/
def col (o : ℕ) {n : ℕ} (h : o + n ≤ 2944) (l : Fin n) : Fin 2944 := ⟨o + l.val, by omega⟩

theorem out3_eq (x0 : Vec Ideal S256x1024 .f32) (x1 : Vec Ideal S1x1024 .f32) (x2 : Vec Ideal S1024x2944 .bf16) :
    out0_3 x0 x1 x2 = k0_pay2 x0 x1 (View.ld x2 r0_2) := by
  unfold out0_3
  rw [View.canon_unit_zero (by decide), View.ld_unit_zero (by decide), View.ld_unit_zero (by decide)]

theorem weights3 (x2 : Vec Ideal S1024x2944 .bf16) (k : Fin 1024) (l : Fin 1024) :
    View.ld x2 r0_2 (ix2 k l) = x2 (ix2 k (col 0 (by decide) l)) := by
  pointwise
  refine congrArg x2 ?_
  blk_ext
  show _ = 0 + l.val
  omega

/-- The payload at a place. -/
theorem pay3_apply (x0 : Vec Ideal S256x1024 .f32) (x1 : Vec Ideal S1x1024 .f32) (x2 : Vec Ideal S1024x2944 .bf16)
    (r : Fin 256) (l : Fin 1024) :
    k0_pay2 x0 x1 (View.ld x2 r0_2) (ix2 r l)
      = dot (normed (fun k => x0 (ix2 r k)) (fun k => x1 (ix2 (0 : Fin 1) k))) (fun k l => x2 (ix2 k l)) (col 0 (by decide) l) := by
  unfold dot
  simp only [← weights3]
  generalize View.ld x2 r0_2 = w0
  pointwise [k0_pay2, k0_pay1, normed, scale]

theorem out4_eq (x0 : Vec Ideal S256x1024 .f32) (x1 : Vec Ideal S1x1024 .f32) (x2 : Vec Ideal S1024x2944 .bf16) :
    out0_4 x0 x1 x2 = k0_pay3 x0 x1 (View.ld x2 r0_3) := by
  unfold out0_4
  rw [View.canon_unit_zero (by decide), View.ld_unit_zero (by decide), View.ld_unit_zero (by decide)]

theorem weights4 (x2 : Vec Ideal S1024x2944 .bf16) (k : Fin 1024) (l : Fin 512) :
    View.ld x2 r0_3 (ix2 k l) = x2 (ix2 k (col 1024 (by decide) l)) := by
  pointwise
  refine congrArg x2 ?_
  blk_ext
  show _ = 1024 + l.val
  omega

/-- The payload at a place. -/
theorem pay4_apply (x0 : Vec Ideal S256x1024 .f32) (x1 : Vec Ideal S1x1024 .f32) (x2 : Vec Ideal S1024x2944 .bf16)
    (r : Fin 256) (l : Fin 512) :
    k0_pay3 x0 x1 (View.ld x2 r0_3) (ix2 r l)
      = dot (normed (fun k => x0 (ix2 r k)) (fun k => x1 (ix2 (0 : Fin 1) k))) (fun k l => x2 (ix2 k l)) (col 1024 (by decide) l) := by
  unfold dot
  simp only [← weights4]
  generalize View.ld x2 r0_3 = w0
  pointwise [k0_pay3, k0_pay1, normed, scale]

theorem out5_eq (x0 : Vec Ideal S256x1024 .f32) (x1 : Vec Ideal S1x1024 .f32) (x2 : Vec Ideal S1024x2944 .bf16) :
    out0_5 x0 x1 x2 = k0_pay4 x0 x1 (View.ld x2 r0_5) := by
  unfold out0_5
  rw [View.canon_unit_zero (by decide), View.ld_unit_zero (by decide), View.ld_unit_zero (by decide)]

theorem weights5 (x2 : Vec Ideal S1024x2944 .bf16) (k : Fin 1024) (l : Fin 256) :
    View.ld x2 r0_5 (ix2 k l) = x2 (ix2 k (col 1536 (by decide) l)) := by
  pointwise
  refine congrArg x2 ?_
  blk_ext
  show _ = 1536 + l.val
  omega

/-- The payload at a place. -/
theorem pay5_apply (x0 : Vec Ideal S256x1024 .f32) (x1 : Vec Ideal S1x1024 .f32) (x2 : Vec Ideal S1024x2944 .bf16)
    (r : Fin 256) (l : Fin 256) :
    k0_pay4 x0 x1 (View.ld x2 r0_5) (ix2 r l)
      = dot (normed (fun k => x0 (ix2 r k)) (fun k => x1 (ix2 (0 : Fin 1) k))) (fun k l => x2 (ix2 k l)) (col 1536 (by decide) l) := by
  unfold dot
  simp only [← weights5]
  generalize View.ld x2 r0_5 = w0
  pointwise [k0_pay4, k0_pay1, normed, scale]

theorem out6_eq (x0 : Vec Ideal S256x1024 .f32) (x1 : Vec Ideal S1x1024 .f32) (x2 : Vec Ideal S1024x2944 .bf16) :
    out0_6 x0 x1 x2 = k0_pay5 x0 x1 (View.ld x2 r0_7) := by
  unfold out0_6
  rw [View.canon_unit_zero (by decide), View.ld_unit_zero (by decide), View.ld_unit_zero (by decide)]

theorem weights6 (x2 : Vec Ideal S1024x2944 .bf16) (k : Fin 1024) (l : Fin 1152) :
    View.ld x2 r0_7 (ix2 k l) = x2 (ix2 k (col 1792 (by decide) l)) := by
  pointwise
  refine congrArg x2 ?_
  blk_ext
  show _ = 1792 + l.val
  omega

/-- The payload at a place. -/
theorem pay6_apply (x0 : Vec Ideal S256x1024 .f32) (x1 : Vec Ideal S1x1024 .f32) (x2 : Vec Ideal S1024x2944 .bf16)
    (r : Fin 256) (l : Fin 1152) :
    k0_pay5 x0 x1 (View.ld x2 r0_7) (ix2 r l)
      = dot (normed (fun k => x0 (ix2 r k)) (fun k => x1 (ix2 (0 : Fin 1) k))) (fun k l => x2 (ix2 k l)) (col 1792 (by decide) l) := by
  unfold dot
  simp only [← weights6]
  generalize View.ld x2 r0_7 = w0
  pointwise [k0_pay5, k0_pay1, normed, scale]

variable (m : (ℓ : Loc nD τ sig) → Buf (Elt Ideal) ℓ)

theorem idx : ∀ t : Fin cfg0.N, (win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0])
    ∧ t.val < 64 :=
  (by decide +kernel : ∀ t : Fin grid0.N, _)

theorem blk0 (c : Dev nD) (t : Fin cfg0.N) : iblk m c 0 t = fun j : S256x1024.Idx =>
    m ((c : Thread nD τ).loc main_arg0) (ix2 ⟨(256 * t.val + (j 0).val) % 16384, Nat.mod_lt _ (by decide)⟩ (j 1)) := by
  have hN := (idx t).2
  have hi := (idx t).1.1
  rw [← V_main_arg0 m c]
  generalize hV : V m c = W
  funext j
  blk_simp [iblk, hi]
  rw [hV]
  refine congrArg _ ?_
  blk_ext [hi]

theorem blk1 (c : Dev nD) (t : Fin cfg0.N) : iblk m c 1 t = V m c main_v0 := by
  have hi := (idx t).1.2.1
  generalize hV : V m c = W
  funext j
  blk_simp [iblk, hi]
  rw [hV]
  refine congrArg _ ?_
  blk_ext [hi]

theorem blk2 (c : Dev nD) (t : Fin cfg0.N) : iblk m c 2 t = V m c main_v6 := by
  have hi := (idx t).1.2.2.1
  generalize hV : V m c = W
  funext j
  blk_simp [iblk, hi]
  rw [hV]
  refine congrArg _ ?_
  blk_ext [hi]

/-- The gain as the kernel holds it. -/
theorem gain (c : Dev nD) (k : Fin 1024) : (V m c main_v0 : Vec Ideal S1x1024 .f32) (ix2 (0 : Fin 1) k)
    = m ((c : Thread nD τ).loc main_arg1) (ix1 k) := by
  dsimp only [V]; after_reads_simp; pointwise

/-- The matrix with DeltaNet's gate columns before its eight scalar columns, and 120 zero columns. -/
def widened (w : Vec Ideal S1024x2824 .f32) (k : Fin 1024) (l : Fin 2944) : EReal :=
  if h : l.val < 2560 then w (ix2 k ⟨l.val, by omega⟩)
  else if h : l.val - 2560 < 256 then w (ix2 k ⟨2568 + (l.val - 2560), by omega⟩)
  else if h : l.val - 2560 - 256 < 8 then w (ix2 k ⟨2560 + (l.val - 2560 - 256), by omega⟩)
  else 0

theorem widened_low (w : Vec Ideal S1024x2824 .f32) (k : Fin 1024) {l : Fin 2944} {j : Fin 2824} (h : l.val < 2560)
    (e : j.val = l.val) : widened w k l = w (ix2 k j) := by
  unfold widened
  rw [dif_pos h]
  exact congrArg (fun z => w (ix2 k z)) (Fin.ext e.symm)

theorem widened_gate (w : Vec Ideal S1024x2824 .f32) (k : Fin 1024) {l : Fin 2944} {j : Fin 2824} (h : 2560 ≤ l.val)
    (h' : l.val < 2816) (e : j.val = l.val + 8) : widened w k l = w (ix2 k j) := by
  unfold widened
  rw [dif_neg (by omega : ¬ l.val < 2560), dif_pos (by omega : l.val - 2560 < 256)]
  exact congrArg (fun z => w (ix2 k z)) (Fin.ext (by dsimp only; omega))

theorem widened_scalar (w : Vec Ideal S1024x2824 .f32) (k : Fin 1024) {l : Fin 2944} {j : Fin 2824} (h : 2816 ≤ l.val)
    (h' : l.val < 2824) (e : j.val = l.val - 256) : widened w k l = w (ix2 k j) := by
  unfold widened
  rw [dif_neg (by omega : ¬ l.val < 2560), dif_neg (by omega : ¬ l.val - 2560 < 256), dif_pos (by omega : l.val - 2560 - 256 < 8)]
  exact congrArg (fun z => w (ix2 k z)) (Fin.ext (by dsimp only; omega))

theorem widened_zero (w : Vec Ideal S1024x2824 .f32) (k : Fin 1024) {l : Fin 2944} (h : 2824 ≤ l.val) : widened w k l = 0 := by
  unfold widened
  rw [dif_neg (by omega : ¬ l.val < 2560), dif_neg (by omega : ¬ l.val - 2560 < 256),
    dif_neg (by omega : ¬ l.val - 2560 - 256 < 8)]

theorem weights (c : Dev nD) (k : Fin 1024) (l : Fin 2944) : (V m c main_v6 : Vec Ideal S1024x2944 .bf16) (ix2 k l)
    = widened (m ((c : Thread nD τ).loc main_arg2)) k l := by
  dsimp only [V]; after_reads_simp; pointwise
  after_reads_simp
  pointwise
  rfl

theorem proj_congr {x x' g g' : Fin 1024 → EReal} {w w' : Fin 1024 → Fin 2944 → EReal} {l l' : Fin 2944} (hx : ∀ k, x k = x' k)
    (hg : ∀ k, g k = g' k) (hw : ∀ k l, w k l = w' k l) (hl : l = l') :
    dot (normed x g) w l = dot (normed x' g') w' l' := by
  rw [funext hx, funext hg, funext fun k => funext (hw k), hl]

/-- The rows, normalised, times the widened matrix: column `l`. -/
def proj (x : Vec Ideal S16384x1024 .f32) (g : Vec Ideal S1024 .f32) (w : Vec Ideal S1024x2824 .f32) (r : Fin 16384)
    (l : Fin 2944) : EReal :=
  dot (normed (fun k => x (ix2 r k)) (fun k => g (ix1 k))) (widened w) l

/-! The columns 0 … 1023. -/

/-- Every block of rows is some point's to write. -/
theorem onto3 (q : Fin 64) : ∃ t : Fin cfg0.N, (cfg0.win 3).flush t = true ∧ win0_3.index t = ![q.val, 0] :=
  ⟨⟨q.val, lt_of_lt_of_eq q.isLt N_0.symm⟩, (by decide +kernel : ∀ q : Fin 64,
    win0_3.flush (⟨q.val, lt_of_lt_of_eq q.isLt N_0.symm⟩ : Fin grid0.N) = true
      ∧ win0_3.index (⟨q.val, lt_of_lt_of_eq q.isLt N_0.symm⟩ : Fin grid0.N) = ![q.val, 0]) q⟩

def target3 (x : Vec Ideal S16384x1024 .f32) (g : Vec Ideal S1024 .f32) (w : Vec Ideal S1024x2824 .f32) :
    Vec Ideal S16384x1024 .f32 := fun i => proj x g w (i 0) (col 0 (n := 1024) (by decide) (i 1))

def G3 (c : Dev nD) : Vec Ideal S16384x1024 .f32 :=
  target3 (m ((c : Thread nD τ).loc main_arg0)) (m ((c : Thread nD τ).loc main_arg1)) (m ((c : Thread nD τ).loc main_arg2))

theorem G3_apply (c : Dev nD) (a : Fin 16384) (b : Fin 1024) : G3 m c (ix2 a b)
    = dot (normed (fun k => m ((c : Thread nD τ).loc main_arg0) (ix2 a k)) (fun k => m ((c : Thread nD τ).loc main_arg1) (ix1 k)))
        (widened (m ((c : Thread nD τ).loc main_arg2))) (col 0 (by decide) b) := rfl

theorem flushed3_eq (c : Dev nD) (t : Fin cfg0.N) :
    (dats m 0 c).flushed 3 t = ((cfg0.win 3).blk t).view.read (Elt Ideal) (G3 m c) := by
  have hN := (idx t).2
  have hi := (idx t).1.2.2.2.1
  rw [flushed3, out3_eq, blk0, blk1, blk2]
  funext y
  have hy0 : (y 0).val < 256 := (y 0).isLt
  have hb0 : (((cfg0.win 3).blk t).view.emb y 0).val = win0_3.index t (0 : Fin 2) * 256 + 1 * (y 0).val := rfl
  have hb1 : (((cfg0.win 3).blk t).view.emb y 1).val = win0_3.index t (1 : Fin 2) * 1024 + 1 * (y 1).val := rfl
  rw [hi] at hb0 hb1
  have e0 : ((cfg0.win 3).blk t).view.emb y 0
      = (⟨(256 * t.val + (y 0).val) % 16384, Nat.mod_lt _ (by decide)⟩ : Fin 16384) :=
    Fin.ext (hb0.trans (by show t.val * 256 + 1 * (y 0).val = (256 * t.val + (y 0).val) % 16384; omega))
  have e1 : ((cfg0.win 3).blk t).view.emb y 1 = (⟨(y 1).val, (y 1).isLt⟩ : Fin 1024) :=
    Fin.ext (hb1.trans (by show 0 * 1024 + 1 * (y 1).val = (y 1).val; omega))
  have hx : (cfg0.win 3).xinj (grid0.coords t) y = ix2 (⟨(y 0).val, hy0⟩ : Fin 256) (⟨(y 1).val, (y 1).isLt⟩ : Fin 1024) := by
    funext a; match a with
    | ⟨0, _⟩ => rfl
    | ⟨1, _⟩ => rfl
  refine (congrArg (k0_pay2 (F := Ideal) _ _ _) hx).trans ((pay3_apply _ _ _ _ _).trans ?_)
  refine Eq.trans ?_ (congrArg₂ (fun (a : Fin 16384) (b : Fin 1024) => G3 m c (ix2 a b)) e0 e1).symm
  refine Eq.trans ?_ (G3_apply m c _ _).symm
  exact proj_congr (fun _ => rfl) (gain m c) (weights m c) rfl

theorem mem_blk3 (t : Fin cfg0.N) (i : S16384x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v7_0).slice (win0_3.rect t)).set ↔ _
  rw [View.set_slice_whole, Rect.mem_set_unit]
  exact Iff.rfl

theorem covered3 (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, hf, ht⟩ := onto3 ⟨(i 0).val / 256, by omega⟩
  refine ⟨t, hf, ?_⟩
  rw [mem_blk3, ht]
  intro a
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

/-- The array after the run. -/
theorem final3 (c : Dev nD) : (dats m 0 c).arrAt 3 cfg0.N = G3 m c :=
  (dats m 0 c).arrAt_eq_of_cover 3 _ (fun t _ => flushed3_eq m c t) covered3

/-! The columns 1024 … 1535. -/

/-- Every block of rows is some point's to write. -/
theorem onto4 (q : Fin 64) : ∃ t : Fin cfg0.N, (cfg0.win 4).flush t = true ∧ win0_4.index t = ![q.val, 0] :=
  ⟨⟨q.val, lt_of_lt_of_eq q.isLt N_0.symm⟩, (by decide +kernel : ∀ q : Fin 64,
    win0_4.flush (⟨q.val, lt_of_lt_of_eq q.isLt N_0.symm⟩ : Fin grid0.N) = true
      ∧ win0_4.index (⟨q.val, lt_of_lt_of_eq q.isLt N_0.symm⟩ : Fin grid0.N) = ![q.val, 0]) q⟩

def target4 (x : Vec Ideal S16384x1024 .f32) (g : Vec Ideal S1024 .f32) (w : Vec Ideal S1024x2824 .f32) :
    Vec Ideal S16384x512 .f32 := fun i => proj x g w (i 0) (col 1024 (n := 512) (by decide) (i 1))

def G4 (c : Dev nD) : Vec Ideal S16384x512 .f32 :=
  target4 (m ((c : Thread nD τ).loc main_arg0)) (m ((c : Thread nD τ).loc main_arg1)) (m ((c : Thread nD τ).loc main_arg2))

theorem G4_apply (c : Dev nD) (a : Fin 16384) (b : Fin 512) : G4 m c (ix2 a b)
    = dot (normed (fun k => m ((c : Thread nD τ).loc main_arg0) (ix2 a k)) (fun k => m ((c : Thread nD τ).loc main_arg1) (ix1 k)))
        (widened (m ((c : Thread nD τ).loc main_arg2))) (col 1024 (by decide) b) := rfl

theorem flushed4_eq (c : Dev nD) (t : Fin cfg0.N) :
    (dats m 0 c).flushed 4 t = ((cfg0.win 4).blk t).view.read (Elt Ideal) (G4 m c) := by
  have hN := (idx t).2
  have hi := (idx t).1.2.2.2.2.1
  rw [flushed4, out4_eq, blk0, blk1, blk2]
  funext y
  have hy0 : (y 0).val < 256 := (y 0).isLt
  have hb0 : (((cfg0.win 4).blk t).view.emb y 0).val = win0_4.index t (0 : Fin 2) * 256 + 1 * (y 0).val := rfl
  have hb1 : (((cfg0.win 4).blk t).view.emb y 1).val = win0_4.index t (1 : Fin 2) * 512 + 1 * (y 1).val := rfl
  rw [hi] at hb0 hb1
  have e0 : ((cfg0.win 4).blk t).view.emb y 0
      = (⟨(256 * t.val + (y 0).val) % 16384, Nat.mod_lt _ (by decide)⟩ : Fin 16384) :=
    Fin.ext (hb0.trans (by show t.val * 256 + 1 * (y 0).val = (256 * t.val + (y 0).val) % 16384; omega))
  have e1 : ((cfg0.win 4).blk t).view.emb y 1 = (⟨(y 1).val, (y 1).isLt⟩ : Fin 512) :=
    Fin.ext (hb1.trans (by show 0 * 512 + 1 * (y 1).val = (y 1).val; omega))
  have hx : (cfg0.win 4).xinj (grid0.coords t) y = ix2 (⟨(y 0).val, hy0⟩ : Fin 256) (⟨(y 1).val, (y 1).isLt⟩ : Fin 512) := by
    funext a; match a with
    | ⟨0, _⟩ => rfl
    | ⟨1, _⟩ => rfl
  refine (congrArg (k0_pay3 (F := Ideal) _ _ _) hx).trans ((pay4_apply _ _ _ _ _).trans ?_)
  refine Eq.trans ?_ (congrArg₂ (fun (a : Fin 16384) (b : Fin 512) => G4 m c (ix2 a b)) e0 e1).symm
  refine Eq.trans ?_ (G4_apply m c _ _).symm
  exact proj_congr (fun _ => rfl) (gain m c) (weights m c) rfl

theorem mem_blk4 (t : Fin cfg0.N) (i : S16384x512.Idx) :
    i ∈ ((cfg0.win 4).blk t).view.set ↔ ∀ a : Fin 2, win0_4.index t a * S256x512.size a ≤ (i a).val
      ∧ (i a).val < win0_4.index t a * S256x512.size a + S256x512.size a := by
  show i ∈ ((View.whole main_v7_1).slice (win0_4.rect t)).set ↔ _
  rw [View.set_slice_whole, Rect.mem_set_unit]
  exact Iff.rfl

theorem covered4 (i : S16384x512.Idx) :
    ∃ t : Fin cfg0.N, (cfg0.win 4).flush t = true ∧ i ∈ ((cfg0.win 4).blk t).view.set := by
  have hi0 : (i 0).val < 16384 := (i 0).isLt
  have hi1 : (i 1).val < 512 := (i 1).isLt
  obtain ⟨t, hf, ht⟩ := onto4 ⟨(i 0).val / 256, by omega⟩
  refine ⟨t, hf, ?_⟩
  rw [mem_blk4, ht]
  intro a
  match a with
  | ⟨0, _⟩ => show (i 0).val / 256 * 256 ≤ (i 0).val ∧ (i 0).val < (i 0).val / 256 * 256 + 256; omega
  | ⟨1, _⟩ => show 0 * 512 ≤ (i 1).val ∧ (i 1).val < 0 * 512 + 512; omega

/-- The array after the run. -/
theorem final4 (c : Dev nD) : (dats m 0 c).arrAt 4 cfg0.N = G4 m c :=
  (dats m 0 c).arrAt_eq_of_cover 4 _ (fun t _ => flushed4_eq m c t) covered4

/-! The columns 1536 … 1791. -/

/-- Every block of rows is some point's to write. -/
theorem onto5 (q : Fin 64) : ∃ t : Fin cfg0.N, (cfg0.win 5).flush t = true ∧ win0_5.index t = ![q.val, 0] :=
  ⟨⟨q.val, lt_of_lt_of_eq q.isLt N_0.symm⟩, (by decide +kernel : ∀ q : Fin 64,
    win0_5.flush (⟨q.val, lt_of_lt_of_eq q.isLt N_0.symm⟩ : Fin grid0.N) = true
      ∧ win0_5.index (⟨q.val, lt_of_lt_of_eq q.isLt N_0.symm⟩ : Fin grid0.N) = ![q.val, 0]) q⟩

def target5 (x : Vec Ideal S16384x1024 .f32) (g : Vec Ideal S1024 .f32) (w : Vec Ideal S1024x2824 .f32) :
    Vec Ideal S16384x256 .f32 := fun i => proj x g w (i 0) (col 1536 (n := 256) (by decide) (i 1))

def G5 (c : Dev nD) : Vec Ideal S16384x256 .f32 :=
  target5 (m ((c : Thread nD τ).loc main_arg0)) (m ((c : Thread nD τ).loc main_arg1)) (m ((c : Thread nD τ).loc main_arg2))

theorem G5_apply (c : Dev nD) (a : Fin 16384) (b : Fin 256) : G5 m c (ix2 a b)
    = dot (normed (fun k => m ((c : Thread nD τ).loc main_arg0) (ix2 a k)) (fun k => m ((c : Thread nD τ).loc main_arg1) (ix1 k)))
        (widened (m ((c : Thread nD τ).loc main_arg2))) (col 1536 (by decide) b) := rfl

theorem flushed5_eq (c : Dev nD) (t : Fin cfg0.N) :
    (dats m 0 c).flushed 5 t = ((cfg0.win 5).blk t).view.read (Elt Ideal) (G5 m c) := by
  have hN := (idx t).2
  have hi := (idx t).1.2.2.2.2.2.1
  rw [flushed5, out5_eq, blk0, blk1, blk2]
  funext y
  have hy0 : (y 0).val < 256 := (y 0).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 256 + 1 * (y 1).val := rfl
  rw [hi] at hb0 hb1
  have e0 : ((cfg0.win 5).blk t).view.emb y 0
      = (⟨(256 * t.val + (y 0).val) % 16384, Nat.mod_lt _ (by decide)⟩ : Fin 16384) :=
    Fin.ext (hb0.trans (by show t.val * 256 + 1 * (y 0).val = (256 * t.val + (y 0).val) % 16384; omega))
  have e1 : ((cfg0.win 5).blk t).view.emb y 1 = (⟨(y 1).val, (y 1).isLt⟩ : Fin 256) :=
    Fin.ext (hb1.trans (by show 0 * 256 + 1 * (y 1).val = (y 1).val; omega))
  have hx : (cfg0.win 5).xinj (grid0.coords t) y = ix2 (⟨(y 0).val, hy0⟩ : Fin 256) (⟨(y 1).val, (y 1).isLt⟩ : Fin 256) := by
    funext a; match a with
    | ⟨0, _⟩ => rfl
    | ⟨1, _⟩ => rfl
  refine (congrArg (k0_pay4 (F := Ideal) _ _ _) hx).trans ((pay5_apply _ _ _ _ _).trans ?_)
  refine Eq.trans ?_ (congrArg₂ (fun (a : Fin 16384) (b : Fin 256) => G5 m c (ix2 a b)) e0 e1).symm
  refine Eq.trans ?_ (G5_apply m c _ _).symm
  exact proj_congr (fun _ => rfl) (gain m c) (weights m c) rfl

theorem mem_blk5 (t : Fin cfg0.N) (i : S16384x256.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_v7_2).slice (win0_5.rect t)).set ↔ _
  rw [View.set_slice_whole, Rect.mem_set_unit]
  exact Iff.rfl

theorem covered5 (i : S16384x256.Idx) :
    ∃ t : Fin cfg0.N, (cfg0.win 5).flush t = true ∧ i ∈ ((cfg0.win 5).blk t).view.set := by
  have hi0 : (i 0).val < 16384 := (i 0).isLt
  have hi1 : (i 1).val < 256 := (i 1).isLt
  obtain ⟨t, hf, ht⟩ := onto5 ⟨(i 0).val / 256, by omega⟩
  refine ⟨t, hf, ?_⟩
  rw [mem_blk5, ht]
  intro a
  match a with
  | ⟨0, _⟩ => show (i 0).val / 256 * 256 ≤ (i 0).val ∧ (i 0).val < (i 0).val / 256 * 256 + 256; omega
  | ⟨1, _⟩ => show 0 * 256 ≤ (i 1).val ∧ (i 1).val < 0 * 256 + 256; omega

/-- The array after the run. -/
theorem final5 (c : Dev nD) : (dats m 0 c).arrAt 5 cfg0.N = G5 m c :=
  (dats m 0 c).arrAt_eq_of_cover 5 _ (fun t _ => flushed5_eq m c t) covered5

/-! The columns 1792 … 2943. -/

/-- Every block of rows is some point's to write. -/
theorem onto6 (q : Fin 64) : ∃ t : Fin cfg0.N, (cfg0.win 6).flush t = true ∧ win0_6.index t = ![q.val, 0] :=
  ⟨⟨q.val, lt_of_lt_of_eq q.isLt N_0.symm⟩, (by decide +kernel : ∀ q : Fin 64,
    win0_6.flush (⟨q.val, lt_of_lt_of_eq q.isLt N_0.symm⟩ : Fin grid0.N) = true
      ∧ win0_6.index (⟨q.val, lt_of_lt_of_eq q.isLt N_0.symm⟩ : Fin grid0.N) = ![q.val, 0]) q⟩

def target6 (x : Vec Ideal S16384x1024 .f32) (g : Vec Ideal S1024 .f32) (w : Vec Ideal S1024x2824 .f32) :
    Vec Ideal S16384x1152 .f32 := fun i => proj x g w (i 0) (col 1792 (n := 1152) (by decide) (i 1))

def G6 (c : Dev nD) : Vec Ideal S16384x1152 .f32 :=
  target6 (m ((c : Thread nD τ).loc main_arg0)) (m ((c : Thread nD τ).loc main_arg1)) (m ((c : Thread nD τ).loc main_arg2))

theorem G6_apply (c : Dev nD) (a : Fin 16384) (b : Fin 1152) : G6 m c (ix2 a b)
    = dot (normed (fun k => m ((c : Thread nD τ).loc main_arg0) (ix2 a k)) (fun k => m ((c : Thread nD τ).loc main_arg1) (ix1 k)))
        (widened (m ((c : Thread nD τ).loc main_arg2))) (col 1792 (by decide) b) := rfl

theorem flushed6_eq (c : Dev nD) (t : Fin cfg0.N) :
    (dats m 0 c).flushed 6 t = ((cfg0.win 6).blk t).view.read (Elt Ideal) (G6 m c) := by
  have hN := (idx t).2
  have hi := (idx t).1.2.2.2.2.2.2
  rw [flushed6, out6_eq, blk0, blk1, blk2]
  funext y
  have hy0 : (y 0).val < 256 := (y 0).isLt
  have hb0 : (((cfg0.win 6).blk t).view.emb y 0).val = win0_6.index t (0 : Fin 2) * 256 + 1 * (y 0).val := rfl
  have hb1 : (((cfg0.win 6).blk t).view.emb y 1).val = win0_6.index t (1 : Fin 2) * 1152 + 1 * (y 1).val := rfl
  rw [hi] at hb0 hb1
  have e0 : ((cfg0.win 6).blk t).view.emb y 0
      = (⟨(256 * t.val + (y 0).val) % 16384, Nat.mod_lt _ (by decide)⟩ : Fin 16384) :=
    Fin.ext (hb0.trans (by show t.val * 256 + 1 * (y 0).val = (256 * t.val + (y 0).val) % 16384; omega))
  have e1 : ((cfg0.win 6).blk t).view.emb y 1 = (⟨(y 1).val, (y 1).isLt⟩ : Fin 1152) :=
    Fin.ext (hb1.trans (by show 0 * 1152 + 1 * (y 1).val = (y 1).val; omega))
  have hx : (cfg0.win 6).xinj (grid0.coords t) y = ix2 (⟨(y 0).val, hy0⟩ : Fin 256) (⟨(y 1).val, (y 1).isLt⟩ : Fin 1152) := by
    funext a; match a with
    | ⟨0, _⟩ => rfl
    | ⟨1, _⟩ => rfl
  refine (congrArg (k0_pay5 (F := Ideal) _ _ _) hx).trans ((pay6_apply _ _ _ _ _).trans ?_)
  refine Eq.trans ?_ (congrArg₂ (fun (a : Fin 16384) (b : Fin 1152) => G6 m c (ix2 a b)) e0 e1).symm
  refine Eq.trans ?_ (G6_apply m c _ _).symm
  exact proj_congr (fun _ => rfl) (gain m c) (weights m c) rfl

theorem mem_blk6 (t : Fin cfg0.N) (i : S16384x1152.Idx) :
    i ∈ ((cfg0.win 6).blk t).view.set ↔ ∀ a : Fin 2, win0_6.index t a * S256x1152.size a ≤ (i a).val
      ∧ (i a).val < win0_6.index t a * S256x1152.size a + S256x1152.size a := by
  show i ∈ ((View.whole main_v7_3).slice (win0_6.rect t)).set ↔ _
  rw [View.set_slice_whole, Rect.mem_set_unit]
  exact Iff.rfl

theorem covered6 (i : S16384x1152.Idx) :
    ∃ t : Fin cfg0.N, (cfg0.win 6).flush t = true ∧ i ∈ ((cfg0.win 6).blk t).view.set := by
  have hi0 : (i 0).val < 16384 := (i 0).isLt
  have hi1 : (i 1).val < 1152 := (i 1).isLt
  obtain ⟨t, hf, ht⟩ := onto6 ⟨(i 0).val / 256, by omega⟩
  refine ⟨t, hf, ?_⟩
  rw [mem_blk6, ht]
  intro a
  match a with
  | ⟨0, _⟩ => show (i 0).val / 256 * 256 ≤ (i 0).val ∧ (i 0).val < (i 0).val / 256 * 256 + 256; omega
  | ⟨1, _⟩ => show 0 * 1152 ≤ (i 1).val ∧ (i 1).val < 0 * 1152 + 1152; omega

/-- The array after the run. -/
theorem final6 (c : Dev nD) : (dats m 0 c).arrAt 6 cfg0.N = G6 m c :=
  (dats m 0 c).arrAt_eq_of_cover 6 _ (fun t _ => flushed6_eq m c t) covered6

end Cert.Kernel2Ideal.InProj

end
-- ==== Proof.InProjEquation.lean ====
/-
  The combined input projection's call and its reference leave the same rows.
-/
module

public import proofs.«01_k».proof.Defs
public import proofs.«01_k».proof.Proof.InProj
public import proofs.«01_k».proof.Proof.Gen.Reference2Ideal.Run
public import proofs.«01_k».proof.Proof.Gen.Kernel2Ideal.Launch

@[expose] public section

set_option maxRecDepth 16384

noncomputable section

namespace Cert.InProjEquation

open Idealize.ShloMosaic Idealize.ShloMosaic.TcCoe Idealize.SL.Sem
open Cert.Reference2Ideal Cert.Reference2Ideal.Gen Cert.Rows Cert.Kernel2Ideal.InProj

instance : Cert.Reference2Ideal.Facts := Cert.Reference2Ideal.Gen.facts
instance : Cert.Kernel2Ideal.Facts := Cert.Kernel2Ideal.Gen.facts

theorem referenceFrame : Cert.quiescent_Reference2Ideal := fun m ρ _ =>
  (θ_run (Cert.Reference2Ideal.defs (F := Ideal)) _ _).mono
    (fun r h => And.intro (fun c => (h c).2.2.2.2) (sem_eq_zero_of_no_sems (by decide) r.2)) (Cert.Reference2Ideal.Value.run m ρ)

/-- The reference's columns. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = target3 (m ((c.tc : Thread nD τ).loc main_arg0)) (m ((c.tc : Thread nD τ).loc main_arg1)) (m ((c.tc : Thread nD τ).loc main_arg2))
      ∧ r.2.mem ((c.tc : Thread nD τ).loc main_v27) = target4 (m ((c.tc : Thread nD τ).loc main_arg0)) (m ((c.tc : Thread nD τ).loc main_arg1)) (m ((c.tc : Thread nD τ).loc main_arg2))
      ∧ r.2.mem ((c.tc : Thread nD τ).loc main_v20) = target5 (m ((c.tc : Thread nD τ).loc main_arg0)) (m ((c.tc : Thread nD τ).loc main_arg1)) (m ((c.tc : Thread nD τ).loc main_arg2))
      ∧ r.2.mem ((c.tc : Thread nD τ).loc main_v28) = target6 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ⟨(h c).1.trans ?_, (h c).2.1.trans ?_, (h c).2.2.1.trans ?_,
    (h c).2.2.2.1.trans ?_, (h c).2.2.2.2⟩) (Cert.Reference2Ideal.Value.run m ρ)
  · clear h
    funext i
    idx_vars i
    pointwise [Cert.Reference2Ideal.Value.res_main_v26, Cert.Reference2Ideal.Value.res_main_v28, target3, Cert.Kernel2Ideal.InProj.proj, dot, normed, scale]
    by_cases h0 : i1.val < 256
    · rw [dif_pos h0]
      exact sum_scaled _ _ _ fun x => widened_low _ _ (by dsimp only [col] <;> omega) (by dsimp only [col] <;> omega)
    rw [dif_neg h0]
    by_cases h1 : i1.val - 256 < 256
    · rw [dif_pos h1]
      exact sum_scaled _ _ _ fun x => widened_low _ _ (by dsimp only [col] <;> omega) (by dsimp only [col] <;> omega)
    rw [dif_neg h1]
    by_cases h2 : i1.val - 256 - 256 < 256
    · rw [dif_pos h2]
      exact sum_scaled _ _ _ fun x => widened_low _ _ (by dsimp only [col] <;> omega) (by dsimp only [col] <;> omega)
    rw [dif_neg h2]
    exact sum_scaled _ _ _ fun x => widened_low _ _ (by dsimp only [col] <;> omega) (by dsimp only [col] <;> omega)
  · clear h
    funext i
    idx_vars i
    pointwise [Cert.Reference2Ideal.Value.res_main_v26, Cert.Reference2Ideal.Value.res_main_v28, target4, Cert.Kernel2Ideal.InProj.proj, dot, normed, scale]
    by_cases h0 : i1.val < 256
    · rw [dif_pos h0]
      exact sum_scaled _ _ _ fun x => widened_low _ _ (by dsimp only [col] <;> omega) (by dsimp only [col] <;> omega)
    rw [dif_neg h0]
    exact sum_scaled _ _ _ fun x => widened_low _ _ (by dsimp only [col] <;> omega) (by dsimp only [col] <;> omega)
  · clear h
    funext i
    idx_vars i
    pointwise [Cert.Reference2Ideal.Value.res_main_v26, Cert.Reference2Ideal.Value.res_main_v28, target5, Cert.Kernel2Ideal.InProj.proj, dot, normed, scale]
    exact sum_scaled _ _ _ fun x => widened_low _ _ (by dsimp only [col] <;> omega) (by dsimp only [col] <;> omega)
  · clear h
    funext i
    idx_vars i
    pointwise [Cert.Reference2Ideal.Value.res_main_v26, Cert.Reference2Ideal.Value.res_main_v28, target6, Cert.Kernel2Ideal.InProj.proj, dot, normed, scale]
    by_cases h0 : i1.val < 768
    · rw [dif_pos h0]
      exact sum_scaled _ _ _ fun x => widened_low _ _ (by dsimp only [col] <;> omega) (by dsimp only [col] <;> omega)
    rw [dif_neg h0]
    by_cases h1 : i1.val - 768 < 256
    · rw [dif_pos h1]
      exact sum_scaled _ _ _ fun x => widened_gate _ _ (by dsimp only [col] <;> omega) (by dsimp only [col] <;> omega) (by dsimp only [col] <;> omega)
    rw [dif_neg h1]
    by_cases h2 : i1.val - 768 - 256 < 4
    · rw [dif_pos h2]
      exact sum_scaled _ _ _ fun x => widened_scalar _ _ (by dsimp only [col] <;> omega) (by dsimp only [col] <;> omega) (by dsimp only [col] <;> omega)
    rw [dif_neg h2]
    by_cases h3 : i1.val - 768 - 256 - 4 < 4
    · rw [dif_pos h3]
      exact sum_scaled _ _ _ fun x => widened_scalar _ _ (by dsimp only [col] <;> omega) (by dsimp only [col] <;> omega) (by dsimp only [col] <;> omega)
    rw [dif_neg h3]
    exact sum_zeros _ _ fun x => widened_zero _ _ (by dsimp only [col] <;> omega)

theorem algebraic : Cert.algebraic_Kernel2Ideal_Reference2Ideal := by
  intro m g m' g' _ agree
  refine ⟨fun c => G3 m c, fun c => G4 m c, fun c => G5 m c, fun c => G6 m c, ?_, ?_⟩
  · exact (θ_run (Cert.Kernel2Ideal.defs (F := Ideal)) _ _).mono
      (fun r h c => ⟨(h c).1.trans (final3 m c), (h c).2.1.trans (final4 m c), (h c).2.2.1.trans (final5 m c),
        (h c).2.2.2.1.trans (final6 m c), (h c).2.2.2.2⟩) (Cert.Kernel2Ideal.Value.run_blocks m g)
  · refine (θ_run (defs (F := Ideal)) _ _).mono (fun r h c => ⟨(h c).1.trans ?_, (h c).2.1.trans ?_, (h c).2.2.1.trans ?_,
      (h c).2.2.2.1.trans ?_, (h c).2.2.2.2⟩) (reference_run m' g')
    all_goals
      obtain ⟨h0, h1, h2⟩ := agree c
      rw [h0, h1, h2]
      rfl

end Cert.InProjEquation

end
-- ==== Proof.OutProj.lean ====
/-
  The output projection: what each grid point leaves, and the whole array.
-/
module

public import proofs.«01_k».proof.Proof.Gen.Kernel3Ideal.Value
public import proofs.«01_k».proof.Proof.Rows
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.OutProj

open Idealize.ShloMosaic Idealize.ShloMosaic.TcCoe Idealize.SL.Sem Cert.Kernel3Ideal Cert.Kernel3Ideal.Gen Cert.Kernel3Ideal.Value
open Cert.Rows

/-- What a point writes, of the blocks it reads. -/
def pay (x0 : Vec Ideal S512x1024 .f32) (x1 x2 x3 x4 : Vec Ideal S512x256 .bf16)
    (x5 : Vec Ideal S1024x1024 .bf16) : Vec Ideal S512x1024 .f32 :=
  k0_pay1 x0 x1 (View.ld x5 r0_2) x2 (View.ld x5 r0_3) x3 (View.ld x5 r0_4) x4 (View.ld x5 r0_5)

theorem out_eq (x0 : Vec Ideal S512x1024 .f32) (x1 x2 x3 x4 : Vec Ideal S512x256 .bf16)
    (x5 : Vec Ideal S1024x1024 .bf16) :
    out0_6 x0 x1 x2 x3 x4 x5 = pay x0 x1 x2 x3 x4 x5 := by
  unfold out0_6
  rw [View.canon_unit_zero (by decide), View.ld_unit_zero (by decide), View.ld_unit_zero (by decide),
    View.ld_unit_zero (by decide), View.ld_unit_zero (by decide), View.ld_unit_zero (by decide)]
  rfl

theorem weights0 (x5 : Vec Ideal S1024x1024 .bf16) (k : Fin 256) (l : Fin 1024) :
    View.ld x5 r0_2 (ix2 k l) = x5 (ix2 (part 0 k) l) := by
  pointwise
  refine congrArg x5 ?_
  blk_ext
  show _ = 256 * 0 + k.val
  omega

theorem weights1 (x5 : Vec Ideal S1024x1024 .bf16) (k : Fin 256) (l : Fin 1024) :
    View.ld x5 r0_3 (ix2 k l) = x5 (ix2 (part 1 k) l) := by
  pointwise
  refine congrArg x5 ?_
  blk_ext
  show _ = 256 * 1 + k.val
  omega

theorem weights2 (x5 : Vec Ideal S1024x1024 .bf16) (k : Fin 256) (l : Fin 1024) :
    View.ld x5 r0_4 (ix2 k l) = x5 (ix2 (part 2 k) l) := by
  pointwise
  refine congrArg x5 ?_
  blk_ext
  show _ = 256 * 2 + k.val
  omega

theorem weights3 (x5 : Vec Ideal S1024x1024 .bf16) (k : Fin 256) (l : Fin 1024) :
    View.ld x5 r0_5 (ix2 k l) = x5 (ix2 (part 3 k) l) := by
  pointwise
  refine congrArg x5 ?_
  blk_ext
  show _ = 256 * 3 + k.val
  omega

/-- The payload at a place. -/
theorem pay_apply (x0 : Vec Ideal S512x1024 .f32) (x1 x2 x3 x4 : Vec Ideal S512x256 .bf16)
    (x5 : Vec Ideal S1024x1024 .bf16) (r : Fin 512) (l : Fin 1024) :
    pay x0 x1 x2 x3 x4 x5 (ix2 r l)
      = mixed (x0 (ix2 r l)) (fun k => x1 (ix2 r k)) (fun k => x2 (ix2 r k)) (fun k => x3 (ix2 r k)) (fun k => x4 (ix2 r k))
          (fun k => x5 (ix2 k l)) := by
  unfold pay mixed
  simp only [← weights0, ← weights1, ← weights2, ← weights3]
  generalize View.ld x5 r0_2 = w0
  generalize View.ld x5 r0_3 = w1
  generalize View.ld x5 r0_4 = w2
  generalize View.ld x5 r0_5 = w3
  pointwise [k0_pay1]

variable (m : (ℓ : Loc nD τ sig) → Buf (Elt Ideal) ℓ)

theorem idx : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]) ∧ t.val < 32 :=
  (by decide +kernel : ∀ t : Fin grid0.N, _)

/-- Every block of rows is some point's to write. -/
theorem onto (q : Fin 32) : ∃ t : Fin cfg0.N, (cfg0.win 6).flush t = true ∧ win0_6.index t = ![q.val, 0] :=
  ⟨⟨q.val, lt_of_lt_of_eq q.isLt N_0.symm⟩, (by decide +kernel : ∀ q : Fin 32,
    win0_6.flush (⟨q.val, lt_of_lt_of_eq q.isLt N_0.symm⟩ : Fin grid0.N) = true
      ∧ win0_6.index (⟨q.val, lt_of_lt_of_eq q.isLt N_0.symm⟩ : Fin grid0.N) = ![q.val, 0]) q⟩

theorem blk0 (c : Dev nD) (t : Fin cfg0.N) : iblk m c 0 t = fun j : S512x1024.Idx =>
    m ((c : Thread nD τ).loc main_arg0) (ix2 ⟨(512 * t.val + (j 0).val) % 16384, Nat.mod_lt _ (by decide)⟩ (j 1)) := by
  have hN := (idx t).2
  have hi := (idx t).1.1
  rw [← V_main_arg0 m c]
  generalize hV : V m c = W
  funext j
  blk_simp [iblk, hi]
  rw [hV]
  refine congrArg _ ?_
  blk_ext [hi]

theorem blk1 (c : Dev nD) (t : Fin cfg0.N) : iblk m c 1 t = fun j : S512x256.Idx =>
    m ((c : Thread nD τ).loc main_arg1) (ix2 ⟨(512 * t.val + (j 0).val) % 16384, Nat.mod_lt _ (by decide)⟩ (j 1)) := by
  have hN := (idx t).2
  have hi := (idx t).1.2.1
  rw [← V_main_arg1 m c]
  generalize hV : V m c = W
  funext j
  blk_simp [iblk, hi]
  rw [hV]
  refine congrArg _ ?_
  blk_ext [hi]

theorem blk2 (c : Dev nD) (t : Fin cfg0.N) : iblk m c 2 t = fun j : S512x256.Idx =>
    m ((c : Thread nD τ).loc main_arg2) (ix2 ⟨(512 * t.val + (j 0).val) % 16384, Nat.mod_lt _ (by decide)⟩ (j 1)) := by
  have hN := (idx t).2
  have hi := (idx t).1.2.2.1
  rw [← V_main_arg2 m c]
  generalize hV : V m c = W
  funext j
  blk_simp [iblk, hi]
  rw [hV]
  refine congrArg _ ?_
  blk_ext [hi]

theorem blk3 (c : Dev nD) (t : Fin cfg0.N) : iblk m c 3 t = fun j : S512x256.Idx =>
    m ((c : Thread nD τ).loc main_arg3) (ix2 ⟨(512 * t.val + (j 0).val) % 16384, Nat.mod_lt _ (by decide)⟩ (j 1)) := by
  have hN := (idx t).2
  have hi := (idx t).1.2.2.2.1
  rw [← V_main_arg3 m c]
  generalize hV : V m c = W
  funext j
  blk_simp [iblk, hi]
  rw [hV]
  refine congrArg _ ?_
  blk_ext [hi]

theorem blk4 (c : Dev nD) (t : Fin cfg0.N) : iblk m c 4 t = fun j : S512x256.Idx =>
    m ((c : Thread nD τ).loc main_arg4) (ix2 ⟨(512 * t.val + (j 0).val) % 16384, Nat.mod_lt _ (by decide)⟩ (j 1)) := by
  have hN := (idx t).2
  have hi := (idx t).1.2.2.2.2.1
  rw [← V_main_arg4 m c]
  generalize hV : V m c = W
  funext j
  blk_simp [iblk, hi]
  rw [hV]
  refine congrArg _ ?_
  blk_ext [hi]

theorem blk5 (c : Dev nD) (t : Fin cfg0.N) : iblk m c 5 t = V m c main_v0 := by
  have hi := (idx t).1.2.2.2.2.2.1
  generalize hV : V m c = W
  funext j
  blk_simp [iblk, hi]
  rw [hV]
  refine congrArg _ ?_
  blk_ext [hi]

/-- The weights as the kernel holds them. -/
theorem weights (c : Dev nD) (k l : Fin 1024) : (V m c main_v0 : Vec Ideal S1024x1024 .bf16) (ix2 k l)
    = m ((c : Thread nD τ).loc main_arg5) (ix2 k l) := by
  dsimp only [V]; after_reads_simp; pointwise

/-- The rows with the branches' projection added. -/
def target (h : Vec Ideal S16384x1024 .f32) (a b c d : Vec Ideal S16384x256 .bf16) (w : Vec Ideal S1024x1024 .f32) :
    Vec Ideal S16384x1024 .f32 := fun i =>
  mixed (h (ix2 (i 0) (i 1))) (fun k => a (ix2 (i 0) k)) (fun k => b (ix2 (i 0) k)) (fun k => c (ix2 (i 0) k))
    (fun k => d (ix2 (i 0) k)) (fun k => w (ix2 k (i 1)))

/-- The call's output array. -/
def G6 (c : Dev nD) : Vec Ideal S16384x1024 .f32 :=
  target (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem G6_apply (c : Dev nD) (a : Fin 16384) (b : Fin 1024) : G6 m c (ix2 a b)
    = mixed (m ((c : Thread nD τ).loc main_arg0) (ix2 a b)) (fun k => m ((c : Thread nD τ).loc main_arg1) (ix2 a k))
        (fun k => m ((c : Thread nD τ).loc main_arg2) (ix2 a k)) (fun k => m ((c : Thread nD τ).loc main_arg3) (ix2 a k))
        (fun k => m ((c : Thread nD τ).loc main_arg4) (ix2 a k)) (fun k => m ((c : Thread nD τ).loc main_arg5) (ix2 k b)) := rfl

/-- What a point writes back is its block of `G6`. -/
theorem flushed_eq (c : Dev nD) (t : Fin cfg0.N) :
    (dats m 0 c).flushed 6 t = ((cfg0.win 6).blk t).view.read (Elt Ideal) (G6 m c) := by
  have hN := (idx t).2
  have hi := (idx t).1.2.2.2.2.2.2
  rw [flushed6, out_eq, blk0, blk1, blk2, blk3, blk4, blk5]
  funext y
  have hy0 : (y 0).val < 512 := (y 0).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  rw [hi] at hb0 hb1
  have e0 : ((cfg0.win 6).blk t).view.emb y 0
      = (⟨(512 * t.val + (y 0).val) % 16384, Nat.mod_lt _ (by decide)⟩ : Fin 16384) :=
    Fin.ext (hb0.trans (by show t.val * 512 + 1 * (y 0).val = (512 * t.val + (y 0).val) % 16384; omega))
  have e1 : ((cfg0.win 6).blk t).view.emb y 1 = (⟨(y 1).val, (y 1).isLt⟩ : Fin 1024) :=
    Fin.ext (hb1.trans (by show 0 * 1024 + 1 * (y 1).val = (y 1).val; omega))
  have hx : (cfg0.win 6).xinj (grid0.coords t) y = ix2 (⟨(y 0).val, hy0⟩ : Fin 512) (⟨(y 1).val, (y 1).isLt⟩ : Fin 1024) := by
    funext a; match a with
    | ⟨0, _⟩ => rfl
    | ⟨1, _⟩ => rfl
  refine (congrArg (pay _ _ _ _ _ _) hx).trans ((pay_apply _ _ _ _ _ _ _ _).trans ?_)
  refine Eq.trans ?_ (congrArg₂ (fun (a : Fin 16384) (b : Fin 1024) => G6 m c (ix2 a b)) e0 e1).symm
  refine Eq.trans ?_ (G6_apply m c _ _).symm
  exact mixed_congr rfl (fun _ => rfl) (fun _ => rfl) (fun _ => rfl) (fun _ => rfl) fun k => weights m c k _

theorem mem_blk (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v1).slice (win0_6.rect t)).set ↔ _
  rw [View.set_slice_whole, Rect.mem_set_unit]
  exact Iff.rfl

/-- Every place of the array is some point's to write. -/
theorem covered (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, hf, ht⟩ := onto ⟨(i 0).val / 512, by omega⟩
  refine ⟨t, hf, ?_⟩
  rw [mem_blk, ht]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

/-- The array after the run. -/
theorem final (c : Dev nD) : (dats m 0 c).arrAt 6 cfg0.N = G6 m c :=
  (dats m 0 c).arrAt_eq_of_cover 6 _ (fun t _ => flushed_eq m c t) covered

end Cert.Kernel3Ideal.OutProj

end
-- ==== Proof.OutProjEquation.lean ====
/-
  The output projection's call and its reference leave the same rows.
-/
module

public import proofs.«01_k».proof.Defs
public import proofs.«01_k».proof.Proof.OutProj
public import proofs.«01_k».proof.Proof.Gen.Reference3Ideal.Run
public import proofs.«01_k».proof.Proof.Gen.Kernel3Ideal.Launch

@[expose] public section

set_option maxRecDepth 16384

noncomputable section

namespace Cert.OutProjEquation

open Idealize.ShloMosaic Idealize.ShloMosaic.TcCoe Idealize.SL.Sem
open Cert.Reference3Ideal Cert.Reference3Ideal.Gen Cert.Rows Cert.Kernel3Ideal.OutProj

instance : Cert.Reference3Ideal.Facts := Cert.Reference3Ideal.Gen.facts
instance : Cert.Kernel3Ideal.Facts := Cert.Kernel3Ideal.Gen.facts

theorem referenceFrame : Cert.quiescent_Reference3Ideal := fun m ρ _ =>
  (θ_run (Cert.Reference3Ideal.defs (F := Ideal)) _ _).mono
    (fun r h => And.intro (fun c => (h c).2) (sem_eq_zero_of_no_sems (by decide) r.2)) (Cert.Reference3Ideal.Value.run m ρ)

/-- The reference's rows. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
          = target (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r h c => ⟨(h c).1.trans ?_, (h c).2⟩) (Cert.Reference3Ideal.Value.run m ρ)
  clear h
  funext i
  idx_vars i
  pointwise [target]
  refine mixed_eq _ _ _ _ _ _ _ (fun k => ?_) (fun k => ?_) (fun k => ?_) (fun k => ?_)
  · show dite _ _ _ = _
    rw [dif_pos (show (part 0 k).val < 256 by show 256 * 0 + k.val < 256; omega)]
    exact congrArg (fun z => m ((c.tc : Thread nD τ).loc main_arg1) (ix2 i0 z)) (Fin.ext (by show 256 * 0 + k.val = k.val; omega))
  · show dite _ _ _ = _
    rw [dif_neg (show ¬ (part 1 k).val < 256 by show ¬ 256 * 1 + k.val < 256; omega),
      dif_pos (show (part 1 k).val - 256 < 256 by show 256 * 1 + k.val - 256 < 256; omega)]
    exact congrArg (fun z => m ((c.tc : Thread nD τ).loc main_arg2) (ix2 i0 z)) (Fin.ext (by show 256 * 1 + k.val - 256 = k.val; omega))
  · show dite _ _ _ = _
    rw [dif_neg (show ¬ (part 2 k).val < 256 by show ¬ 256 * 2 + k.val < 256; omega),
      dif_neg (show ¬ (part 2 k).val - 256 < 256 by show ¬ 256 * 2 + k.val - 256 < 256; omega),
      dif_pos (show (part 2 k).val - 256 - 256 < 256 by show 256 * 2 + k.val - 256 - 256 < 256; omega)]
    exact congrArg (fun z => m ((c.tc : Thread nD τ).loc main_arg3) (ix2 i0 z)) (Fin.ext (by show 256 * 2 + k.val - 256 - 256 = k.val; omega))
  · show dite _ _ _ = _
    rw [dif_neg (show ¬ (part 3 k).val < 256 by show ¬ 256 * 3 + k.val < 256; omega),
      dif_neg (show ¬ (part 3 k).val - 256 < 256 by show ¬ 256 * 3 + k.val - 256 < 256; omega),
      dif_neg (show ¬ (part 3 k).val - 256 - 256 < 256 by show ¬ 256 * 3 + k.val - 256 - 256 < 256; omega)]
    exact congrArg (fun z => m ((c.tc : Thread nD τ).loc main_arg4) (ix2 i0 z)) (Fin.ext (by show 256 * 3 + k.val - 256 - 256 - 256 = k.val; omega))

theorem algebraic : Cert.algebraic_Kernel3Ideal_Reference3Ideal := by
  intro m g m' g' _ agree
  refine ⟨fun c => G6 m c, ?_, ?_⟩
  · exact (θ_run (Cert.Kernel3Ideal.defs (F := Ideal)) _ _).mono
      (fun r h c => ⟨(h c).1.trans (final m c), (h c).2⟩) (Cert.Kernel3Ideal.Value.run_blocks m g)
  · refine (θ_run (defs (F := Ideal)) _ _).mono (fun r h c => ⟨(h c).1.trans ?_, (h c).2⟩) (reference_run m' g')
    obtain ⟨h0, h1, h2, h3, h4, h5⟩ := agree c
    rw [h0, h1, h2, h3, h4, h5]
    rfl

end Cert.OutProjEquation

end
-- ==== Proof.Gate.lean ====
/-
  The per-layer gate: what each grid point leaves, and the whole array.
-/
module

public import proofs.«01_k».proof.Proof.Gen.Kernel4Ideal.Value
public import proofs.«01_k».proof.Proof.Rows
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Gate

open Idealize.ShloMosaic Idealize.ShloMosaic.TcCoe Idealize.SL.Sem Cert.Kernel4Ideal Cert.Kernel4Ideal.Gen Cert.Kernel4Ideal.Value
open Cert.Rows

/-- What a point writes is its payload. -/
theorem out_eq (x0 : Vec Ideal S512x1024 .f32) (x1 : Vec Ideal S1x1024 .f32) (x2 : Vec Ideal S1024x1024 .bf16)
    (x3 : Vec Ideal S512x256 .f32) (x4 : Vec Ideal S256x1024 .bf16) (x5 : Vec Ideal S1x1024 .f32) :
    out0_6 x0 x1 x2 x3 x4 x5 = k0_pay1 x0 x1 x2 x3 x4 := by
  unfold out0_6
  rw [View.canon_unit_zero (by decide), View.ld_unit_zero (by decide), View.ld_unit_zero (by decide),
    View.ld_unit_zero (by decide), View.ld_unit_zero (by decide), View.ld_unit_zero (by decide)]

/-- The payload at a place. -/
theorem pay_apply (x0 : Vec Ideal S512x1024 .f32) (x1 : Vec Ideal S1x1024 .f32) (x2 : Vec Ideal S1024x1024 .bf16)
    (x3 : Vec Ideal S512x256 .f32) (x4 : Vec Ideal S256x1024 .bf16) (r : Fin 512) (l : Fin 1024) :
    k0_pay1 x0 x1 x2 x3 x4 (ix2 r l)
      = gated (fun k => x0 (ix2 r k)) (fun k => x1 (ix2 (0 : Fin 1) k)) (fun k l => x2 (ix2 k l))
          (fun k => x3 (ix2 r k)) (fun k l => x4 (ix2 k l)) l := by
  pointwise [k0_pay1, gated, dot, normed, scale, sigmoid]
  rw [sub_eq_add_neg, zero_add]

variable (m : (ℓ : Loc nD τ sig) → Buf (Elt Ideal) ℓ)

theorem idx : ∀ t : Fin cfg0.N, (win0_0.index t = ![t.val, 0] ∧ win0_1.index t = ![0, 0] ∧ win0_2.index t = ![0, 0]
    ∧ win0_3.index t = ![t.val, 0] ∧ win0_4.index t = ![0, 0] ∧ win0_6.index t = ![t.val, 0]) ∧ t.val < 32 :=
  (by decide +kernel : ∀ t : Fin grid0.N, _)

/-- Every block of rows is some point's to write. -/
theorem onto (q : Fin 32) : ∃ t : Fin cfg0.N, (cfg0.win 6).flush t = true ∧ win0_6.index t = ![q.val, 0] :=
  ⟨⟨q.val, lt_of_lt_of_eq q.isLt N_0.symm⟩, (by decide +kernel : ∀ q : Fin 32,
    win0_6.flush (⟨q.val, lt_of_lt_of_eq q.isLt N_0.symm⟩ : Fin grid0.N) = true
      ∧ win0_6.index (⟨q.val, lt_of_lt_of_eq q.isLt N_0.symm⟩ : Fin grid0.N) = ![q.val, 0]) q⟩

theorem blk0 (c : Dev nD) (t : Fin cfg0.N) : iblk m c 0 t = fun j : S512x1024.Idx =>
    m ((c : Thread nD τ).loc main_arg0) (ix2 ⟨(512 * t.val + (j 0).val) % 16384, Nat.mod_lt _ (by decide)⟩ (j 1)) := by
  have hN := (idx t).2
  have hi := (idx t).1.1
  rw [← V_main_arg0 m c]
  generalize hV : V m c = W
  funext j
  blk_simp [iblk, hi]
  rw [hV]
  refine congrArg _ ?_
  blk_ext [hi]

theorem blk1 (c : Dev nD) (t : Fin cfg0.N) : iblk m c 1 t = V m c main_v0 := by
  have hi := (idx t).1.2.1
  generalize hV : V m c = W
  funext j
  blk_simp [iblk, hi]
  rw [hV]
  refine congrArg _ ?_
  blk_ext [hi]

theorem blk2 (c : Dev nD) (t : Fin cfg0.N) : iblk m c 2 t = V m c main_v1 := by
  have hi := (idx t).1.2.2.1
  generalize hV : V m c = W
  funext j
  blk_simp [iblk, hi]
  rw [hV]
  refine congrArg _ ?_
  blk_ext [hi]

theorem blk3 (c : Dev nD) (t : Fin cfg0.N) : iblk m c 3 t = fun j : S512x256.Idx =>
    m ((c : Thread nD τ).loc main_arg3) (ix2 ⟨(512 * t.val + (j 0).val) % 16384, Nat.mod_lt _ (by decide)⟩ (j 1)) := by
  have hN := (idx t).2
  have hi := (idx t).1.2.2.2.1
  rw [← V_main_arg3 m c]
  generalize hV : V m c = W
  funext j
  blk_simp [iblk, hi]
  rw [hV]
  refine congrArg _ ?_
  blk_ext [hi]

theorem blk4 (c : Dev nD) (t : Fin cfg0.N) : iblk m c 4 t = V m c main_v2 := by
  have hi := (idx t).1.2.2.2.2.1
  generalize hV : V m c = W
  funext j
  blk_simp [iblk, hi]
  rw [hV]
  refine congrArg _ ?_
  blk_ext [hi]

/-- The gain as the kernel holds it. -/
theorem gain (c : Dev nD) (k : Fin 1024) : (V m c main_v0 : Vec Ideal S1x1024 .f32) (ix2 (0 : Fin 1) k)
    = m ((c : Thread nD τ).loc main_arg1) (ix1 k) := by
  dsimp only [V]; after_reads_simp; pointwise

theorem gateWeights (c : Dev nD) (k l : Fin 1024) : (V m c main_v1 : Vec Ideal S1024x1024 .bf16) (ix2 k l)
    = m ((c : Thread nD τ).loc main_arg2) (ix2 k l) := by
  dsimp only [V]; after_reads_simp; pointwise

theorem embWeights (c : Dev nD) (k : Fin 256) (l : Fin 1024) : (V m c main_v2 : Vec Ideal S256x1024 .bf16) (ix2 k l)
    = m ((c : Thread nD τ).loc main_arg4) (ix2 k l) := by
  dsimp only [V]; after_reads_simp; pointwise

/-- The rows with their gated projections added. -/
def target (x : Vec Ideal S16384x1024 .f32) (g : Vec Ideal S1024 .f32) (wg : Vec Ideal S1024x1024 .f32)
    (p : Vec Ideal S16384x256 .f32) (wp : Vec Ideal S256x1024 .f32) : Vec Ideal S16384x1024 .f32 := fun i =>
  gated (fun k => x (ix2 (i 0) k)) (fun k => g (ix1 k)) (fun k l => wg (ix2 k l)) (fun k => p (ix2 (i 0) k))
    (fun k l => wp (ix2 k l)) (i 1)

/-- The call's output array. -/
def G6 (c : Dev nD) : Vec Ideal S16384x1024 .f32 :=
  target (m ((c : Thread nD τ).loc main_arg0)) (m ((c : Thread nD τ).loc main_arg1)) (m ((c : Thread nD τ).loc main_arg2))
    (m ((c : Thread nD τ).loc main_arg3)) (m ((c : Thread nD τ).loc main_arg4))

/-- What a point writes back is its block of `G6`. -/
theorem flushed_eq (c : Dev nD) (t : Fin cfg0.N) :
    (dats m 0 c).flushed 6 t = ((cfg0.win 6).blk t).view.read (Elt Ideal) (G6 m c) := by
  have hN := (idx t).2
  have hi := (idx t).1.2.2.2.2.2
  rw [flushed6, out_eq, blk0, blk1, blk2, blk3, blk4]
  funext y
  have hy0 : (y 0).val < 512 := (y 0).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  rw [hi] at hb0 hb1
  have e0 : ((cfg0.win 6).blk t).view.emb y 0
      = (⟨(512 * t.val + (y 0).val) % 16384, Nat.mod_lt _ (by decide)⟩ : Fin 16384) :=
    Fin.ext (hb0.trans (by show t.val * 512 + 1 * (y 0).val = (512 * t.val + (y 0).val) % 16384; omega))
  have e1 : ((cfg0.win 6).blk t).view.emb y 1 = (⟨(y 1).val, (y 1).isLt⟩ : Fin 1024) :=
    Fin.ext (hb1.trans (by show 0 * 1024 + 1 * (y 1).val = (y 1).val; omega))
  have hx : (cfg0.win 6).xinj (grid0.coords t) y = ix2 (⟨(y 0).val, hy0⟩ : Fin 512) (⟨(y 1).val, (y 1).isLt⟩ : Fin 1024) := by
    funext a; match a with
    | ⟨0, _⟩ => rfl
    | ⟨1, _⟩ => rfl
  refine (congrArg (k0_pay1 (F := Ideal) _ _ _ _ _) hx).trans ((pay_apply _ _ _ _ _ _ _).trans ?_)
  refine Eq.trans ?_ (congrArg₂ (fun (a : Fin 16384) (b : Fin 1024) => G6 m c (ix2 a b)) e0 e1).symm
  exact gated_congr _ (fun _ => rfl) (gain m c) (gateWeights m c) (fun _ => rfl) (embWeights m c)

theorem mem_blk (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v4).slice (win0_6.rect t)).set ↔ _
  rw [View.set_slice_whole, Rect.mem_set_unit]
  exact Iff.rfl

/-- Every place of the array is some point's to write. -/
theorem covered (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, hf, ht⟩ := onto ⟨(i 0).val / 512, by omega⟩
  refine ⟨t, hf, ?_⟩
  rw [mem_blk, ht]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

/-- The array after the run. -/
theorem final (c : Dev nD) : (dats m 0 c).arrAt 6 cfg0.N = G6 m c :=
  (dats m 0 c).arrAt_eq_of_cover 6 _ (fun t _ => flushed_eq m c t) covered

end Cert.Kernel4Ideal.Gate

end
-- ==== Proof.GateEquation.lean ====
/-
  The per-layer gate's call and its reference leave the same rows.
-/
module

public import proofs.«01_k».proof.Defs
public import proofs.«01_k».proof.Proof.Gate
public import proofs.«01_k».proof.Proof.Gen.Reference4Ideal.Run
public import proofs.«01_k».proof.Proof.Gen.Kernel4Ideal.Launch

@[expose] public section

set_option maxRecDepth 16384

noncomputable section

namespace Cert.GateEquation

open Idealize.ShloMosaic Idealize.ShloMosaic.TcCoe Idealize.SL.Sem
open Cert.Reference4Ideal Cert.Reference4Ideal.Gen Cert.Rows Cert.Kernel4Ideal.Gate

instance : Cert.Reference4Ideal.Facts := Cert.Reference4Ideal.Gen.facts
instance : Cert.Kernel4Ideal.Facts := Cert.Kernel4Ideal.Gen.facts

theorem referenceFrame : Cert.quiescent_Reference4Ideal := fun m ρ _ =>
  (θ_run (Cert.Reference4Ideal.defs (F := Ideal)) _ _).mono
    (fun r h => And.intro (fun c => (h c).2) (sem_eq_zero_of_no_sems (by decide) r.2)) (Cert.Reference4Ideal.Value.run m ρ)

/-- The reference's rows. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
          = target (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r h c => ⟨(h c).1.trans ?_, (h c).2⟩) (Cert.Reference4Ideal.Value.run m ρ)
  clear h
  funext i
  idx_vars i
  pointwise [target, gated, dot, normed, scale, sigmoid]

theorem algebraic : Cert.algebraic_Kernel4Ideal_Reference4Ideal := by
  intro m g m' g' _ agree
  refine ⟨fun c => G6 m c, ?_, ?_⟩
  · exact (θ_run (Cert.Kernel4Ideal.defs (F := Ideal)) _ _).mono
      (fun r h c => ⟨(h c).1.trans (final m c), (h c).2⟩) (Cert.Kernel4Ideal.Value.run_blocks m g)
  · refine (θ_run (defs (F := Ideal)) _ _).mono (fun r h c => ⟨(h c).1.trans ?_, (h c).2⟩) (reference_run m' g')
    obtain ⟨h0, h1, h2, h3, h4, _⟩ := agree c
    rw [h0, h1, h2, h3, h4]
    rfl

end Cert.GateEquation

end
-- ==== Proof.GateFinal.lean ====
/-
  The last layer's gate: what each grid point leaves, and the whole array.
-/
module

public import proofs.«01_k».proof.Proof.Gen.Kernel5Ideal.Value
public import proofs.«01_k».proof.Proof.Rows
public import Idealize.ShloMosaic.Lib.StableHlo.RunRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.GateFinal

open Idealize.ShloMosaic Idealize.ShloMosaic.TcCoe Idealize.SL.Sem Cert.Kernel5Ideal Cert.Kernel5Ideal.Gen Cert.Kernel5Ideal.Value
open Cert.Rows

/-- What a point writes, of the blocks it reads. -/
def pay (x0 : Vec Ideal S512x1024 .f32) (x1 : Vec Ideal S1x1024 .f32) (x2 : Vec Ideal S1024x1024 .bf16)
    (x3 : Vec Ideal S512x256 .f32) (x4 : Vec Ideal S256x1024 .bf16) (x5 : Vec Ideal S1x1024 .f32) : Vec Ideal S512x1024 .f32 :=
  k0_pay1 (k0_pay2 x0 x1 x2 x3 x4) (k0_pay3 x5) (k0_pay4 x0 x1 x2 x3 x4)

theorem out_eq (x0 : Vec Ideal S512x1024 .f32) (x1 : Vec Ideal S1x1024 .f32) (x2 : Vec Ideal S1024x1024 .bf16)
    (x3 : Vec Ideal S512x256 .f32) (x4 : Vec Ideal S256x1024 .bf16) (x5 : Vec Ideal S1x1024 .f32) :
    out0_6 x0 x1 x2 x3 x4 x5 = pay x0 x1 x2 x3 x4 x5 := by
  unfold out0_6
  rw [View.canon_unit_zero (by decide), View.ld_unit_zero (by decide), View.ld_unit_zero (by decide),
    View.ld_unit_zero (by decide), View.ld_unit_zero (by decide), View.ld_unit_zero (by decide), View.ld_unit_zero (by decide)]
  rfl

/-- The gated row at a place. -/
theorem pay2_apply (x0 : Vec Ideal S512x1024 .f32) (x1 : Vec Ideal S1x1024 .f32) (x2 : Vec Ideal S1024x1024 .bf16)
    (x3 : Vec Ideal S512x256 .f32) (x4 : Vec Ideal S256x1024 .bf16) (r : Fin 512) (l : Fin 1024) :
    k0_pay2 x0 x1 x2 x3 x4 (ix2 r l)
      = gated (fun k => x0 (ix2 r k)) (fun k => x1 (ix2 (0 : Fin 1) k)) (fun k l => x2 (ix2 k l))
          (fun k => x3 (ix2 r k)) (fun k l => x4 (ix2 k l)) l := by
  pointwise [k0_pay2, gated, dot, normed, scale, sigmoid]
  rw [sub_eq_add_neg, zero_add]

/-- The gated row normalised. -/
theorem pay_apply (x0 : Vec Ideal S512x1024 .f32) (x1 : Vec Ideal S1x1024 .f32) (x2 : Vec Ideal S1024x1024 .bf16)
    (x3 : Vec Ideal S512x256 .f32) (x4 : Vec Ideal S256x1024 .bf16) (x5 : Vec Ideal S1x1024 .f32) (r : Fin 512) (l : Fin 1024) :
    pay x0 x1 x2 x3 x4 x5 (ix2 r l)
      = normed (gated (fun k => x0 (ix2 r k)) (fun k => x1 (ix2 (0 : Fin 1) k)) (fun k l => x2 (ix2 k l))
          (fun k => x3 (ix2 r k)) (fun k l => x4 (ix2 k l))) (fun k => x5 (ix2 (0 : Fin 1) k)) l := by
  have e : gated (fun k => x0 (ix2 r k)) (fun k => x1 (ix2 (0 : Fin 1) k)) (fun k l => x2 (ix2 k l))
      (fun k => x3 (ix2 r k)) (fun k l => x4 (ix2 k l)) = fun k => k0_pay2 x0 x1 x2 x3 x4 (ix2 r k) :=
    funext fun k => (pay2_apply x0 x1 x2 x3 x4 r k).symm
  rw [e]
  unfold pay k0_pay4
  generalize k0_pay2 (F := Ideal) x0 x1 x2 x3 x4 = z
  pointwise [k0_pay1, k0_pay3, normed, scale]

variable (m : (ℓ : Loc nD τ sig) → Buf (Elt Ideal) ℓ)

theorem idx : ∀ t : Fin cfg0.N, (win0_0.index t = ![t.val, 0] ∧ win0_1.index t = ![0, 0] ∧ win0_2.index t = ![0, 0]
    ∧ win0_3.index t = ![t.val, 0] ∧ win0_4.index t = ![0, 0] ∧ win0_5.index t = ![0, 0] ∧ win0_6.index t = ![t.val, 0]) ∧ t.val < 32 :=
  (by decide +kernel : ∀ t : Fin grid0.N, _)

/-- Every block of rows is some point's to write. -/
theorem onto (q : Fin 32) : ∃ t : Fin cfg0.N, (cfg0.win 6).flush t = true ∧ win0_6.index t = ![q.val, 0] :=
  ⟨⟨q.val, lt_of_lt_of_eq q.isLt N_0.symm⟩, (by decide +kernel : ∀ q : Fin 32,
    win0_6.flush (⟨q.val, lt_of_lt_of_eq q.isLt N_0.symm⟩ : Fin grid0.N) = true
      ∧ win0_6.index (⟨q.val, lt_of_lt_of_eq q.isLt N_0.symm⟩ : Fin grid0.N) = ![q.val, 0]) q⟩

theorem blk0 (c : Dev nD) (t : Fin cfg0.N) : iblk m c 0 t = fun j : S512x1024.Idx =>
    m ((c : Thread nD τ).loc main_arg0) (ix2 ⟨(512 * t.val + (j 0).val) % 16384, Nat.mod_lt _ (by decide)⟩ (j 1)) := by
  have hN := (idx t).2
  have hi := (idx t).1.1
  rw [← V_main_arg0 m c]
  generalize hV : V m c = W
  funext j
  blk_simp [iblk, hi]
  rw [hV]
  refine congrArg _ ?_
  blk_ext [hi]

theorem blk1 (c : Dev nD) (t : Fin cfg0.N) : iblk m c 1 t = V m c main_v0 := by
  have hi := (idx t).1.2.1
  generalize hV : V m c = W
  funext j
  blk_simp [iblk, hi]
  rw [hV]
  refine congrArg _ ?_
  blk_ext [hi]

theorem blk2 (c : Dev nD) (t : Fin cfg0.N) : iblk m c 2 t = V m c main_v1 := by
  have hi := (idx t).1.2.2.1
  generalize hV : V m c = W
  funext j
  blk_simp [iblk, hi]
  rw [hV]
  refine congrArg _ ?_
  blk_ext [hi]

theorem blk3 (c : Dev nD) (t : Fin cfg0.N) : iblk m c 3 t = fun j : S512x256.Idx =>
    m ((c : Thread nD τ).loc main_arg3) (ix2 ⟨(512 * t.val + (j 0).val) % 16384, Nat.mod_lt _ (by decide)⟩ (j 1)) := by
  have hN := (idx t).2
  have hi := (idx t).1.2.2.2.1
  rw [← V_main_arg3 m c]
  generalize hV : V m c = W
  funext j
  blk_simp [iblk, hi]
  rw [hV]
  refine congrArg _ ?_
  blk_ext [hi]

theorem blk4 (c : Dev nD) (t : Fin cfg0.N) : iblk m c 4 t = V m c main_v2 := by
  have hi := (idx t).1.2.2.2.2.1
  generalize hV : V m c = W
  funext j
  blk_simp [iblk, hi]
  rw [hV]
  refine congrArg _ ?_
  blk_ext [hi]

theorem blk5 (c : Dev nD) (t : Fin cfg0.N) : iblk m c 5 t = V m c main_v3 := by
  have hi := (idx t).1.2.2.2.2.2.1
  generalize hV : V m c = W
  funext j
  blk_simp [iblk, hi]
  rw [hV]
  refine congrArg _ ?_
  blk_ext [hi]

/-- The gain as the kernel holds it. -/
theorem gain (c : Dev nD) (k : Fin 1024) : (V m c main_v0 : Vec Ideal S1x1024 .f32) (ix2 (0 : Fin 1) k)
    = m ((c : Thread nD τ).loc main_arg1) (ix1 k) := by
  dsimp only [V]; after_reads_simp; pointwise

theorem finalGain (c : Dev nD) (k : Fin 1024) : (V m c main_v3 : Vec Ideal S1x1024 .f32) (ix2 (0 : Fin 1) k)
    = m ((c : Thread nD τ).loc main_arg5) (ix1 k) := by
  dsimp only [V]; after_reads_simp; pointwise

theorem gateWeights (c : Dev nD) (k l : Fin 1024) : (V m c main_v1 : Vec Ideal S1024x1024 .bf16) (ix2 k l)
    = m ((c : Thread nD τ).loc main_arg2) (ix2 k l) := by
  dsimp only [V]; after_reads_simp; pointwise

theorem embWeights (c : Dev nD) (k : Fin 256) (l : Fin 1024) : (V m c main_v2 : Vec Ideal S256x1024 .bf16) (ix2 k l)
    = m ((c : Thread nD τ).loc main_arg4) (ix2 k l) := by
  dsimp only [V]; after_reads_simp; pointwise

/-- The rows with their gated projections added, and normalised. -/
def target (x : Vec Ideal S16384x1024 .f32) (g : Vec Ideal S1024 .f32) (wg : Vec Ideal S1024x1024 .f32)
    (p : Vec Ideal S16384x256 .f32) (wp : Vec Ideal S256x1024 .f32) (f : Vec Ideal S1024 .f32) :
    Vec Ideal S16384x1024 .f32 := fun i =>
  normed (gated (fun k => x (ix2 (i 0) k)) (fun k => g (ix1 k)) (fun k l => wg (ix2 k l)) (fun k => p (ix2 (i 0) k))
    (fun k l => wp (ix2 k l))) (fun k => f (ix1 k)) (i 1)

/-- The call's output array. -/
def G6 (c : Dev nD) : Vec Ideal S16384x1024 .f32 :=
  target (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a point writes back is its block of `G6`. -/
theorem flushed_eq (c : Dev nD) (t : Fin cfg0.N) :
    (dats m 0 c).flushed 6 t = ((cfg0.win 6).blk t).view.read (Elt Ideal) (G6 m c) := by
  have hN := (idx t).2
  have hi := (idx t).1.2.2.2.2.2.2
  rw [flushed6, out_eq, blk0, blk1, blk2, blk3, blk4, blk5]
  funext y
  have hy0 : (y 0).val < 512 := (y 0).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  rw [hi] at hb0 hb1
  have e0 : ((cfg0.win 6).blk t).view.emb y 0
      = (⟨(512 * t.val + (y 0).val) % 16384, Nat.mod_lt _ (by decide)⟩ : Fin 16384) :=
    Fin.ext (hb0.trans (by show t.val * 512 + 1 * (y 0).val = (512 * t.val + (y 0).val) % 16384; omega))
  have e1 : ((cfg0.win 6).blk t).view.emb y 1 = (⟨(y 1).val, (y 1).isLt⟩ : Fin 1024) :=
    Fin.ext (hb1.trans (by show 0 * 1024 + 1 * (y 1).val = (y 1).val; omega))
  have hx : (cfg0.win 6).xinj (grid0.coords t) y = ix2 (⟨(y 0).val, hy0⟩ : Fin 512) (⟨(y 1).val, (y 1).isLt⟩ : Fin 1024) := by
    funext a; match a with
    | ⟨0, _⟩ => rfl
    | ⟨1, _⟩ => rfl
  refine (congrArg (pay _ _ _ _ _ _) hx).trans ((pay_apply _ _ _ _ _ _ _ _).trans ?_)
  refine Eq.trans ?_ (congrArg₂ (fun (a : Fin 16384) (b : Fin 1024) => G6 m c (ix2 a b)) e0 e1).symm
  exact congrFun (congrArg₂ normed (funext fun l => gated_congr l (fun _ => rfl) (gain m c) (gateWeights m c) (fun _ => rfl)
    (embWeights m c)) (funext (finalGain m c))) _

theorem mem_blk (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v4).slice (win0_6.rect t)).set ↔ _
  rw [View.set_slice_whole, Rect.mem_set_unit]
  exact Iff.rfl

/-- Every place of the array is some point's to write. -/
theorem covered (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, hf, ht⟩ := onto ⟨(i 0).val / 512, by omega⟩
  refine ⟨t, hf, ?_⟩
  rw [mem_blk, ht]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

/-- The array after the run. -/
theorem final (c : Dev nD) : (dats m 0 c).arrAt 6 cfg0.N = G6 m c :=
  (dats m 0 c).arrAt_eq_of_cover 6 _ (fun t _ => flushed_eq m c t) covered

end Cert.Kernel5Ideal.GateFinal

end
-- ==== Proof.GateFinalEquation.lean ====
/-
  The last layer's gate's call and its reference leave the same rows.
-/
module

public import proofs.«01_k».proof.Defs
public import proofs.«01_k».proof.Proof.GateFinal
public import proofs.«01_k».proof.Proof.Gen.Reference5Ideal.Run
public import proofs.«01_k».proof.Proof.Gen.Kernel5Ideal.Launch

@[expose] public section

set_option maxRecDepth 16384

noncomputable section

namespace Cert.GateFinalEquation

open Idealize.ShloMosaic Idealize.ShloMosaic.TcCoe Idealize.SL.Sem
open Cert.Reference5Ideal Cert.Reference5Ideal.Gen Cert.Rows Cert.Kernel5Ideal.GateFinal

instance : Cert.Reference5Ideal.Facts := Cert.Reference5Ideal.Gen.facts
instance : Cert.Kernel5Ideal.Facts := Cert.Kernel5Ideal.Gen.facts

theorem referenceFrame : Cert.quiescent_Reference5Ideal := fun m ρ _ =>
  (θ_run (Cert.Reference5Ideal.defs (F := Ideal)) _ _).mono
    (fun r h => And.intro (fun c => (h c).2) (sem_eq_zero_of_no_sems (by decide) r.2)) (Cert.Reference5Ideal.Value.run m ρ)

/-- The reference's rows. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35)
          = target (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r h c => ⟨(h c).1.trans ?_, (h c).2⟩) (Cert.Reference5Ideal.Value.run m ρ)
  clear h
  funext i
  idx_vars i
  pointwise [Cert.Reference5Ideal.Value.res_main_v35, target, gated, dot, normed, scale, sigmoid]

theorem algebraic : Cert.algebraic_Kernel5Ideal_Reference5Ideal := by
  intro m g m' g' _ agree
  refine ⟨fun c => G6 m c, ?_, ?_⟩
  · exact (θ_run (Cert.Kernel5Ideal.defs (F := Ideal)) _ _).mono
      (fun r h c => ⟨(h c).1.trans (final m c), (h c).2⟩) (Cert.Kernel5Ideal.Value.run_blocks m g)
  · refine (θ_run (defs (F := Ideal)) _ _).mono (fun r h c => ⟨(h c).1.trans ?_, (h c).2⟩) (reference_run m' g')
    obtain ⟨h0, h1, h2, h3, h4, h5⟩ := agree c
    rw [h0, h1, h2, h3, h4, h5]
    rfl

end Cert.GateFinalEquation

end
-- ==== Proof.LruScan.lean ====
/-
  The recurrence h ↦ a·h + b over the extended reals, run one step at a time (`hs`) and by doubling: `AA a n t` is the
  product of the `n` factors ending at `t`, and `BB a b n t` what those `n` steps add to a start of zero. Two adjoining
  stretches combine into one (`AA_add`, `BB_add`), and a stretch applied to a state is `n` steps (`hs_stretch`).
-/
module

public import Mathlib.Data.EReal.Operations
public import Mathlib.Data.EReal.Inv

@[expose] public section

noncomputable section

namespace Cert.Lru

/-- The product of the `n` factors ending at `t`. -/
def AA (a : ℕ → EReal) : ℕ → ℕ → EReal
  | 0, _ => 1
  | n + 1, t => AA a n t * a (t - n)

/-- What the `n` steps ending at `t` add to a start of zero. -/
def BB (a b : ℕ → EReal) : ℕ → ℕ → EReal
  | 0, _ => 0
  | n + 1, t => AA a n t * b (t - n) + BB a b n t

/-- The state before step `t`, from `h0`. -/
def hs (a b : ℕ → EReal) (h0 : EReal) : ℕ → EReal
  | 0 => h0
  | t + 1 => a t * hs a b h0 t + b t

/-- Factors that are nonnegative reals. -/
def Factors (a : ℕ → EReal) : Prop := ∀ t, ∃ r : ℝ, 0 ≤ r ∧ a t = (r : EReal)

variable {a b : ℕ → EReal}

theorem AA_real (ha : Factors a) (n t : ℕ) : ∃ r : ℝ, 0 ≤ r ∧ AA a n t = (r : EReal) := by
  induction n with
  | zero => exact ⟨1, zero_le_one, rfl⟩
  | succ n ih =>
    obtain ⟨r, hr, e⟩ := ih
    obtain ⟨q, hq, f⟩ := ha (t - n)
    exact ⟨r * q, mul_nonneg hr hq, by rw [AA, e, f, EReal.coe_mul]⟩

/-- A product of factors distributes over any sum. -/
theorem AA_mul_add (ha : Factors a) (n t : ℕ) (x y : EReal) : AA a n t * (x + y) = AA a n t * x + AA a n t * y := by
  obtain ⟨r, hr, e⟩ := AA_real ha n t
  rw [e]
  exact EReal.left_distrib_of_nonneg_of_ne_top (EReal.coe_nonneg.mpr hr) (EReal.coe_ne_top r) x y

theorem AA_add (a : ℕ → EReal) (n m t : ℕ) : AA a (n + m) t = AA a n t * AA a m (t - n) := by
  induction m with
  | zero => rw [Nat.add_zero, AA, mul_one]
  | succ m ih => rw [← Nat.add_assoc, AA, AA, ih, Nat.sub_sub, mul_assoc]

theorem BB_add (ha : Factors a) (n m t : ℕ) : BB a b (n + m) t = AA a n t * BB a b m (t - n) + BB a b n t := by
  induction m with
  | zero => rw [Nat.add_zero, BB, mul_zero, zero_add]
  | succ m ih => rw [← Nat.add_assoc, BB, BB, ih, AA_add, AA_mul_add ha, Nat.sub_sub, mul_assoc, add_assoc]

theorem hs_stretch (ha : Factors a) (h0 : EReal) (n : ℕ) :
    ∀ s t : ℕ, t + 1 = s + n → hs a b h0 (t + 1) = AA a n t * hs a b h0 s + BB a b n t := by
  induction n with
  | zero => intro s t h; rw [AA, BB, one_mul, add_zero, h, Nat.add_zero]
  | succ n ih =>
    intro s t h
    have e : t - n = s := by omega
    rw [ih (s + 1) t (by omega), hs, AA_mul_add ha, AA, BB, e, mul_assoc, add_assoc]

/-- After `t + 1` steps the state is the whole stretch applied to the start. -/
theorem hs_whole (ha : Factors a) (h0 : EReal) (t : ℕ) :
    hs a b h0 (t + 1) = AA a (t + 1) t * h0 + BB a b (t + 1) t :=
  hs_stretch ha h0 (t + 1) 0 t (Nat.zero_add _).symm

/-- The recurrence restarted at `s`. -/
theorem hs_shift (a b : ℕ → EReal) (h0 : EReal) (s n : ℕ) :
    hs a b h0 (s + n) = hs (fun i => a (s + i)) (fun i => b (s + i)) (hs a b h0 s) n := by
  induction n with
  | zero => rfl
  | succ n ih => rw [← Nat.add_assoc, hs, ih]; rfl

/-- Doubling a stretch of at most `s` steps at row `r`. -/
theorem AA_double (a : ℕ → EReal) (s r : ℕ) (h : s ≤ r) :
    AA a (min s (r + 1)) r * AA a (min s (r - s + 1)) (r - s) = AA a (min (s + s) (r + 1)) r := by
  have e1 : min s (r + 1) = s := by omega
  have e2 : min (s + s) (r + 1) = s + min s (r - s + 1) := by omega
  rw [e1, e2, AA_add]

theorem BB_double (ha : Factors a) (s r : ℕ) (h : s ≤ r) :
    AA a (min s (r + 1)) r * BB a b (min s (r - s + 1)) (r - s) + BB a b (min s (r + 1)) r = BB a b (min (s + s) (r + 1)) r := by
  have e1 : min s (r + 1) = s := by omega
  have e2 : min (s + s) (r + 1) = s + min s (r - s + 1) := by omega
  rw [e1, e2, BB_add ha]

theorem min_double (s r : ℕ) (h : ¬s ≤ r) : min s (r + 1) = min (s + s) (r + 1) := by omega

/-- Sequences that agree on the steps of a stretch give the same one. -/
theorem AA_congr {a a' : ℕ → EReal} (n t : ℕ) (h : ∀ i, i ≤ t → a i = a' i) : AA a n t = AA a' n t := by
  induction n with
  | zero => rfl
  | succ n ih => rw [AA, AA, ih, h _ (Nat.sub_le _ _)]

end Cert.Lru

end
-- ==== Proof.LruSpec.lean ====
/-
  The recurrence's call, entry by entry: the convolution, the two gates, the recurrence's factors and terms, and what is
  made of its states. Rows are numbered by naturals, taken modulo the number of rows.
-/
module

public import proofs.«01_k».proof.Proof.LruScan
public import proofs.«01_k».proof.Proof.Retention
public import Idealize.ShloMosaic.Lib.Pointwise

@[expose] public section

noncomputable section

namespace Cert.Lru

open Idealize.ShloMosaic Cert.Retention

/-- The logistic function. -/
def logis (z : EReal) : EReal := Ideal.div 1 (1 + Ideal.exp (-z))

/-- The softplus. -/
def sp (s : EReal) : EReal := max s 0 + Ideal.log1p (Ideal.exp (-max s (-s)))

/-- A factor's logarithm, of the recurrence gate and the lane's parameter. -/
def logA (r lam : EReal) : EReal := Ideal.ofBits .f32 0xC1000000#32 * r * sp (-lam)

/-- The square root of one less the factor's square. -/
def gain (la : EReal) : EReal := Ideal.sqrt (-Ideal.expm1 (Ideal.ofBits .f32 0x40000000#32 * la))

/-- The arrays of a call. -/
structure Args where
  x : Fin 16384 → Fin 512 → EReal
  cw : Fin 4 → Fin 256 → EReal
  cb : Fin 256 → EReal
  wa : Fin 4 → Fin 64 → Fin 64 → EReal
  ba : Fin 256 → EReal
  wx : Fin 4 → Fin 64 → Fin 64 → EReal
  bx : Fin 256 → EReal
  lam : Fin 256 → EReal
  bn : Fin 256 → EReal

/-- Row `n` of the last 256 columns, with three zero rows before the first. -/
def xp (P : Args) (n : ℕ) (l : Fin 256) : EReal :=
  if n < 3 then 0 else P.x ⟨(n - 3) % 16384, Nat.mod_lt _ (by decide)⟩ ⟨256 + l.val, by omega⟩

/-- The convolution at row `t`. -/
def cv (P : Args) (t : ℕ) (l : Fin 256) : EReal :=
  P.cw 0 l * xp P t l + P.cw 1 l * xp P (t + 1) l + P.cw 2 l * xp P (t + 2) l + P.cw 3 l * xp P (t + 3) l + P.cb l

/-- A gate at row `t`: each head's block of weights on the head's own lanes. -/
def gt (P : Args) (w : Fin 4 → Fin 64 → Fin 64 → EReal) (b : Fin 256 → EReal) (t : ℕ) (h : Fin 4) (e : Fin 64) : EReal :=
  logis (∑ d, w h d e * cv P t (own h d) + b (own h e))

/-- The factor of row `t`. -/
def fac (P : Args) (h : Fin 4) (e : Fin 64) (t : ℕ) : EReal := Ideal.exp (logA (gt P P.wa P.ba t h e) (P.lam (own h e)))

/-- The term of row `t`. -/
def trm (P : Args) (h : Fin 4) (e : Fin 64) (t : ℕ) : EReal :=
  gain (logA (gt P P.wa P.ba t h e) (P.lam (own h e))) * (gt P P.wx P.bx t h e * cv P t (own h e))

/-- The state after row `t`. -/
def st (P : Args) (t : ℕ) (h : Fin 4) (e : Fin 64) : EReal := hs (fac P h e) (trm P h e) 0 (t + 1)

/-- The gate's smooth step. -/
def gelu (g : EReal) : EReal :=
  g * (Ideal.ofBits .f32 0x3F000000#32 * (1
    + Ideal.tanh (Ideal.ofBits .f32 0x3F4C422A#32 * (g + Ideal.ofBits .f32 0x3D372713#32 * (g * g * g)))))

/-- A row of gated states, normalised. -/
def normed (g s bn : Fin 256 → EReal) (l : Fin 256) : EReal :=
  gelu (g l) * s l * Ideal.rsqrt (Ideal.div (∑ i, gelu (g i) * s i * (gelu (g i) * s i)) (Ideal.ofBits .f32 0x43800000#32)
    + Ideal.ofBits .f32 0x358637BD#32) * bn l

end Cert.Lru
end
-- ==== Proof.LruDouble.lean ====
/-
  The doubling steps of the recurrence's block: nine steps at distances 1, 2, …, 256 over 512 rows, as the body computes
  them (`dblA`, `dblB`), and what they hold at each row (`Holds`).
-/
module

public import proofs.«01_k».proof.Proof.LruScan
public import proofs.«01_k».proof.Proof.Gen.Kernel6Ideal.Skeleton
public import Idealize.ShloMosaic.Lib.Pipeline.ValueKit

@[expose] public section

set_option maxRecDepth 16384

noncomputable section

namespace Cert.Kernel6Ideal.Double

open Idealize.ShloMosaic Idealize.SL.Sem Cert.Kernel6Ideal Cert.Kernel6Ideal.Gen Cert.Lru

abbrev M (s : Shape) := Vec Ideal s .f32

/-- Which rows have a row `k` before them in the block. -/
def far (k : BitVec 32) : IVec S512x256 1 :=
  broadcastTo S512x256 (shapeCast S512x1 (cmpi .sge (iota .tc S512x1 32 [0] iota_S512x1_d0_w32) (broadcast S512x1 k)) shapeCasts_S512x1_S512x1) broadcasts_S512x1_S512x256

/-- One doubling of the products. -/
def dblA (k : BitVec 32) (A : M S512x256) : M S512x256 :=
  select (far k) (mulf (F := Ideal) (φ := .f32) A (dynamicRotate 0 k none A rotates_S512x256_d0)) A

/-- One doubling of the sums. -/
def dblB (k : BitVec 32) (A B : M S512x256) : M S512x256 :=
  select (far k) (addf (F := Ideal) (φ := .f32) (mulf (F := Ideal) (φ := .f32) A (dynamicRotate 0 k none B rotates_S512x256_d0)) B) B

theorem far_at (k : BitVec 32) (hk : k.toNat < 512) (r : Fin 512) :
    IntOp.cmpi .sge (BitVec.ofNat 32 r.val) k = if k.toNat ≤ r.val then 1#1 else 0#1 := by
  have hr : r.val < 512 := r.isLt
  have e1 : (BitVec.ofNat 32 r.val).toNat = r.val := by rw [BitVec.toNat_ofNat]; omega
  have i1 : (BitVec.ofNat 32 r.val).toInt = r.val := by
    rw [BitVec.toInt_eq_toNat_of_lt (by rw [e1]; omega), e1]
  have i2 : k.toInt = k.toNat := BitVec.toInt_eq_toNat_of_lt (by omega)
  have e : k.sle (BitVec.ofNat 32 r.val) = decide (k.toNat ≤ r.val) := by
    rw [BitVec.sle, i1, i2]; simp
  by_cases h : k.toNat ≤ r.val
  · simp [IntOp.cmpi, e, h]
  · simp [IntOp.cmpi, e, h]

/-- A value is picked by whether the row has a row `k` before it. -/
theorem pick (k : BitVec 32) (hk : k.toNat < 512) (r : Fin 512) (l : Fin 256) (X : M S512x256) (f : EReal → EReal) (y : EReal) :
    Scalar.select (IntOp.cmpi .sge (BitVec.ofNat 32 r.val) k)
        (f (X (ix2 (⟨(r.val + 512 - k.toNat % 512) % 512, Nat.mod_lt _ (by decide)⟩ : Fin 512) l))) y
      = if k.toNat ≤ r.val then f (X (ix2 (⟨r.val - k.toNat, lt_of_le_of_lt (Nat.sub_le _ _) r.isLt⟩ : Fin 512) l)) else y := by
  have hr : r.val < 512 := r.isLt
  rw [far_at k hk]
  by_cases h : k.toNat ≤ r.val
  · rw [if_pos h, if_pos h]
    show f _ = f _
    refine congrArg (fun z => f (X (ix2 z l))) (Fin.ext ?_)
    show (r.val + 512 - k.toNat % 512) % 512 = r.val - k.toNat
    rw [Nat.mod_eq_of_lt hk]
    omega
  · rw [if_neg h, if_neg h]
    rfl

theorem dblA_at (k : BitVec 32) (hk : k.toNat < 512) (A : M S512x256) (r : Fin 512) (l : Fin 256) :
    (dblA k A (ix2 r l) : EReal) = if k.toNat ≤ r.val
      then (A (ix2 r l) : EReal) * A (ix2 (⟨r.val - k.toNat, lt_of_le_of_lt (Nat.sub_le _ _) r.isLt⟩ : Fin 512) l) else A (ix2 r l) := by
  pointwise [dblA, far]
  exact pick k hk r l A (fun z => A (ix2 r l) * z) _

theorem dblB_at (k : BitVec 32) (hk : k.toNat < 512) (A B : M S512x256) (r : Fin 512) (l : Fin 256) :
    (dblB k A B (ix2 r l) : EReal) = if k.toNat ≤ r.val
      then (A (ix2 r l) : EReal) * B (ix2 (⟨r.val - k.toNat, lt_of_le_of_lt (Nat.sub_le _ _) r.isLt⟩ : Fin 512) l) + B (ix2 r l)
      else B (ix2 r l) := by
  pointwise [dblB, far]
  exact pick k hk r l B (fun z => A (ix2 r l) * z + B (ix2 r l)) _

/-- What two tensors hold after the doublings up to distance `s`: at each row the stretch of the last `s` steps, or of as
    many as the block has. -/
def Holds (a b : Fin 256 → ℕ → EReal) (s : ℕ) (A B : M S512x256) : Prop :=
  ∀ (r : Fin 512) (l : Fin 256), (A (ix2 r l) : EReal) = AA (a l) (min s (r.val + 1)) r.val
    ∧ (B (ix2 r l) : EReal) = BB (a l) (b l) (min s (r.val + 1)) r.val

theorem Holds.double {a b : Fin 256 → ℕ → EReal} (ha : ∀ l, Factors (a l)) {s : ℕ} {A B : M S512x256} (h : Holds a b s A B)
    (k : BitVec 32) (hk : k.toNat = s) (hs : s < 512) : Holds a b (s + s) (dblA k A) (dblB k A B) := by
  intro r l
  rw [dblA_at k (by omega), dblB_at k (by omega), hk]
  by_cases hr : s ≤ r.val
  · rw [if_pos hr, if_pos hr, (h r l).1, (h r l).2, (h _ l).1, (h _ l).2]
    exact ⟨AA_double (a l) s r.val hr, BB_double (ha l) s r.val hr⟩
  · rw [if_neg hr, if_neg hr, (h r l).1, (h r l).2, ← min_double s r.val hr]
    exact ⟨rfl, rfl⟩

/-- The sums after the first three doublings. -/
def B3 (A B : M S512x256) : M S512x256 :=
  dblB 4#32 (dblA 2#32 (dblA 1#32 A)) (dblB 2#32 (dblA 1#32 A) (dblB 1#32 A B))

/-- The products after the first three doublings. -/
def A3 (A : M S512x256) : M S512x256 := dblA 4#32 (dblA 2#32 (dblA 1#32 A))

/-- The sums after the doublings at 8, 16, 32 and 64, over products `A` and sums `B` of eight steps. -/
def B7 (A B : M S512x256) : M S512x256 :=
  dblB 64#32 (dblA 32#32 (dblA 16#32 (dblA 8#32 A))) (dblB 32#32 (dblA 16#32 (dblA 8#32 A)) (dblB 16#32 (dblA 8#32 A) (dblB 8#32 A B)))

/-- The products after the doublings at 8, 16, 32 and 64. -/
def A7 (A : M S512x256) : M S512x256 := dblA 64#32 (dblA 32#32 (dblA 16#32 (dblA 8#32 A)))

/-- The sums after the doublings at 128 and 256. -/
def B2 (A B : M S512x256) : M S512x256 := dblB 256#32 (dblA 128#32 A) (dblB 128#32 A B)

/-- The products after the doublings at 128 and 256. -/
def A2 (A : M S512x256) : M S512x256 := dblA 256#32 (dblA 128#32 A)

/-- The block's states, over the state `hp` that entered it. -/
def hOf (A B : M S512x256) (hp : M S1x256) : M S512x256 :=
  addf (F := Ideal) (φ := .f32) (B2 (A7 (A3 A)) (B7 (A3 A) (B3 A B)))
    (mulf (F := Ideal) (φ := .f32) (A2 (A7 (A3 A))) (broadcastTo S512x256 hp broadcasts_S1x256_S512x256))

/-- Row `r` of the block's states is the state after `r + 1` steps. -/
theorem hOf_at (a b : Fin 256 → ℕ → EReal) (ha : ∀ l, Factors (a l)) (A B : M S512x256)
    (hA : ∀ (r : Fin 512) (l : Fin 256), (A (ix2 r l) : EReal) = a l r.val)
    (hB : ∀ (r : Fin 512) (l : Fin 256), (B (ix2 r l) : EReal) = b l r.val) (hp : M S1x256) (r : Fin 512) (l : Fin 256) :
    (hOf A B hp (ix2 r l) : EReal) = hs (a l) (b l) (hp (ix2 0 l)) (r.val + 1) := by
  have h0 : Holds a b 1 A B := by
    intro r l
    have e : min 1 (r.val + 1) = 1 := by omega
    rw [hA, hB, e, AA, AA, BB, AA, BB, Nat.sub_zero, one_mul, one_mul, add_zero]
    exact ⟨rfl, rfl⟩
  have h1 := ((h0.double ha 1#32 rfl (by decide)).double ha 2#32 rfl (by decide)).double ha 4#32 rfl (by decide)
  have h2 := (((h1.double ha 8#32 rfl (by decide)).double ha 16#32 rfl (by decide)).double ha 32#32 rfl (by decide)).double ha 64#32 rfl (by decide)
  have h3 := (h2.double ha 128#32 rfl (by decide)).double ha 256#32 rfl (by decide)
  have e : min 512 (r.val + 1) = r.val + 1 := by omega
  have hA9 : (A2 (A7 (A3 A)) (ix2 r l) : EReal) = AA (a l) (r.val + 1) r.val := by
    rw [← e]; exact (h3 r l).1
  have hB9 : (B2 (A7 (A3 A)) (B7 (A3 A) (B3 A B)) (ix2 r l) : EReal) = BB (a l) (b l) (r.val + 1) r.val := by
    rw [← e]; exact (h3 r l).2
  pointwise [hOf]
  rw [hA9, hB9, hs_whole (ha l), add_comm]

/-- The block's row numbers. -/
abbrev rowIds : IVec S512x1 32 := iota .tc S512x1 32 [0] iota_S512x1_d0_w32

/-- What a block's steps add. -/
def inB (v36 v84 : M S512x256) (v106 : IVec S512x256 1) (v114 : M S512x256) (cst : Ideal .f32) : M S512x256 :=
  mulf (F := Ideal) (φ := .f32) (sqrt (F := Ideal) (φ := .f32)
      (subf (F := Ideal) (φ := .f32) (broadcast S512x256 (Scalar.ofBits (F := Ideal) .f32 0x00000000#32)) (select v106 (broadcast S512x256 cst) v114)))
    (mulf (F := Ideal) (φ := .f32) v84 v36)

theorem pay25 (v36 v84 a : M S512x256) (v106 : IVec S512x256 1) (v114 : M S512x256) (cst : Ideal .f32) :
    k0_pay25 (F := Ideal) v36 v84 a v106 v114 cst = B3 a (inB v36 v84 v106 v114 cst) := rfl
theorem pay26 (a : M S512x256) : k0_pay26 (F := Ideal) a = A3 a := rfl
theorem pay34 (A B : M S512x256) : k0_pay34 (F := Ideal) rowIds B A k0_pay27 = B7 A B := rfl
theorem pay37 (A B : M S512x256) (hp : M S1x256) :
    k0_pay37 (F := Ideal) rowIds (k0_pay32 (F := Ideal) rowIds A k0_pay27) B (k0_pay35 (F := Ideal) rowIds A k0_pay27) (k0_pay36 rowIds) hp
      = addf (F := Ideal) (φ := .f32) (B2 (A7 A) B)
          (mulf (F := Ideal) (φ := .f32) (A2 (A7 A)) (broadcastTo S512x256 hp broadcasts_S1x256_S512x256)) := rfl

/-- The state that leaves a block: its last row. -/
def lastRow (h : M S512x256) : M S1x256 :=
  shapeCast S1x256 (extractStridedSlice S1x256 ![511, 0] h slices_S512x256_o511_0_S1x256) shapeCasts_S1x256_S1x256

theorem pay38 (A B : M S512x256) (hp : M S1x256) :
    k0_pay38 (F := Ideal) rowIds (k0_pay32 (F := Ideal) rowIds A k0_pay27) B (k0_pay35 (F := Ideal) rowIds A k0_pay27) (k0_pay36 rowIds) hp
      = lastRow (addf (F := Ideal) (φ := .f32) (B2 (A7 A) B)
          (mulf (F := Ideal) (φ := .f32) (A2 (A7 A)) (broadcastTo S512x256 hp broadcasts_S1x256_S512x256))) := rfl

theorem lastRow_at (h : M S512x256) (u : Fin 1) (l : Fin 256) : lastRow h (ix2 u l) = h (ix2 (511 : Fin 512) l) := by
  pointwise [lastRow]

end Cert.Kernel6Ideal.Double

end
-- ==== Proof.LruBody.lean ====
/-
  What each grid point of the recurrence's call leaves: 512 rows of the result, the window of the convolution (the last
  eight rows, and the point's own), and the recurrence's last state. The arrays a point reads are `Ins`.
-/
module

public import proofs.«01_k».proof.Proof.LruDouble
public import proofs.«01_k».proof.Proof.Gen.Kernel6Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Body

open Idealize.ShloMosaic Idealize.ShloMosaic.TcCoe Idealize.SL.Sem Cert.Kernel6Ideal Cert.Kernel6Ideal.Gen Cert.Kernel6Ideal.Value
open Cert.Kernel6Ideal.Double

/-- The arrays a grid point reads. -/
structure Ins where
  x : M S16384x512
  cw : M S4x256
  cb : M S1x256
  wah : Vec Ideal S256x256 .bf16
  wal : Vec Ideal S256x256 .bf16
  ba : M S1x256
  wxh : Vec Ideal S256x256 .bf16
  wxl : Vec Ideal S256x256 .bf16
  bx : M S1x256
  lam : M S1x256
  bn : M S1x256

/-- The first 256 columns of the rows of point `t`: the gate. -/
def gate (x : M S16384x512) (t : ℕ) : M S512x256 := fun j =>
  x (ix2 ⟨(512 * t + (j 0).val) % 16384, Nat.mod_lt _ (by decide)⟩
    ⟨(j 1).val, by have h : (j 1).val < 256 := (j 1).isLt; omega⟩)

/-- Row `n` of the last 256 columns, with eight zero rows before the first. -/
def xpad (x : M S16384x512) (n : ℕ) (l : Fin 256) : Ideal .f32 :=
  if n < 8 then (0 : EReal) else x (ix2 ⟨(n - 8) % 16384, Nat.mod_lt _ (by decide)⟩ ⟨256 + l.val, by have h := l.isLt; omega⟩)

/-- The 512 padded rows from row `512t + j`: the point's own rows at `j = 8`, the rows one, two and three before them
    at 7, 6 and 5. -/
def tap (x : M S16384x512) (j t : ℕ) : M S512x256 := fun i => xpad x (512 * t + (i 0).val + j) (i 1)

/-- The eight padded rows from row `512t`: what the window keeps of the rows before point `t`. -/
def kept (x : M S16384x512) (t : ℕ) : M S8x256 := fun i => xpad x (512 * t + (i 0).val) (i 1)

/-- The window after point `t`: the eight rows the next point needs, and the point's own. -/
def left (x : M S16384x512) (t : ℕ) : M S520x256 := fun i =>
  if (i 0).val < 8 then xpad x (512 * (t + 1) + (i 0).val) (i 1) else xpad x (512 * t + (i 0).val) (i 1)

/-- Row `k` of the convolution's weights. -/
def wrow (w : M S4x256) (k : Fin 4) : M S1x256 := fun i => w (ix2 k (i 1))

/-- The convolution's sums before its bias. -/
def sums (I : Ins) (t : ℕ) : M S512x256 :=
  k0_pay5 (F := Ideal) (tap I.x 8 t) (wrow I.cw 3) (wrow I.cw 0) (tap I.x 5 t) (wrow I.cw 1) (tap I.x 6 t) (wrow I.cw 2) (tap I.x 7 t)

/-- The convolution. -/
def conv (I : Ins) (t : ℕ) : M S512x256 := k0_pay7 (F := Ideal) (sums I t) I.cb

/-- The recurrence gate. -/
def rGate (I : Ins) (t : ℕ) : M S512x256 := k0_pay8 (F := Ideal) (sums I t) I.cb I.wah I.wal I.ba

/-- The input gate. -/
def iGate (I : Ins) (t : ℕ) : M S512x256 :=
  k0_pay13 (F := Ideal) (k0_pay9 (F := Ideal) I.wxh) (k0_pay11 (F := Ideal) (sums I t) I.cb)
    (k0_pay12 (F := Ideal) (sums I t) I.cb I.wxh I.wxl) I.bx

/-- The recurrence's factors. -/
def aBlk (I : Ins) (t : ℕ) : M S512x256 := k0_pay15 (F := Ideal) (rGate I t) I.lam

/-- The recurrence's terms. -/
def bBlk (I : Ins) (t : ℕ) : M S512x256 :=
  inB (conv I t) (iGate I t) (k0_pay18 (F := Ideal) (rGate I t) I.lam) (k0_pay19 (F := Ideal) (rGate I t) I.lam)
    (Scalar.ofBits (F := Ideal) .f32 0xBF800000#32)

/-- The state that enters point `t`. -/
def stAt (I : Ins) : ℕ → M S1x256
  | 0 => k0_pay3 (F := Ideal)
  | t + 1 => lastRow (hOf (aBlk I t) (bBlk I t) (stAt I t))

/-- The states of point `t`'s rows. -/
def hBlk (I : Ins) (t : ℕ) : M S512x256 := hOf (aBlk I t) (bBlk I t) (stAt I t)

/-- The result's rows of point `t`. -/
def out (I : Ins) (t : ℕ) : Vec Ideal S512x256 .bf16 :=
  k0_pay1 (F := Ideal) (hBlk I t) (k0_pay39 (F := Ideal) (gate I.x t)) (k0_pay40 (F := Ideal) (gate I.x t)) (k0_pay41 (F := Ideal)) I.bn

variable (m : (ℓ : Loc nD τ sig) → Buf (Elt Ideal) ℓ)

/-- The arrays as the launch finds them. -/
def ins (c : Dev nD) : Ins where
  x := V m c main_arg0
  cw := V m c main_v35
  cb := V m c main_v37
  wah := V m c main_v17
  wal := V m c main_v20
  ba := V m c main_v39
  wxh := V m c main_v31
  wxl := V m c main_v34
  bx := V m c main_v41
  lam := V m c main_v43
  bn := V m c main_v44

/-- The windows' block indices: the row-blocked array at the point's rows, the others at the origin. -/
theorem idx : ∀ t : Fin cfg0.N, win0_0.index t = ![t.val, 0]
    ∧ (win0_1.index t = ![0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0])
    ∧ t.val < 32 :=
  (by decide +kernel : ∀ t : Fin grid0.N, _)

/-- The block of a whole table is the table. -/
theorem blk1 (c : Dev nD) (t : Fin cfg0.N) : iblk m c 1 t = (ins m c).cw := by
  have hi := (idx t).2.1.1
  refine Eq.trans (b := V m c main_v35) ?_ rfl
  generalize hV : V m c = W
  funext j
  blk_simp [iblk, hi]
  rw [hV]
  refine congrArg _ ?_
  blk_ext [hi]

theorem blk2 (c : Dev nD) (t : Fin cfg0.N) : iblk m c 2 t = (ins m c).cb := by
  have hi := (idx t).2.1.2.1
  refine Eq.trans (b := V m c main_v37) ?_ rfl
  generalize hV : V m c = W
  funext j
  blk_simp [iblk, hi]
  rw [hV]
  refine congrArg _ ?_
  blk_ext [hi]

theorem blk3 (c : Dev nD) (t : Fin cfg0.N) : iblk m c 3 t = (ins m c).wah := by
  have hi := (idx t).2.1.2.2.1
  refine Eq.trans (b := V m c main_v17) ?_ rfl
  generalize hV : V m c = W
  funext j
  blk_simp [iblk, hi]
  rw [hV]
  refine congrArg _ ?_
  blk_ext [hi]

theorem blk4 (c : Dev nD) (t : Fin cfg0.N) : iblk m c 4 t = (ins m c).wal := by
  have hi := (idx t).2.1.2.2.2.1
  refine Eq.trans (b := V m c main_v20) ?_ rfl
  generalize hV : V m c = W
  funext j
  blk_simp [iblk, hi]
  rw [hV]
  refine congrArg _ ?_
  blk_ext [hi]

theorem blk5 (c : Dev nD) (t : Fin cfg0.N) : iblk m c 5 t = (ins m c).ba := by
  have hi := (idx t).2.1.2.2.2.2.1
  refine Eq.trans (b := V m c main_v39) ?_ rfl
  generalize hV : V m c = W
  funext j
  blk_simp [iblk, hi]
  rw [hV]
  refine congrArg _ ?_
  blk_ext [hi]

theorem blk6 (c : Dev nD) (t : Fin cfg0.N) : iblk m c 6 t = (ins m c).wxh := by
  have hi := (idx t).2.1.2.2.2.2.2.1
  refine Eq.trans (b := V m c main_v31) ?_ rfl
  generalize hV : V m c = W
  funext j
  blk_simp [iblk, hi]
  rw [hV]
  refine congrArg _ ?_
  blk_ext [hi]

theorem blk7 (c : Dev nD) (t : Fin cfg0.N) : iblk m c 7 t = (ins m c).wxl := by
  have hi := (idx t).2.1.2.2.2.2.2.2.1
  refine Eq.trans (b := V m c main_v34) ?_ rfl
  generalize hV : V m c = W
  funext j
  blk_simp [iblk, hi]
  rw [hV]
  refine congrArg _ ?_
  blk_ext [hi]

theorem blk8 (c : Dev nD) (t : Fin cfg0.N) : iblk m c 8 t = (ins m c).bx := by
  have hi := (idx t).2.1.2.2.2.2.2.2.2.1
  refine Eq.trans (b := V m c main_v41) ?_ rfl
  generalize hV : V m c = W
  funext j
  blk_simp [iblk, hi]
  rw [hV]
  refine congrArg _ ?_
  blk_ext [hi]

theorem blk9 (c : Dev nD) (t : Fin cfg0.N) : iblk m c 9 t = (ins m c).lam := by
  have hi := (idx t).2.1.2.2.2.2.2.2.2.2.1
  refine Eq.trans (b := V m c main_v43) ?_ rfl
  generalize hV : V m c = W
  funext j
  blk_simp [iblk, hi]
  rw [hV]
  refine congrArg _ ?_
  blk_ext [hi]

theorem blk10 (c : Dev nD) (t : Fin cfg0.N) : iblk m c 10 t = (ins m c).bn := by
  have hi := (idx t).2.1.2.2.2.2.2.2.2.2.2
  refine Eq.trans (b := V m c main_v44) ?_ rfl
  generalize hV : V m c = W
  funext j
  blk_simp [iblk, hi]
  rw [hV]
  refine congrArg _ ?_
  blk_ext [hi]

/-- The row-blocked array at point `t` is its rows 512t … 512t+511. -/
theorem blk0 (c : Dev nD) (t : Fin cfg0.N) : iblk m c 0 t = fun j : S512x512.Idx =>
    (ins m c).x (ix2 ⟨(512 * t.val + (j 0).val) % 16384, Nat.mod_lt _ (by decide)⟩ (j 1)) := by
  have hN := (idx t).2.2
  have hi := (idx t).1
  funext j
  refine Eq.trans (b := V m c main_arg0 (ix2 ⟨(512 * t.val + (j 0).val) % 16384, Nat.mod_lt _ (by decide)⟩ (j 1))) ?_ rfl
  generalize hV : V m c = W
  blk_simp [iblk, hi]
  rw [hV]
  refine congrArg _ ?_
  blk_ext [hi]

/-- The loads of a point. -/
theorem ldx (c : Dev nD) (t : Fin cfg0.N) :
    View.ld (iblk m c 0 t) (Rect.unit ![0, 256] ![512, 256] inb_S512x512_S512x256_0_256) = tap (ins m c).x 8 t.val := by
  rw [blk0]
  funext j
  idx_vars j
  pointwise [tap, xpad]
  rw [if_neg (by omega)]
  refine congrArg _ ?_
  blk_ext
theorem ldg (c : Dev nD) (t : Fin cfg0.N) :
    View.ld (iblk m c 0 t) (Rect.unit ![0, 0] ![512, 256] inb_S512x512_S512x256_0_0) = gate (ins m c).x t.val := by
  rw [blk0]
  funext j
  idx_vars j
  pointwise [gate]
  blk_ext
theorem ldw0 (c : Dev nD) (t : Fin cfg0.N) :
    View.ld (iblk m c 1 t) (Rect.unit ![0, 0] ![1, 256] inb_S4x256_S1x256_0_0) = wrow (ins m c).cw 0 := by
  rw [blk1]
  funext j
  idx_vars j
  pointwise [wrow]
  blk_ext
theorem ldw1 (c : Dev nD) (t : Fin cfg0.N) :
    View.ld (iblk m c 1 t) (Rect.unit ![1, 0] ![1, 256] inb_S4x256_S1x256_1_0) = wrow (ins m c).cw 1 := by
  rw [blk1]
  funext j
  idx_vars j
  pointwise [wrow]
  blk_ext
theorem ldw2 (c : Dev nD) (t : Fin cfg0.N) :
    View.ld (iblk m c 1 t) (Rect.unit ![2, 0] ![1, 256] inb_S4x256_S1x256_2_0) = wrow (ins m c).cw 2 := by
  rw [blk1]
  funext j
  idx_vars j
  pointwise [wrow]
  blk_ext
theorem ldw3 (c : Dev nD) (t : Fin cfg0.N) :
    View.ld (iblk m c 1 t) (Rect.unit ![3, 0] ![1, 256] inb_S4x256_S1x256_3_0) = wrow (ins m c).cw 3 := by
  rw [blk1]
  funext j
  idx_vars j
  pointwise [wrow]
  blk_ext

end Cert.Kernel6Ideal.Body

end
-- ==== Proof.LruHost.lean ====
/-
  What the recurrence's launch is given: each gate's four 64-by-64 blocks of weights on the diagonal of a 256-by-256 array,
  that array less itself, and the rows of biases and scales.
-/
module

public import proofs.«01_k».proof.Proof.LruSpec
public import proofs.«01_k».proof.Proof.LruBody
public import proofs.«01_k».proof.Proof.Values
public import Idealize.ShloMosaic.Lib.Claim
public import Idealize.ShloMosaic.Lib.Tactic.CleanTypes
public import Idealize.ShloMosaic.Lib.StableHlo.RunRead

@[expose] public section

set_option maxRecDepth 16384

noncomputable section

namespace Cert.Kernel6Ideal.Host6

open Idealize.ShloMosaic Idealize.ShloMosaic.TcCoe Idealize.SL.Sem Cert.Kernel6Ideal Cert.Kernel6Ideal.Gen Cert.Kernel6Ideal.Value
open Cert.Kernel6Ideal.Body Cert.Retention

section
variable (m : (ℓ : Loc nD τ sig) → Buf (Elt Ideal) ℓ) (c : Dev nD)

theorem cw_apply (k : Fin 4) (l : Fin 256) : (V m c main_v35 : Vec Ideal S4x256 .f32) (ix2 k l)
    = (m ((c : Thread nD τ).loc main_arg1) : Vec Ideal S4x256 .f32) (ix2 k l) := by
  dsimp only [V]
  after_reads_simp
  pointwise
theorem cb_apply (l : Fin 256) : (V m c main_v37 : Vec Ideal S1x256 .f32) (ix2 0 l)
    = (m ((c : Thread nD τ).loc main_arg2) : Vec Ideal S256 .f32) (ix1 l) := by
  dsimp only [V]
  after_reads_simp
  pointwise
theorem ba_apply (l : Fin 256) : (V m c main_v39 : Vec Ideal S1x256 .f32) (ix2 0 l)
    = (m ((c : Thread nD τ).loc main_arg4) : Vec Ideal S256 .f32) (ix1 l) := by
  dsimp only [V]
  after_reads_simp
  pointwise
theorem bx_apply (l : Fin 256) : (V m c main_v41 : Vec Ideal S1x256 .f32) (ix2 0 l)
    = (m ((c : Thread nD τ).loc main_arg6) : Vec Ideal S256 .f32) (ix1 l) := by
  dsimp only [V]
  after_reads_simp
  pointwise
theorem lam_apply (l : Fin 256) : (V m c main_v43 : Vec Ideal S1x256 .f32) (ix2 0 l)
    = (m ((c : Thread nD τ).loc main_arg7) : Vec Ideal S256 .f32) (ix1 l) := by
  dsimp only [V]
  after_reads_simp
  pointwise
theorem bn_apply (l : Fin 256) : (V m c main_v44 : Vec Ideal S1x256 .f32) (ix2 0 l)
    = (m ((c : Thread nD τ).loc main_arg8) : Vec Ideal S256 .f32) (ix1 l) := by
  dsimp only [V]
  after_reads_simp
  pointwise

/-- The four blocks by number. -/
def four (w x y z : Vec Ideal S64x64 .f32) : Fin 4 → Vec Ideal S64x64 .f32
  | 0 => w
  | 1 => x
  | 2 => y
  | 3 => z

/-- Blocks padded to whole rows, one under the other. -/
def stack (B : Fin 4 → Vec Ideal S64x64 .f32) (a b : Fin 256) : EReal :=
    if h : a.val < 64 then
        pad S64x256 ![0, 0] ![0, 192] ![0, 0] (B 0) (constant (F := Ideal) S_ .f32 0#32) pads_S64x64_S64x256_000_01920 h_S_ (ix2 (⟨a.val, h⟩ : Fin 64) b)
      else if h : a.val - 64 < 64 then
        pad S64x256 ![0, 64] ![0, 128] ![0, 0] (B 1) (constant (F := Ideal) S_ .f32 0#32) pads_S64x64_S64x256_000_641280 h_S_ (ix2 (⟨a.val - 64, h⟩ : Fin 64) b)
      else if h : a.val - 64 - 64 < 64 then
        pad S64x256 ![0, 128] ![0, 64] ![0, 0] (B 2) (constant (F := Ideal) S_ .f32 0#32) pads_S64x64_S64x256_000_128640 h_S_ (ix2 (⟨a.val - 64 - 64, h⟩ : Fin 64) b)
      else
        pad S64x256 ![0, 192] ![0, 0] ![0, 0] (B 3) (constant (F := Ideal) S_ .f32 0#32) pads_S64x64_S64x256_000_19200 h_S_
          (ix2 (⟨a.val - 64 - 64 - 64, by omega⟩ : Fin 64) b)

/-- They make the diagonal. -/
theorem stack_eq (B : Fin 4 → Vec Ideal S64x64 .f32) (a b : Fin 256) :
    stack B a b = if a.val / 64 = b.val / 64 then B ⟨a.val / 64, by omega⟩ (ix2 (⟨a.val % 64, by omega⟩ : Fin 64) (⟨b.val % 64, by omega⟩ : Fin 64))
        else (0 : EReal) := by
  have key : ∀ (g : Fin 4) (x y : Fin 64), a.val / 64 = g.val → x.val = a.val % 64 → y.val = b.val % 64 →
      B g (ix2 x y) = B ⟨a.val / 64, by omega⟩ (ix2 (⟨a.val % 64, by omega⟩ : Fin 64) (⟨b.val % 64, by omega⟩ : Fin 64)) := by
    intro g x y h1 h2 h3
    rw [show (⟨a.val / 64, by omega⟩ : Fin 4) = g from Fin.ext h1, show x = ⟨a.val % 64, by omega⟩ from Fin.ext h2,
      show y = ⟨b.val % 64, by omega⟩ from Fin.ext h3]
  have ha := a.isLt
  have hb := b.isLt
  unfold stack
  pointwise
  split_ifs <;> first
    | rfl
    | (exfalso; omega)
    | exact key 0 _ _ (by show _ = 0; omega) (by dsimp only; omega) (by dsimp only; omega)
    | exact key 1 _ _ (by show _ = 1; omega) (by dsimp only; omega) (by dsimp only; omega)
    | exact key 2 _ _ (by show _ = 2; omega) (by dsimp only; omega) (by dsimp only; omega)
    | exact key 3 _ _ (by show _ = 3; omega) (by dsimp only; omega) (by dsimp only; omega)

/-- The four blocks of the recurrence gate laid on the diagonal. -/
theorem v16_diag (W : (b : DevRef τ sig) → b.ty.Contents (Elt Ideal)) (a b : Fin 256) :
    (StableHlo.after hostOps0_1 W (Proc.tc.devRef main_v16) : Vec Ideal S256x256 .f32) (ix2 a b)
      = if a.val / 64 = b.val / 64 then four (W (Proc.tc.devRef main_v9)) (W (Proc.tc.devRef main_v11))
          (W (Proc.tc.devRef main_v13)) (W (Proc.tc.devRef main_v15)) ⟨a.val / 64, by omega⟩
          (ix2 (⟨a.val % 64, by omega⟩ : Fin 64) (⟨b.val % 64, by omega⟩ : Fin 64)) else (0 : EReal) := by
  refine Eq.trans ?_ (stack_eq (four (W (Proc.tc.devRef main_v9)) (W (Proc.tc.devRef main_v11))
    (W (Proc.tc.devRef main_v13)) (W (Proc.tc.devRef main_v15))) a b)
  unfold_abbrev_sides
  after_reads_simp
  simp only [StableHlo.TRef.ofBuf, StableHlo.TRef.toBuf]
  clean_types
  simp only [cast_eq]
  pointwise
  after_reads_simp
  simp only [StableHlo.TRef.ofBuf, StableHlo.TRef.toBuf]
  clean_types
  simp only [cast_eq]
  rfl

/-- The four blocks of the input gate laid on the diagonal. -/
theorem v30_diag (W : (b : DevRef τ sig) → b.ty.Contents (Elt Ideal)) (a b : Fin 256) :
    (StableHlo.after hostOps0_3 W (Proc.tc.devRef main_v30) : Vec Ideal S256x256 .f32) (ix2 a b)
      = if a.val / 64 = b.val / 64 then four (W (Proc.tc.devRef main_v23)) (W (Proc.tc.devRef main_v25))
          (W (Proc.tc.devRef main_v27)) (W (Proc.tc.devRef main_v29)) ⟨a.val / 64, by omega⟩
          (ix2 (⟨a.val % 64, by omega⟩ : Fin 64) (⟨b.val % 64, by omega⟩ : Fin 64)) else (0 : EReal) := by
  refine Eq.trans ?_ (stack_eq (four (W (Proc.tc.devRef main_v23)) (W (Proc.tc.devRef main_v25))
    (W (Proc.tc.devRef main_v27)) (W (Proc.tc.devRef main_v29))) a b)
  unfold_abbrev_sides
  after_reads_simp
  simp only [StableHlo.TRef.ofBuf, StableHlo.TRef.toBuf]
  clean_types
  simp only [cast_eq]
  pointwise
  after_reads_simp
  simp only [StableHlo.TRef.ofBuf, StableHlo.TRef.toBuf]
  clean_types
  simp only [cast_eq]
  rfl

/-- The blocks of the recurrence gate's weights are its argument's. -/
theorem wa_blocks (d e : Fin 64) : ∀ g : Fin 4,
    four (StableHlo.after hostOps0 (fun b => m (c, b)) (Proc.tc.devRef main_v9))
      (StableHlo.after hostOps0 (fun b => m (c, b)) (Proc.tc.devRef main_v11))
      (StableHlo.after hostOps0 (fun b => m (c, b)) (Proc.tc.devRef main_v13))
      (StableHlo.after hostOps0 (fun b => m (c, b)) (Proc.tc.devRef main_v15)) g (ix2 d e)
      = (m ((c : Thread nD τ).loc main_arg3) : Vec Ideal S4x64x64 .f32) (ix3 g d e)
  | 0 => by
    show (StableHlo.after hostOps0 (fun b => m (c, b)) (Proc.tc.devRef main_v9) : Vec Ideal S64x64 .f32) (ix2 d e) = _
    unfold_abbrev_sides
    after_reads_simp
    pointwise
  | 1 => by
    show (StableHlo.after hostOps0 (fun b => m (c, b)) (Proc.tc.devRef main_v11) : Vec Ideal S64x64 .f32) (ix2 d e) = _
    unfold_abbrev_sides
    after_reads_simp
    pointwise
  | 2 => by
    show (StableHlo.after hostOps0 (fun b => m (c, b)) (Proc.tc.devRef main_v13) : Vec Ideal S64x64 .f32) (ix2 d e) = _
    unfold_abbrev_sides
    after_reads_simp
    pointwise
  | 3 => by
    show (StableHlo.after hostOps0 (fun b => m (c, b)) (Proc.tc.devRef main_v15) : Vec Ideal S64x64 .f32) (ix2 d e) = _
    unfold_abbrev_sides
    after_reads_simp
    pointwise

/-- The weights of the recurrence gate, on the diagonal. -/
theorem wah_apply (a b : Fin 256) : (V m c main_v17 : Vec Ideal S256x256 .bf16) (ix2 a b)
    = if a.val / 64 = b.val / 64 then (m ((c : Thread nD τ).loc main_arg3) : Vec Ideal S4x64x64 .f32)
        (ix3 (⟨a.val / 64, by omega⟩ : Fin 4) (⟨a.val % 64, by omega⟩ : Fin 64) (⟨b.val % 64, by omega⟩ : Fin 64)) else (0 : EReal) := by
  have k := v16_diag (StableHlo.after hostOps0 (fun b => m (c, b))) a b
  rw [wa_blocks m c] at k
  refine Eq.trans ?_ k
  clear k
  unfold_abbrev_sides
  simp only [List.flatten_cons, List.flatten_nil, List.append_nil, StableHlo.after_append]
  generalize hF : StableHlo.after (hostOps0_1 (F := Ideal)) _ = F
  unfold_abbrev_sides
  after_reads_simp
  pointwise

/-- And less themselves. -/
theorem wal_apply (a b : Fin 256) (w : EReal) (h : (V m c main_v17 : Vec Ideal S256x256 .bf16) (ix2 a b) = w) :
    (V m c main_v20 : Vec Ideal S256x256 .bf16) (ix2 a b) = w - w := by
  subst h
  dsimp only [V]
  after_reads_simp
  pointwise

/-- The blocks of the input gate's weights are its argument's. -/
theorem wx_blocks (d e : Fin 64) : ∀ g : Fin 4,
    four (StableHlo.after hostOps0_2 (StableHlo.after hostOps0_1 (StableHlo.after hostOps0 fun b => m (c, b))) (Proc.tc.devRef main_v23))
      (StableHlo.after hostOps0_2 (StableHlo.after hostOps0_1 (StableHlo.after hostOps0 fun b => m (c, b))) (Proc.tc.devRef main_v25))
      (StableHlo.after hostOps0_2 (StableHlo.after hostOps0_1 (StableHlo.after hostOps0 fun b => m (c, b))) (Proc.tc.devRef main_v27))
      (StableHlo.after hostOps0_2 (StableHlo.after hostOps0_1 (StableHlo.after hostOps0 fun b => m (c, b))) (Proc.tc.devRef main_v29)) g (ix2 d e)
      = (m ((c : Thread nD τ).loc main_arg5) : Vec Ideal S4x64x64 .f32) (ix3 g d e)
  | 0 => by
    show (StableHlo.after hostOps0_2 (StableHlo.after hostOps0_1 (StableHlo.after hostOps0 fun b => m (c, b))) (Proc.tc.devRef main_v23) : Vec Ideal S64x64 .f32) (ix2 d e) = _
    unfold_abbrev_sides
    after_reads_simp
    pointwise
  | 1 => by
    show (StableHlo.after hostOps0_2 (StableHlo.after hostOps0_1 (StableHlo.after hostOps0 fun b => m (c, b))) (Proc.tc.devRef main_v25) : Vec Ideal S64x64 .f32) (ix2 d e) = _
    unfold_abbrev_sides
    after_reads_simp
    pointwise
  | 2 => by
    show (StableHlo.after hostOps0_2 (StableHlo.after hostOps0_1 (StableHlo.after hostOps0 fun b => m (c, b))) (Proc.tc.devRef main_v27) : Vec Ideal S64x64 .f32) (ix2 d e) = _
    unfold_abbrev_sides
    after_reads_simp
    pointwise
  | 3 => by
    show (StableHlo.after hostOps0_2 (StableHlo.after hostOps0_1 (StableHlo.after hostOps0 fun b => m (c, b))) (Proc.tc.devRef main_v29) : Vec Ideal S64x64 .f32) (ix2 d e) = _
    unfold_abbrev_sides
    after_reads_simp
    pointwise

/-- The weights of the input gate, on the diagonal. -/
theorem wxh_apply (a b : Fin 256) : (V m c main_v31 : Vec Ideal S256x256 .bf16) (ix2 a b)
    = if a.val / 64 = b.val / 64 then (m ((c : Thread nD τ).loc main_arg5) : Vec Ideal S4x64x64 .f32)
        (ix3 (⟨a.val / 64, by omega⟩ : Fin 4) (⟨a.val % 64, by omega⟩ : Fin 64) (⟨b.val % 64, by omega⟩ : Fin 64)) else (0 : EReal) := by
  have k := v30_diag (StableHlo.after hostOps0_2 (StableHlo.after hostOps0_1 (StableHlo.after hostOps0 fun b => m (c, b)))) a b
  rw [wx_blocks m c] at k
  refine Eq.trans ?_ k
  clear k
  unfold_abbrev_sides
  simp only [List.flatten_cons, List.flatten_nil, List.append_nil, StableHlo.after_append]
  generalize hF : StableHlo.after (hostOps0_3 (F := Ideal)) _ = F
  unfold_abbrev_sides
  after_reads_simp
  pointwise

/-- And less themselves. -/
theorem wxl_apply (a b : Fin 256) (w : EReal) (h : (V m c main_v31 : Vec Ideal S256x256 .bf16) (ix2 a b) = w) :
    (V m c main_v34 : Vec Ideal S256x256 .bf16) (ix2 a b) = w - w := by
  subst h
  dsimp only [V]
  after_reads_simp
  pointwise
end

end Cert.Kernel6Ideal.Host6
end
-- ==== Proof.LruFacts.lean ====
/-
  The recurrence's factors are real numbers, none negative; and a number no greater than 0 has its exponential less one
  recovered from the exponential by the quotient with its logarithm.
-/
module

public import proofs.«01_k».proof.Proof.LruSpec
public import proofs.«01_k».proof.Proof.Decay

@[expose] public section

noncomputable section

namespace Cert.Lru

open Idealize.ShloMosaic Cert.Retention Cert.Decay

theorem exp_nonneg (z : EReal) : 0 ≤ Ideal.exp z := by
  induction z with
  | bot => exact le_refl _
  | top => exact le_top
  | coe r => exact EReal.coe_nonneg.mpr (Real.exp_pos r).le

theorem logis_nonneg (z : EReal) : 0 ≤ logis z := by
  have h : 0 ≤ 1 + Ideal.exp (-z) := add_nonneg zero_le_one (exp_nonneg _)
  unfold logis Ideal.div
  split
  · simp
  · rw [one_mul]
    exact EReal.inv_nonneg_of_nonneg h

theorem log1p_nonneg (y : EReal) (h : 0 ≤ y) : 0 ≤ Ideal.log1p y := by
  unfold Ideal.log1p
  induction y with
  | bot => simp at h
  | top => rw [EReal.add_top_of_ne_bot (by decide)]; exact le_top
  | coe r =>
    have hr : 0 ≤ r := EReal.coe_nonneg.mp h
    rw [show (1 : EReal) + (r : EReal) = ((1 + r : ℝ) : EReal) by push_cast; rfl]
    show (0 : EReal) ≤ if 1 + r ≤ 0 then ⊥ else (Real.log (1 + r) : EReal)
    rw [if_neg (by linarith)]
    exact EReal.coe_nonneg.mpr (Real.log_nonneg (by linarith))

theorem sp_nonneg (s : EReal) : 0 ≤ sp s := add_nonneg (le_max_right _ _) (log1p_nonneg _ (exp_nonneg _))

theorem lit_eight : Ideal.ofBits .f32 0xC1000000#32 = ((-8 : ℝ) : EReal) := by
  simp [Ideal.ofBits, Ideal.ieee]; norm_cast; norm_num

theorem logA_nonpos (r lam : EReal) (h : 0 ≤ r) : logA r lam ≤ 0 := by
  unfold logA
  rw [lit_eight]
  have h8 : ((-8 : ℝ) : EReal) ≤ 0 := by exact_mod_cast (by norm_num : (-8 : ℝ) ≤ 0)
  exact mul_nonpos_of_nonpos_of_nonneg (mul_nonpos_of_nonpos_of_nonneg h8 h) (sp_nonneg _)

/-- The exponential of a number no greater than 0. -/
theorem exp_factor (z : EReal) (h : z ≤ 0) : ∃ r : ℝ, 0 ≤ r ∧ Ideal.exp z = (r : EReal) := by
  induction z with
  | bot => exact ⟨0, le_refl _, rfl⟩
  | top => simp at h
  | coe r => exact ⟨Real.exp r, (Real.exp_pos r).le, rfl⟩

theorem fac_factors (P : Args) (h : Fin 4) (e : Fin 64) : Factors (fac P h e) := fun t =>
  exp_factor _ (logA_nonpos _ _ (logis_nonneg _))

/-- The exponential less one, by way of the exponential and its logarithm. -/
theorem expm1_eq (z : EReal) (h : z ≤ 0) :
    (if Ideal.exp z = 0 then (-1 : EReal) else if Ideal.exp z = 1 then z
      else (Ideal.exp z - 1) * Ideal.div z (Ideal.log (Ideal.exp z))) = Ideal.expm1 z := by
  unfold Ideal.expm1
  induction z with
  | bot =>
    have e : Ideal.exp ⊥ = 0 := rfl
    rw [if_pos e, e, zero_sub]
  | top => simp at h
  | coe r =>
    have e : Ideal.exp (r : EReal) = (Real.exp r : EReal) := rfl
    rw [e, if_neg (by exact_mod_cast (Real.exp_pos r).ne')]
    by_cases h1 : r = 0
    · subst h1
      rw [Real.exp_zero, EReal.coe_one, if_pos rfl, ← EReal.coe_one, ← EReal.coe_sub, sub_self]
    · have h2 : (Real.exp r : EReal) ≠ 1 := by
        intro h3
        exact h1 (Real.exp_eq_one_iff r |>.mp (by exact_mod_cast h3))
      rw [if_neg h2]
      have hl : Ideal.log (Real.exp r : EReal) = (r : EReal) := by
        show (if Real.exp r ≤ 0 then (⊥ : EReal) else (Real.log (Real.exp r) : EReal)) = _
        rw [if_neg (not_le.mpr (Real.exp_pos r)), Real.log_exp]
      have h0 : (r : EReal) ≠ 0 := by exact_mod_cast h1
      rw [hl]
      unfold Ideal.div
      rw [if_neg h0, ← EReal.coe_inv, ← EReal.coe_mul, mul_inv_cancel₀ h1, EReal.coe_one, mul_one]

end Cert.Lru
end
-- ==== Proof.LruPoints.lean ====
/- The contents each grid point leaves, in the terms of LruBody.lean. -/
module

public import proofs.«01_k».proof.Proof.LruBody
public import Idealize.ShloMosaic.Lib.WritesUnit

@[expose] public section

set_option maxRecDepth 16384

noncomputable section

namespace Cert.Kernel6Ideal.Body

open Idealize.ShloMosaic Idealize.ShloMosaic.TcCoe Idealize.SL.Sem Cert.Kernel6Ideal Cert.Kernel6Ideal.Gen Cert.Kernel6Ideal.Value
open Cert.Kernel6Ideal.Double

variable (m : (ℓ : Loc nD τ sig) → Buf (Elt Ideal) ℓ)

theorem pay4 (v : M S512x256) : k0_pay4 (F := Ideal) v = v := by
  funext j; idx_vars j; pointwise [k0_pay4]

theorem pay6 (v : M S8x256) : k0_pay6 (F := Ideal) v = v := by
  funext j; idx_vars j; pointwise [k0_pay6]

/-- The first point's window starts with the zero rows. -/
theorem kept0 (x : M S16384x512) : k0_pay2 (F := Ideal) = kept x 0 := by
  funext j; idx_vars j
  pointwise [k0_pay2, kept, xpad]

/-- The window's newest store, rows 8 … 519, over what was there. -/
theorem store8 (f : (View.whole cc0_scratch0).ty.Contents (Elt Ideal)) (p : M S512x256) (L : List (View.Piece (Elt Ideal) S520x256 .f32))
    (a : Fin 520) (b : Fin 256) :
    (View.whole cc0_scratch0).read (Elt Ideal) ((View.whole cc0_scratch0).writes (Elt Ideal) f
        (⟨Rect.unit ![8, 0] ![512, 256] inb_S520x256_S512x256_8_0, p⟩ :: L)) (ix2 a b)
      = if h : 8 ≤ a.val then p (ix2 (⟨a.val - 8, by omega⟩ : Fin 512) b)
        else (View.whole cc0_scratch0).read (Elt Ideal) ((View.whole cc0_scratch0).writes (Elt Ideal) f L) (ix2 a b) := by
  by_cases h : 8 ≤ a.val
  · rw [dif_pos h]
    exact View.read_writes_cons_rows_of_mem (View.whole cc0_scratch0) f inb_S520x256_S512x256_8_0 p L (ix2 a b)
      (ix2 (⟨a.val - 8, by omega⟩ : Fin 512) b) rfl (by show a.val = 8 + (a.val - 8); omega) rfl
  · rw [dif_neg h]
    exact View.read_writes_cons_rows_of_not_mem (View.whole cc0_scratch0) f inb_S520x256_S512x256_8_0 p L (ix2 a b) (W := 512) rfl rfl
      (Or.inl (by show a.val < 8; omega))

/-- The window's newest store, rows 0 … 7, over what was there. -/
theorem store0 (f : (View.whole cc0_scratch0).ty.Contents (Elt Ideal)) (p : M S8x256) (L : List (View.Piece (Elt Ideal) S520x256 .f32))
    (a : Fin 520) (b : Fin 256) :
    (View.whole cc0_scratch0).read (Elt Ideal) ((View.whole cc0_scratch0).writes (Elt Ideal) f
        (⟨Rect.unit ![0, 0] ![8, 256] inb_S520x256_S8x256_0_0, p⟩ :: L)) (ix2 a b)
      = if h : a.val < 8 then p (ix2 (⟨a.val, h⟩ : Fin 8) b)
        else (View.whole cc0_scratch0).read (Elt Ideal) ((View.whole cc0_scratch0).writes (Elt Ideal) f L) (ix2 a b) := by
  by_cases h : a.val < 8
  · rw [dif_pos h]
    exact View.read_writes_cons_rows_of_mem (View.whole cc0_scratch0) f inb_S520x256_S8x256_0_0 p L (ix2 a b)
      (ix2 (⟨a.val, h⟩ : Fin 8) b) rfl (by show a.val = 0 + a.val; omega) rfl
  · rw [dif_neg h]
    exact View.read_writes_cons_rows_of_not_mem (View.whole cc0_scratch0) f inb_S520x256_S8x256_0_0 p L (ix2 a b) (W := 8) rfl rfl
      (Or.inr (by show 0 + 8 ≤ a.val; omega))

theorem tap8_at (x : M S16384x512) (t : ℕ) (a : Fin 520) (b : Fin 256) (h : 8 ≤ a.val) :
    tap x 8 t (ix2 (⟨a.val - 8, by omega⟩ : Fin 512) b) = xpad x (512 * t + a.val) b :=
  congrArg (fun n => xpad x n b) (by show 512 * t + (a.val - 8) + 8 = _; omega)

/-- The window under the rows kept and the point's own. -/
theorem under (x : M S16384x512) (t : ℕ) (a : Fin 520) (b : Fin 256) :
    View.canon (Val := Elt Ideal) (s := S520x256) (e := .f32)
      [⟨Rect.unit ![8, 0] ![512, 256] inb_S520x256_S512x256_8_0, tap x 8 t⟩,
        ⟨Rect.unit ![0, 0] ![8, 256] inb_S520x256_S8x256_0_0, kept x t⟩] (ix2 a b) = xpad x (512 * t + a.val) b := by
  rw [← View.read_writes_junk_apply_eq_canon (View.whole cc0_scratch0), store8]
  by_cases h : 8 ≤ a.val
  · rw [dif_pos h]; exact tap8_at x t a b h
  · rw [dif_neg h, store0, dif_pos (by omega)]; rfl

/-- The window under the point's own rows, over the window the point before left. -/
theorem over (x : M S16384x512) (t : ℕ) (hu : (Memref.whole cc0_scratch0).IsWhole) (a : Fin 520) (b : Fin 256) :
    View.read (Elt Ideal) (View.whole cc0_scratch0)
      ((View.whole cc0_scratch0).writes (Elt Ideal) (hu.unread (left x t))
        [⟨Rect.unit ![8, 0] ![512, 256] inb_S520x256_S512x256_8_0, tap x 8 (t + 1)⟩]) (ix2 a b) = xpad x (512 * (t + 1) + a.val) b := by
  rw [store8]
  by_cases h : 8 ≤ a.val
  · rw [dif_pos h]; exact tap8_at x (t + 1) a b h
  · rw [dif_neg h, View.writes_nil]
    refine (congrFun (read_unread_whole (Val := Elt Ideal) cc0_scratch0 hu (left x t)) (ix2 a b)).trans ?_
    exact if_pos (by show a.val < 8; omega)

/-- A load at rows `o` and on of the window. -/
theorem place {o n : ℕ} (h : ∀ a, (![o, 0] : Fin 2 → ℕ) a + (![n, 256] : Fin 2 → ℕ) a ≤ S520x256.size a) (r : Fin n) (b : Fin 256) (k : Fin 520)
    (hk : k.val = o + r.val) :
    (Rect.unit (s := S520x256) ![o, 0] ![n, 256] h).idx (ix2 r b) = ix2 k b := by
  funext a
  match a with
  | ⟨0, _⟩ => exact Fin.ext (by show o + 1 * r.val = k.val; omega)
  | ⟨1, _⟩ => exact Fin.ext (by show 0 + 1 * b.val = b.val; omega)

/-- Rows read from the first point's window. -/
theorem covAt (x : M S16384x512) (t o : ℕ) (ho : o ≤ 8)
    (h : ∀ a, (![o, 0] : Fin 2 → ℕ) a + (![512, 256] : Fin 2 → ℕ) a ≤ S520x256.size a) :
    (View.whole cc0_scratch0).readCov (Val := Elt Ideal)
      [⟨Rect.unit ![8, 0] ![512, 256] inb_S520x256_S512x256_8_0, tap x 8 t⟩,
        ⟨Rect.unit ![0, 0] ![8, 256] inb_S520x256_S8x256_0_0, kept x t⟩]
      (Rect.unit ![o, 0] ![512, 256] h).toLoadRect = tap x o t := by
  rw [View.readCov_eq_canon']
  funext y
  obtain ⟨y0, y1, rfl⟩ : ∃ (y0 : Fin 512) (y1 : Fin 256), y = ix2 y0 y1 := ⟨y 0, y 1, by funext a; match a with | ⟨0, _⟩ => rfl | ⟨1, _⟩ => rfl⟩
  refine Eq.trans (congrArg _ (place h y0 y1 ⟨o + y0.val, by omega⟩ rfl)) ((under x t _ y1).trans ?_)
  exact congrArg (fun n => xpad x n y1) (by show 512 * t + (o + y0.val) = 512 * t + y0.val + o; omega)

/-- Rows read from a later point's window. -/
theorem overAt (x : M S16384x512) (t o : ℕ) (ho : o ≤ 8) (hu : (Memref.whole cc0_scratch0).IsWhole)
    (h : ∀ a, (![o, 0] : Fin 2 → ℕ) a + (![512, 256] : Fin 2 → ℕ) a ≤ S520x256.size a) :
    View.ld (View.read (Elt Ideal) (View.whole cc0_scratch0)
      ((View.whole cc0_scratch0).writes (Elt Ideal) (hu.unread (left x t))
        [⟨Rect.unit ![8, 0] ![512, 256] inb_S520x256_S512x256_8_0, tap x 8 (t + 1)⟩]))
      (Rect.unit ![o, 0] ![512, 256] h) = tap x o (t + 1) := by
  have hov := over x t hu
  generalize View.read (Elt Ideal) (View.whole cc0_scratch0)
      ((View.whole cc0_scratch0).writes (Elt Ideal) (hu.unread (left x t))
        [⟨Rect.unit ![8, 0] ![512, 256] inb_S520x256_S512x256_8_0, tap x 8 (t + 1)⟩]) = f at *
  funext y
  obtain ⟨y0, y1, rfl⟩ : ∃ (y0 : Fin 512) (y1 : Fin 256), y = ix2 y0 y1 := ⟨y 0, y 1, by funext a; match a with | ⟨0, _⟩ => rfl | ⟨1, _⟩ => rfl⟩
  refine Eq.trans (congrArg f (place h y0 y1 ⟨o + y0.val, by omega⟩ rfl)) ((hov _ y1).trans ?_)
  exact congrArg (fun n => xpad x n y1) (by show 512 * (t + 1) + (o + y0.val) = 512 * (t + 1) + y0.val + o; omega)

theorem cov5 (x : M S16384x512) (t : ℕ) :
    (View.whole cc0_scratch0).readCov (Val := Elt Ideal)
      [⟨Rect.unit ![8, 0] ![512, 256] inb_S520x256_S512x256_8_0, tap x 8 t⟩,
        ⟨Rect.unit ![0, 0] ![8, 256] inb_S520x256_S8x256_0_0, kept x t⟩]
      (Rect.unit ![5, 0] ![512, 256] inb_S520x256_S512x256_5_0).toLoadRect = tap x 5 t := covAt x t 5 (by decide) _
theorem over5 (x : M S16384x512) (t : ℕ) (hu : (Memref.whole cc0_scratch0).IsWhole) :
    View.ld (View.read (Elt Ideal) (View.whole cc0_scratch0)
      ((View.whole cc0_scratch0).writes (Elt Ideal) (hu.unread (left x t))
        [⟨Rect.unit ![8, 0] ![512, 256] inb_S520x256_S512x256_8_0, tap x 8 (t + 1)⟩]))
      (Rect.unit ![5, 0] ![512, 256] inb_S520x256_S512x256_5_0) = tap x 5 (t + 1) := overAt x t 5 (by decide) hu _
theorem cov6 (x : M S16384x512) (t : ℕ) :
    (View.whole cc0_scratch0).readCov (Val := Elt Ideal)
      [⟨Rect.unit ![8, 0] ![512, 256] inb_S520x256_S512x256_8_0, tap x 8 t⟩,
        ⟨Rect.unit ![0, 0] ![8, 256] inb_S520x256_S8x256_0_0, kept x t⟩]
      (Rect.unit ![6, 0] ![512, 256] inb_S520x256_S512x256_6_0).toLoadRect = tap x 6 t := covAt x t 6 (by decide) _
theorem over6 (x : M S16384x512) (t : ℕ) (hu : (Memref.whole cc0_scratch0).IsWhole) :
    View.ld (View.read (Elt Ideal) (View.whole cc0_scratch0)
      ((View.whole cc0_scratch0).writes (Elt Ideal) (hu.unread (left x t))
        [⟨Rect.unit ![8, 0] ![512, 256] inb_S520x256_S512x256_8_0, tap x 8 (t + 1)⟩]))
      (Rect.unit ![6, 0] ![512, 256] inb_S520x256_S512x256_6_0) = tap x 6 (t + 1) := overAt x t 6 (by decide) hu _
theorem cov7 (x : M S16384x512) (t : ℕ) :
    (View.whole cc0_scratch0).readCov (Val := Elt Ideal)
      [⟨Rect.unit ![8, 0] ![512, 256] inb_S520x256_S512x256_8_0, tap x 8 t⟩,
        ⟨Rect.unit ![0, 0] ![8, 256] inb_S520x256_S8x256_0_0, kept x t⟩]
      (Rect.unit ![7, 0] ![512, 256] inb_S520x256_S512x256_7_0).toLoadRect = tap x 7 t := covAt x t 7 (by decide) _
theorem over7 (x : M S16384x512) (t : ℕ) (hu : (Memref.whole cc0_scratch0).IsWhole) :
    View.ld (View.read (Elt Ideal) (View.whole cc0_scratch0)
      ((View.whole cc0_scratch0).writes (Elt Ideal) (hu.unread (left x t))
        [⟨Rect.unit ![8, 0] ![512, 256] inb_S520x256_S512x256_8_0, tap x 8 (t + 1)⟩]))
      (Rect.unit ![7, 0] ![512, 256] inb_S520x256_S512x256_7_0) = tap x 7 (t + 1) := overAt x t 7 (by decide) hu _

/-- The last eight rows of the window. -/
theorem lastOf (x : M S16384x512) (t : ℕ) (L : List (View.Piece (Elt Ideal) S520x256 .f32)) :
    (View.whole cc0_scratch0).readCov (Val := Elt Ideal)
      (⟨Rect.unit ![8, 0] ![512, 256] inb_S520x256_S512x256_8_0, tap x 8 t⟩ :: L)
      (Rect.unit ![512, 0] ![8, 256] inb_S520x256_S8x256_512_0).toLoadRect = kept x (t + 1) := by
  rw [View.readCov_eq_canon']
  funext y
  obtain ⟨y0, y1, rfl⟩ : ∃ (y0 : Fin 8) (y1 : Fin 256), y = ix2 y0 y1 := ⟨y 0, y 1, by funext a; match a with | ⟨0, _⟩ => rfl | ⟨1, _⟩ => rfl⟩
  refine Eq.trans (congrArg _ (place inb_S520x256_S8x256_512_0 y0 y1 ⟨512 + y0.val, by omega⟩ rfl)) ?_
  rw [← View.read_writes_junk_apply_eq_canon (View.whole cc0_scratch0), store8]
  have h8 : 8 ≤ 512 + y0.val := by omega
  refine (dif_pos h8).trans ((tap8_at x t _ y1 h8).trans ?_)
  exact congrArg (fun n => xpad x n y1) (by show 512 * t + (512 + y0.val) = 512 * (t + 1) + y0.val; omega)

/-- The window a point leaves. -/
theorem leaves (x : M S16384x512) (t : ℕ) (L : List (View.Piece (Elt Ideal) S520x256 .f32)) :
    View.canon (Val := Elt Ideal) (s := S520x256) (e := .f32)
      (⟨Rect.unit ![0, 0] ![8, 256] inb_S520x256_S8x256_0_0, kept x (t + 1)⟩
        :: ⟨Rect.unit ![8, 0] ![512, 256] inb_S520x256_S512x256_8_0, tap x 8 t⟩ :: L) = left x t := by
  funext y
  idx_vars y
  rw [← View.read_writes_junk_apply_eq_canon (View.whole cc0_scratch0), store0]
  by_cases h : y0.val < 8
  · rw [dif_pos h]
    exact (if_pos (c := y0.val < 8) h).symm
  · rw [dif_neg h, store8, dif_pos (by omega)]
    refine (tap8_at x t y0 y1 (by omega)).trans ?_
    exact (if_neg (c := y0.val < 8) h).symm

/-- The convolution's sums, of the point's rows and the three sets of rows before them. -/
def sumsOf (I : Ins) (p8 p5 p6 p7 : M S512x256) : M S512x256 :=
  k0_pay5 (F := Ideal) p8 (wrow I.cw 3) (wrow I.cw 0) p5 (wrow I.cw 1) p6 (wrow I.cw 2) p7

/-- The factors, of the sums. -/
def aOf (I : Ins) (s : M S512x256) : M S512x256 := k0_pay15 (F := Ideal) (k0_pay8 (F := Ideal) s I.cb I.wah I.wal I.ba) I.lam

/-- The sums after the first doublings, of the convolution's sums. -/
def bOf (I : Ins) (s : M S512x256) : M S512x256 :=
  k0_pay25 (F := Ideal) (k0_pay7 (F := Ideal) s I.cb)
    (k0_pay13 (F := Ideal) (k0_pay9 (F := Ideal) I.wxh) (k0_pay11 (F := Ideal) s I.cb) (k0_pay12 (F := Ideal) s I.cb I.wxh I.wxl) I.bx)
    (aOf I s) (k0_pay18 (F := Ideal) (k0_pay8 (F := Ideal) s I.cb I.wah I.wal I.ba) I.lam)
    (k0_pay19 (F := Ideal) (k0_pay8 (F := Ideal) s I.cb I.wah I.wal I.ba) I.lam) (Scalar.ofBits (F := Ideal) .f32 0xBF800000#32)

/-- The states of the point's rows, as the body makes them. -/
def hOfBody (I : Ins) (p8 p5 p6 p7 : M S512x256) (hp : M S1x256) : M S512x256 :=
  k0_pay37 (F := Ideal) rowIds (k0_pay32 (F := Ideal) rowIds (k0_pay26 (F := Ideal) (aOf I (sumsOf I p8 p5 p6 p7))) k0_pay27)
    (k0_pay34 (F := Ideal) rowIds (bOf I (sumsOf I p8 p5 p6 p7)) (k0_pay26 (F := Ideal) (aOf I (sumsOf I p8 p5 p6 p7))) k0_pay27)
    (k0_pay35 (F := Ideal) rowIds (k0_pay26 (F := Ideal) (aOf I (sumsOf I p8 p5 p6 p7))) k0_pay27) (k0_pay36 rowIds) hp

/-- The state that leaves the point, as the body makes it. -/
def lastBody (I : Ins) (p8 p5 p6 p7 : M S512x256) (hp : M S1x256) : M S1x256 :=
  k0_pay38 (F := Ideal) rowIds (k0_pay32 (F := Ideal) rowIds (k0_pay26 (F := Ideal) (aOf I (sumsOf I p8 p5 p6 p7))) k0_pay27)
    (k0_pay34 (F := Ideal) rowIds (bOf I (sumsOf I p8 p5 p6 p7)) (k0_pay26 (F := Ideal) (aOf I (sumsOf I p8 p5 p6 p7))) k0_pay27)
    (k0_pay35 (F := Ideal) rowIds (k0_pay26 (F := Ideal) (aOf I (sumsOf I p8 p5 p6 p7))) k0_pay27) (k0_pay36 rowIds) hp

theorem hOfBody_eq (I : Ins) (t : ℕ) : hOfBody I (tap I.x 8 t) (tap I.x 5 t) (tap I.x 6 t) (tap I.x 7 t) (stAt I t) = hBlk I t := by
  unfold hOfBody bOf
  rw [pay26, pay25, pay34, pay37]
  rfl
theorem lastBody_eq (I : Ins) (t : ℕ) : lastBody I (tap I.x 8 t) (tap I.x 5 t) (tap I.x 6 t) (tap I.x 7 t) (stAt I t) = stAt I (t + 1) := by
  unfold lastBody bOf
  rw [pay26, pay25, pay34, pay38]
  rfl

/-- The point's rows of the result, as the body makes them. -/
def outBody (I : Ins) (t : ℕ) (p8 p5 p6 p7 : M S512x256) (hp : M S1x256) : Vec Ideal S512x256 .bf16 :=
  k0_pay1 (F := Ideal) (hOfBody I p8 p5 p6 p7 hp) (k0_pay39 (F := Ideal) (gate I.x t)) (k0_pay40 (F := Ideal) (gate I.x t)) (k0_pay41 (F := Ideal)) I.bn

theorem outBody_eq (I : Ins) (t : ℕ) (p5 p6 p7 : M S512x256) (e5 : p5 = tap I.x 5 t) (e6 : p6 = tap I.x 6 t) (e7 : p7 = tap I.x 7 t) :
    outBody I t (tap I.x 8 t) p5 p6 p7 (stAt I t) = out I t := by
  subst e5 e6 e7
  unfold outBody
  rw [hOfBody_eq]
  rfl
theorem lastBody_of (I : Ins) (t : ℕ) (p5 p6 p7 : M S512x256) (e5 : p5 = tap I.x 5 t) (e6 : p6 = tap I.x 6 t) (e7 : p7 = tap I.x 7 t) :
    lastBody I (tap I.x 8 t) p5 p6 p7 (stAt I t) = stAt I (t + 1) := by
  subst e5 e6 e7
  exact lastBody_eq I t
theorem leaves_of (x : M S16384x512) (t : ℕ) (L : List (View.Piece (Elt Ideal) S520x256 .f32)) (z : M S8x256) (e : z = kept x (t + 1)) :
    View.canon (Val := Elt Ideal) (s := S520x256) (e := .f32)
      (⟨Rect.unit ![0, 0] ![8, 256] inb_S520x256_S8x256_0_0, z⟩
        :: ⟨Rect.unit ![8, 0] ![512, 256] inb_S520x256_S512x256_8_0, tap x 8 t⟩ :: L) = left x t := by
  subst e
  exact leaves x t L

set_option maxHeartbeats 2000000 in
/-- What the first point leaves. -/
theorem pointA (c : Dev nD) (t : Fin cfg0.N) (h0 : t.val % 32 = 0) (ht : t.val = 0) :
    outsAt0 m c t.val t.isLt = (out (ins m c) t.val, left (ins m c).x t.val, stAt (ins m c) (t.val + 1)) := by
  have hS : k0_pay3 (F := Ideal) = stAt (ins m c) t.val := by rw [ht]; rfl
  have hK : k0_pay2 (F := Ideal) = kept (ins m c).x t.val := by rw [ht]; exact kept0 _
  rw [outsAt0_A m c t h0]
  frame_open
  simp (disch := decide) only [↓ View.readCov_skip, ↓ View.readCov_cons_toLoadRect, ↓ View.readCov_fill]
  frame_out
  simp only [ldx, ldg, ldw0, ldw1, ldw2, ldw3, blk2, blk3, blk4, blk5, blk6, blk7, blk8, blk9, blk10]
  rw [hK, hS]
  simp only [pay4, pay6]
  refine Prod.ext ?_ (Prod.ext ?_ ?_)
  · exact outBody_eq (ins m c) t.val _ _ _ (cov5 (ins m c).x t.val) (cov6 (ins m c).x t.val) (cov7 (ins m c).x t.val)
  · exact leaves_of (ins m c).x t.val _ _ (lastOf (ins m c).x t.val _)
  · exact lastBody_of (ins m c) t.val _ _ _ (cov5 (ins m c).x t.val) (cov6 (ins m c).x t.val) (cov7 (ins m c).x t.val)

set_option maxHeartbeats 2000000 in
/-- What a later point leaves, over what the point before left. -/
theorem pointB (c : Dev nD) (t : Fin cfg0.N) (h0 : ¬t.val % 32 = 0) (n : ℕ) (hn : t.val = n + 1)
    (hS : (outsAt0 m c (t.val - 1) (Nat.lt_of_le_of_lt (Nat.sub_le _ _) t.isLt)).2 = (left (ins m c).x n, stAt (ins m c) t.val)) :
    outsAt0 m c t.val t.isLt = (out (ins m c) t.val, left (ins m c).x t.val, stAt (ins m c) (t.val + 1)) := by
  rw [outsAt0_B m c t h0, hS]
  frame_open
  simp (disch := decide) only [↓ View.readCov_skip, ↓ View.readCov_cons_toLoadRect, ↓ View.readCov_fill]
  frame_out
  simp only [read_unread_whole]
  simp only [ldx, ldg, ldw0, ldw1, ldw2, ldw3, blk2, blk3, blk4, blk5, blk6, blk7, blk8, blk9, blk10]
  rw [hn]
  simp only [pay4, pay6]
  refine Prod.ext ?_ (Prod.ext ?_ ?_)
  · exact outBody_eq (ins m c) (n + 1) _ _ _ (over5 (ins m c).x n _) (over6 (ins m c).x n _) (over7 (ins m c).x n _)
  · exact leaves_of (ins m c).x (n + 1) _ _ (lastOf (ins m c).x (n + 1) _)
  · exact lastBody_of (ins m c) (n + 1) _ _ _ (over5 (ins m c).x n _) (over6 (ins m c).x n _) (over7 (ins m c).x n _)

/-- What every point leaves. -/
theorem point (c : Dev nD) (n : ℕ) (hn : n < cfg0.N) :
    outsAt0 m c n hn = (out (ins m c) n, left (ins m c).x n, stAt (ins m c) (n + 1)) := by
  induction n with
  | zero => exact pointA m c ⟨0, hn⟩ rfl rfl
  | succ n ih =>
    have hN := (idx ⟨n + 1, hn⟩).2.2
    refine pointB m c ⟨n + 1, hn⟩ (fun h => ?_) n rfl ?_
    · have h' : (n + 1) % 32 = 0 := h
      have hN' : n + 1 < 32 := hN
      omega
    · exact congrArg Prod.snd (ih (Nat.lt_of_succ_lt hn))

/-- The kernel's result: row `512t + r` is row `r` of what point `t` leaves. -/
theorem result (c : Dev nD) (r : Fin 16384) (l : Fin 256) :
    G11 m c (ix2 r l) = out (ins m c) (r.val / 512) (ix2 (⟨r.val % 512, Nat.mod_lt _ (by decide)⟩ : Fin 512) l) := by
  have hp : pt11Of (ix2 r l : S16384x256.Idx) = r.val / 512 := by
    show 1 * (r.val / 512 - 0) + 1 * (l.val / 256 - 0) = _
    omega
  have hl : loc11Of (ix2 r l : S16384x256.Idx) = ix2 (⟨r.val % 512, Nat.mod_lt _ (by decide)⟩ : Fin 512) l := by
    funext a
    match a with
    | ⟨0, _⟩ => rfl
    | ⟨1, _⟩ => exact Fin.ext (Nat.mod_eq_of_lt l.isLt)
  have hlt : pt11Of (ix2 r l : S16384x256.Idx) < cfg0.N := by
    rw [hp]
    exact lt_of_lt_of_eq (by omega) N_0.symm
  unfold G11
  rw [dif_pos hlt, ← outsAt0_sweep m c _ hlt, point, hl, hp]

end Cert.Kernel6Ideal.Body

end
-- ==== Proof.LruValues.lean ====
/-
  The kernel's recurrence, entry by entry, in the terms of LruSpec.lean, where its convolution and its gates' weights are
  real numbers.
-/
module

public import proofs.«01_k».proof.Proof.LruFacts
public import proofs.«01_k».proof.Proof.LruPoints
public import proofs.«01_k».proof.Proof.Reals

@[expose] public section

set_option maxRecDepth 16384

noncomputable section

namespace Cert.Kernel6Ideal.Entries

open Idealize.ShloMosaic Idealize.SL.Sem Cert.Kernel6Ideal Cert.Kernel6Ideal.Gen Cert.Lru Cert.Retention
open Cert.Kernel6Ideal.Double Cert.Kernel6Ideal.Body Cert.KernelIdeal.Values Cert.Decay

/-- The arrays of a launch are those of a call. -/
structure Reads (I : Ins) (P : Args) : Prop where
  x : ∀ t l, I.x (ix2 t l) = P.x t l
  cw : ∀ k l, I.cw (ix2 k l) = P.cw k l
  cb : ∀ l, I.cb (ix2 0 l) = P.cb l
  wah : ∀ g d h e, I.wah (ix2 (own g d) (own h e)) = if g = h then P.wa h d e else (0 : EReal)
  wal : ∀ g d h e, I.wal (ix2 (own g d) (own h e)) = (0 : EReal)
  ba : ∀ l, I.ba (ix2 0 l) = P.ba l
  wxh : ∀ g d h e, I.wxh (ix2 (own g d) (own h e)) = if g = h then P.wx h d e else (0 : EReal)
  wxl : ∀ g d h e, I.wxl (ix2 (own g d) (own h e)) = (0 : EReal)
  bx : ∀ l, I.bx (ix2 0 l) = P.bx l
  lam : ∀ l, I.lam (ix2 0 l) = P.lam l
  bn : ∀ l, I.bn (ix2 0 l) = P.bn l
  real : ∀ t l, IsReal (cv P t l)

/-- The padded rows are the same, five further down. -/
theorem xpad_eq {I : Ins} {P : Args} (hR : Reads I P) (n : ℕ) (l : Fin 256) : xpad I.x (n + 5) l = xp P n l := by
  unfold xpad xp
  by_cases h : n < 3
  · rw [if_pos h, if_pos (by omega)]
  · rw [if_neg h, if_neg (by omega), hR.x]
    exact congrArg (fun z => P.x z _) (Fin.ext (by show (n + 5 - 8) % 16384 = (n - 3) % 16384; omega))

/-- The convolution. -/
theorem conv_own {I : Ins} {P : Args} (hR : Reads I P) (t : ℕ) (r : Fin 512) (l : Fin 256) :
    conv I t (ix2 r l) = cv P (512 * t + r.val) l := by
  unfold conv sums
  pointwise [k0_pay7, k0_pay5, tap, wrow]
  rw [show 512 * t + r.val + 8 = (512 * t + r.val + 3) + 5 by omega, show 512 * t + r.val + 6 = (512 * t + r.val + 1) + 5 by omega,
    show 512 * t + r.val + 7 = (512 * t + r.val + 2) + 5 by omega]
  simp only [xpad_eq hR, hR.cw, hR.cb]
  have e : ∀ a b d f g : EReal, a + b + d + f + g = b + d + f + a + g := fun a b d f g => by ac_rfl
  exact e _ _ _ _ _

/-- The row's products with a gate's weights. -/
theorem dot_own (f : Fin 256 → EReal) (hf : ∀ i, IsReal (f i)) (w z : Fin 256 → Fin 256 → EReal) (v : Fin 4 → Fin 64 → Fin 64 → EReal)
    (hw : ∀ g d h e, w (own g d) (own h e) = if g = h then v h d e else 0) (hz : ∀ g d h e, z (own g d) (own h e) = 0) (h : Fin 4) (e : Fin 64) :
    ∑ i, f i * w i (own h e) + ∑ i, f i * z i (own h e) + ∑ i, (f i - f i) * w i (own h e) = ∑ d, v h d e * f (own h d) := by
  have z0 : ∀ i, f i - f i = 0 := fun i => by
    obtain ⟨r, hr⟩ := hf i
    rw [hr, ← EReal.coe_sub, sub_self, EReal.coe_zero]
  simp only [z0, zero_mul, Finset.sum_const_zero, add_zero]
  rw [sum_own, sum_own (fun i => f i * z i (own h e)), sum_one h]
  · simp only [hw, hz, if_true, mul_zero, Finset.sum_const_zero, add_zero]
    exact Finset.sum_congr rfl fun d _ => mul_comm _ _
  · intro g hg
    simp only [hw, if_neg hg, mul_zero, Finset.sum_const_zero]

/-- The recurrence gate. -/
theorem r_own {I : Ins} {P : Args} (hR : Reads I P) (t : ℕ) (r : Fin 512) (h : Fin 4) (e : Fin 64) :
    rGate I t (ix2 r (own h e)) = gt P P.wa P.ba (512 * t + r.val) h e := by
  have hc : ∀ l, k0_pay7 (F := Ideal) (sums I t) I.cb (ix2 r l) = cv P (512 * t + r.val) l := conv_own hR t r
  unfold rGate
  pointwise [k0_pay8]
  simp only [hc, hR.ba]
  rw [zero_sub]
  exact congrArg (fun s => Ideal.div 1 (1 + Ideal.exp (-(s + P.ba (own h e)))))
    (dot_own (cv P (512 * t + r.val)) (hR.real _) (fun a b => I.wah (ix2 a b)) (fun a b => I.wal (ix2 a b)) P.wa hR.wah hR.wal h e)

/-- The input gate. -/
theorem i_own {I : Ins} {P : Args} (hR : Reads I P) (t : ℕ) (r : Fin 512) (h : Fin 4) (e : Fin 64) :
    iGate I t (ix2 r (own h e)) = gt P P.wx P.bx (512 * t + r.val) h e := by
  have hc : ∀ l, k0_pay7 (F := Ideal) (sums I t) I.cb (ix2 r l) = cv P (512 * t + r.val) l := conv_own hR t r
  unfold iGate
  pointwise [k0_pay13, k0_pay12, k0_pay11, k0_pay10, k0_pay9]
  simp only [hc, hR.bx]
  rw [zero_sub]
  exact congrArg (fun s => Ideal.div 1 (1 + Ideal.exp (-(s + P.bx (own h e)))))
    (dot_own (cv P (512 * t + r.val)) (hR.real _) (fun a b => I.wxh (ix2 a b)) (fun a b => I.wxl (ix2 a b)) P.wx hR.wxh hR.wxl h e)

/-- The logarithms of the factors. -/
theorem log_own {I : Ins} {P : Args} (hR : Reads I P) (t : ℕ) (r : Fin 512) (h : Fin 4) (e : Fin 64) :
    k0_pay14 (F := Ideal) (rGate I t) I.lam (ix2 r (own h e)) = logA (gt P P.wa P.ba (512 * t + r.val) h e) (P.lam (own h e)) := by
  have hr := r_own hR t r h e
  generalize rGate I t = C at *
  pointwise [k0_pay14]
  rw [hr, hR.lam, zero_sub, zero_sub]
  rfl

/-- The factors. -/
theorem a_own {I : Ins} {P : Args} (hR : Reads I P) (t : ℕ) (r : Fin 512) (h : Fin 4) (e : Fin 64) :
    aBlk I t (ix2 r (own h e)) = fac P h e (512 * t + r.val) := by
  have hl := log_own hR t r h e
  unfold aBlk k0_pay15
  generalize k0_pay14 (F := Ideal) (rGate I t) I.lam = C at *
  pointwise
  rw [hl]
  rfl

/-- The terms. -/
theorem b_own {I : Ins} {P : Args} (hR : Reads I P) (t : ℕ) (r : Fin 512) (h : Fin 4) (e : Fin 64) :
    bBlk I t (ix2 r (own h e)) = trm P h e (512 * t + r.val) := by
  have hl := log_own hR t r h e
  have hi := i_own hR t r h e
  have hc := conv_own hR t r (own h e)
  unfold bBlk inB k0_pay19 k0_pay18 k0_pay17 k0_pay16
  generalize k0_pay14 (F := Ideal) (rGate I t) I.lam = C at *
  generalize iGate I t = G at *
  generalize conv I t = Q at *
  pointwise
  have h1 : Ideal.ofBits .f32 3212836864#32 = (-1 : EReal) := by
    rw [show (-1 : EReal) = ((-1 : ℝ) : EReal) by norm_num]
    simp [Ideal.ofBits, Ideal.ieee]; norm_cast; norm_num
  have h2 : Ideal.ofBits .f32 0x40000000#32 * logA (gt P P.wa P.ba (512 * t + r.val) h e) (P.lam (own h e)) ≤ 0 := by
    rw [lit_two]
    exact mul_nonpos_of_nonneg_of_nonpos (by exact_mod_cast (by norm_num : (0 : ℝ) ≤ 2)) (logA_nonpos _ _ (logis_nonneg _))
  rw [hl, hi, hc, h1, zero_sub]
  exact congrArg (fun z => Ideal.sqrt (-z) * (gt P P.wx P.bx (512 * t + r.val) h e * cv P (512 * t + r.val) (own h e))) (expm1_eq _ h2)

/-- The states of a point, from the one that enters it. -/
theorem block_own {I : Ins} {P : Args} (hR : Reads I P) (t : ℕ) (r : Fin 512) (h : Fin 4) (e : Fin 64) :
    hBlk I t (ix2 r (own h e))
      = hs (fun i => fac P h e (512 * t + i)) (fun i => trm P h e (512 * t + i)) (stAt I t (ix2 0 (own h e))) (r.val + 1) := by
  have k := hOf_at (fun l i => fac P ⟨l.val / 64, by omega⟩ ⟨l.val % 64, by omega⟩ (512 * t + i))
    (fun l i => trm P ⟨l.val / 64, by omega⟩ ⟨l.val % 64, by omega⟩ (512 * t + i)) (fun l i => fac_factors P _ _ _)
    (aBlk I t) (bBlk I t)
    (fun r l => by conv_lhs => rw [own_split l, a_own hR])
    (fun r l => by conv_lhs => rw [own_split l, b_own hR])
    (stAt I t) r (own h e)
  have e1 : (⟨(own h e).val / 64, by omega⟩ : Fin 4) = h := Fin.ext (own_div h e)
  have e2 : (⟨(own h e).val % 64, by omega⟩ : Fin 64) = e := Fin.ext (own_mod h e)
  simp only [e1, e2] at k
  exact k

/-- The state that enters a point. -/
theorem st_own {I : Ins} {P : Args} (hR : Reads I P) (h : Fin 4) (e : Fin 64) : ∀ t : ℕ,
    stAt I t (ix2 0 (own h e)) = hs (fac P h e) (trm P h e) 0 (512 * t)
  | 0 => by
    unfold stAt
    pointwise [k0_pay3]
    rfl
  | t + 1 => by
    show lastRow (hBlk I t) (ix2 0 (own h e)) = _
    rw [lastRow_at, block_own hR, st_own hR h e t]
    exact (hs_shift (fac P h e) (trm P h e) 0 (512 * t) 512).symm

/-- The states of a point. -/
theorem h_own {I : Ins} {P : Args} (hR : Reads I P) (t : ℕ) (r : Fin 512) (h : Fin 4) (e : Fin 64) :
    hBlk I t (ix2 r (own h e)) = st P (512 * t + r.val) h e := by
  rw [block_own hR, st_own hR h e t, ← hs_shift]
  rfl

/-- The result. -/
theorem out_own {I : Ins} {P : Args} (hR : Reads I P) (t : ℕ) (ht : t < 32) (r : Fin 512) (l : Fin 256) :
    out I t (ix2 r l) = normed (fun l => P.x ⟨512 * t + r.val, by omega⟩ ⟨l.val, by omega⟩)
      (fun l => st P (512 * t + r.val) ⟨l.val / 64, by omega⟩ ⟨l.val % 64, by omega⟩) P.bn l := by
  have hC : ∀ l : Fin 256, hBlk I t (ix2 r l) = st P (512 * t + r.val) ⟨l.val / 64, by omega⟩ ⟨l.val % 64, by omega⟩ := fun l => by
    conv_lhs => rw [own_split l, h_own hR]
  unfold out
  generalize hBlk I t = C at *
  pointwise [k0_pay1, k0_pay39, k0_pay40, k0_pay41, gate]
  have e1 : (512 * t + r.val) % 16384 = 512 * t + r.val := Nat.mod_eq_of_lt (by omega)
  simp only [e1, hC, hR.x, hR.bn]
  have eg : ∀ g : EReal, Ideal.ofBits .f32 0x3F000000#32 * g * (1
      + Ideal.tanh (Ideal.ofBits .f32 0x3F4C422A#32 * (g + Ideal.ofBits .f32 0x3D372713#32 * (g * g * g)))) = gelu g := fun g => by
    unfold gelu
    rw [mul_comm (Ideal.ofBits .f32 0x3F000000#32) g, mul_assoc]
  simp only [eg]
  rfl

end Cert.Kernel6Ideal.Entries
end
-- ==== Proof.LruTrips.lean ====
/-
  The reference's run as one trip iterated: the loop's memory before each trip holds the states of a sequence that starts
  at `init` and goes on by `step`.
-/
module

public import proofs.«01_k».proof.Proof.Gen.Reference6Ideal.Run
public import proofs.«01_k».proof.Proof.Gen.Reference6Ideal.Step

@[expose] public section

set_option maxRecDepth 16384

noncomputable section

namespace Cert.Reference6Ideal.Trips

open Idealize.ShloMosaic Idealize.ShloMosaic.TcCoe Idealize.SL.Sem Idealize.ShloMosaic.StableHlo
open Cert.Reference6Ideal Cert.Reference6Ideal.Gen Cert.Reference6Ideal.Value Cert.Reference6Ideal.Step

variable {F : FTy → Type} [FloatOps F]

/-- What a memory of the loop holds as a state. -/
def stateOf (W : Valuation τ sig (Elt F)) : State F :=
  ⟨W (Proc.devRef .tc main_v76_3), W (Proc.devRef .tc main_v76_4), W (Proc.devRef .tc main_v76_0),
    W (Proc.devRef .tc main_v76_1)⟩

/-- The memory holds the state `s` before trip `j`. -/
structure At (W : Valuation τ sig (Elt F)) (s : State F) (j : ℕ) : Prop where
  st : s = stateOf W
  num : W (Proc.devRef .tc main_v76_2) = constantI S_ 32 (BitVec.ofNat 32 j)

variable {W : Valuation τ sig (Elt F)} {s : State F} {j : ℕ}

theorem new_state (h : At W s j) : step_main_v76_3 W = b7 j s := by
  obtain ⟨rfl, hn⟩ := h
  unfold b7 b6 b5 b4 b3 b2 b1 b0
  rw [← hn]
  rfl

theorem new_out (h : At W s j) : step_main_v76_4 W = b10 j s := by
  obtain ⟨rfl, hn⟩ := h
  unfold b10 b9 b8 b7 b6 b5 b4 b3 b2 b1 b0
  rw [← hn]
  rfl

theorem new_num (h : At W s j) : step_main_v76_2 W = constantI S_ 32 (BitVec.ofNat 32 (j + 1)) := by
  unfold step_main_v76_2
  rw [h.num]
  funext i
  show BitVec.ofNat 32 j + 1#32 = BitVec.ofNat 32 (j + 1)
  rw [BitVec.ofNat_add]

/-- One trip. -/
theorem trip (h : At W s j) : At (STEP W) (step j s) (j + 1) where
  st := by
    have e3 := (STEP_main_v76_3 W).trans (new_state h)
    have e4 := (STEP_main_v76_4 W).trans (new_out h)
    have hs := h.st
    unfold step stateOf
    rw [e3, e4, STEP_main_v76_0, STEP_main_v76_1]
    simp only [hs, stateOf]
  num := (STEP_main_v76_2 W).trans (new_num h)

variable (m : (ℓ : Loc nD τ sig) → Buf (Elt F) ℓ) (c : Dev nD)

/-- The state before the first trip. -/
abbrev start : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

set_option maxRecDepth 65536 in
set_option maxHeartbeats 2000000 in
theorem entry : At (entryContents preI m c) (start m c) 0 := by
  constructor
  · unfold stateOf start init
    congr 1 <;> (simp only [entryContents, afterL_cons, afterL_nil]; after_reads_simp) <;> rfl
  all_goals ((simp only [entryContents, afterL_cons, afterL_nil]; after_reads_simp) <;> rfl)

/-- The states of the run. -/
def it : ℕ → State F
  | 0 => start m c
  | n + 1 => step n (it n)

theorem at_trip : ∀ n, At (STEP^[n] (entryContents preI m c)) (it m c n) n
  | 0 => entry m c
  | n + 1 => by
    rw [Function.iterate_succ_apply']
    exact trip (at_trip n)

/-- What the operations after the loop make of the last state. -/
theorem tail (h : At W s j) : out_main_v105 W = R_main_v105 s (W (Proc.devRef .tc main_arg0)) (W (Proc.devRef .tc main_arg8)) := by
  obtain ⟨rfl, -⟩ := h
  rfl

/-- The reference's run. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v105) = R_main_v105 (it m c 16384) (m ((c.tc : Thread nD τ).loc main_arg0))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans ((tail (at_trip m c 16384)).trans (by
      rw [iter_main_arg0 m c 16384, iter_main_arg8 m c 16384])), (h c).2⟩) (Value.run m ρ)

end Cert.Reference6Ideal.Trips
end
-- ==== Proof.LruReference.lean ====
/-
  The reference's recurrence, entry by entry, in the terms of LruSpec.lean.
-/
module

public import proofs.«01_k».proof.Proof.LruSpec
public import proofs.«01_k».proof.Proof.LruTrips
public import Idealize.ShloMosaic.Lib.Pipeline.Value
public import Idealize.ShloMosaic.Lib.DynamicIndex
public import Idealize.ShloMosaic.Lib.Claim
public import Idealize.ShloMosaic.Lib.Tactic.CleanTypes

@[expose] public section

set_option maxRecDepth 16384

noncomputable section

namespace Cert.Reference6Ideal.Scan

open Idealize.ShloMosaic Cert.Reference6Ideal Cert.Reference6Ideal.Gen Cert.Reference6Ideal.Step Cert.Lru Cert.Retention Cert.Reference6Ideal.Trips
open Idealize.ShloMosaic.TcCoe Idealize.SL.Sem

/-- Row `j` lies inside the array. -/
theorem fits (j : Fin 16384) : S16384x256.Slices ![j.val, 0] S1x256 :=
  ⟨rfl, fun a => by
    have := j.isLt
    fin_cases a
    · show j.val + 1 ≤ 16384; omega
    · exact Nat.le_refl _⟩

/-- One trip's state. -/
theorem b7_apply (j : Fin 16384) (s : State Ideal) (l : Fin 256) :
    (b7 j.val s : Vec Ideal S256 .f32) (ix1 l) = (s.main_v76_0 : Vec Ideal S16384x256 .f32) (ix2 j l) * (s.main_v76_3 : Vec Ideal S256 .f32) (ix1 l)
      + (s.main_v76_1 : Vec Ideal S16384x256 .f32) (ix2 j l) := by
  unfold b7 b6 b5 b4 b2 b1
  generalize (s.main_v76_0 : Vec Ideal S16384x256 .f32) = A
  generalize (s.main_v76_1 : Vec Ideal S16384x256 .f32) = B
  generalize (s.main_v76_3 : Vec Ideal S256 .f32) = H
  rw [Host.dynamicSlice_eq_extractStridedSlice _ _ _ ![j.val, 0] _ (fits j) (fun a => by
    fin_cases a
    · exact toInt_ofNat_of_lt (by omega)
    · rfl)]
  rw [Host.dynamicSlice_eq_extractStridedSlice _ _ _ ![j.val, 0] _ (fits j) (fun a => by
    fin_cases a
    · exact toInt_ofNat_of_lt (by omega)
    · rfl)]
  pointwise

/-- The stack of states after a trip: the new one in its place, the others as they were. -/
theorem b10_apply (j : Fin 16384) (s : State Ideal) (n : Fin 16384) (l : Fin 256) :
    (b10 j.val s : Vec Ideal S16384x256 .f32) (ix2 n l)
      = if n = j then (b7 j.val s : Vec Ideal S256 .f32) (ix1 l) else (s.main_v76_4 : Vec Ideal S16384x256 .f32) (ix2 n l) := by
  unfold b10 b8
  generalize (s.main_v76_4 : Vec Ideal S16384x256 .f32) = A
  generalize (b7 j.val s : Vec Ideal S256 .f32) = Q
  rw [Host.dynamicUpdateSlice_eq_updateSlice _ _ _ _ ![j.val, 0] (fun a => by
    fin_cases a
    · have e : ((BitVec.ofNat 32 j.val).toInt : ℤ) = j.val := toInt_ofNat_of_lt (by omega)
      show (min (max (BitVec.ofNat 32 j.val).toInt 0) ((16384 - 1 : ℕ) : ℤ)).toNat = j.val
      rw [e]; omega
    · rfl) (fits j)]
  pointwise
  by_cases e : n = j
  · subst e
    rw [dif_pos ⟨le_refl _, Nat.lt_succ_self _⟩, if_pos rfl]
  · rw [dif_neg (fun ⟨a, b⟩ => e (Fin.ext (by omega))), if_neg e]

section
variable (x : Vec Ideal S16384x512 .f32) (cw : Vec Ideal S4x256 .f32) (cb : Vec Ideal S256 .f32) (wa : Vec Ideal S4x64x64 .f32)
  (ba : Vec Ideal S256 .f32) (wx : Vec Ideal S4x64x64 .f32) (bx lam bn : Vec Ideal S256 .f32)

/-- The call's arrays by row and column. -/
abbrev argsOf : Args where
  x t l := x (ix2 t l)
  cw k l := cw (ix2 k l)
  cb l := cb (ix1 l)
  wa h d e := wa (ix3 h d e)
  ba l := ba (ix1 l)
  wx h d e := wx (ix3 h d e)
  bx l := bx (ix1 l)
  lam l := lam (ix1 l)
  bn l := bn (ix1 l)

/-- The padded rows. -/
theorem pad_apply (n : Fin 16387) (l : Fin 256) :
    (A_main_v1 x cw cb wa ba wx bx lam : Vec Ideal S16387x256 .f32) (ix2 n l) = xp (argsOf x cw cb wa ba wx bx lam bn) n.val l := by
  unfold A_main_v1 A_main_v0 K_main_call0_v0 K_main_c
  pointwise
  unfold xp
  by_cases h : n.val < 3
  · rw [dif_neg (by omega), if_pos h]
    show (((0#32 : BitVec 32).toInt : ℝ) : EReal) = 0
    simp
  · rw [dif_pos ⟨by omega, by omega⟩, if_neg h]
    exact congrArg (fun z => x (ix2 z (⟨256 + l.val, by omega⟩ : Fin 512))) (Fin.ext (Nat.mod_eq_of_lt (by omega)).symm)

/-- The convolution. -/
theorem conv_apply (t : Fin 16384) (l : Fin 256) :
    (A_main_v33 x cw cb wa ba wx bx lam : Vec Ideal S16384x256 .f32) (ix2 t l) = cv (argsOf x cw cb wa ba wx bx lam bn) t.val l := by
  have hp := pad_apply x cw cb wa ba wx bx lam bn
  unfold A_main_v33 A_main_v32 A_main_v31 A_main_v30 A_main_v29 A_main_v28 A_main_v27 A_main_v26 A_main_v25 A_main_v24 A_main_v23
    A_main_v22 A_main_v21 A_main_v20 A_main_v19 A_main_v18 A_main_v17 A_main_v16 A_main_v15 A_main_v14 A_main_v13 A_main_v12 A_main_v11
    A_main_v10 A_main_v9 A_main_v7 A_main_v6 A_main_v5 A_main_v4 A_main_v3 A_main_v2 K_main_v8 K_main_cst
  generalize (A_main_v1 x cw cb wa ba wx bx lam : Vec Ideal S16387x256 .f32) = A at *
  pointwise
  simp only [hp]
  unfold cv
  rw [Nat.add_comm 1 t.val, Nat.add_comm 2 t.val, Nat.add_comm 3 t.val]

theorem head_eq (h : Fin 4) (e : Fin 64) (p : (own h e).val / 64 < 4) : (⟨(own h e).val / 64, p⟩ : Fin 4) = h :=
  Fin.ext (by show (64 * h.val + e.val) / 64 = h.val; omega)
theorem lane_eq (h : Fin 4) (e : Fin 64) (p : (own h e).val % 64 < 64) : (⟨(own h e).val % 64, p⟩ : Fin 64) = e :=
  Fin.ext (by show (64 * h.val + e.val) % 64 = e.val; omega)
theorem place_eq (h : Fin 4) (e d : Fin 64) (p : (own h e).val / 64 * 64 + d.val < 256) :
    (⟨(own h e).val / 64 * 64 + d.val, p⟩ : Fin 256) = own h d :=
  Fin.ext (by show (64 * h.val + e.val) / 64 * 64 + d.val = 64 * h.val + d.val; omega)

/-- The recurrence gate. -/
theorem r_apply (t : Fin 16384) (h : Fin 4) (e : Fin 64) :
    (A_main_v46 x cw cb wa ba wx bx lam : Vec Ideal S16384x256 .f32) (ix2 t (own h e))
      = gt (argsOf x cw cb wa ba wx bx lam bn) (fun h d e => wa (ix3 h d e)) (fun l => ba (ix1 l)) t.val h e := by
  have hp := conv_apply x cw cb wa ba wx bx lam bn
  unfold A_main_v46 A_main_v44 A_main_v42 A_main_v41 A_main_v40 A_main_v39 A_main_v38 A_main_v37 A_main_v36 A_main_v35 A_main_v34
    K_main_v45 K_main_v43 K_main_cst_0 K_main_cst_1
  generalize (A_main_v33 x cw cb wa ba wx bx lam : Vec Ideal S16384x256 .f32) = A at *
  pointwise
  unfold gt logis
  simp only [← hp]
  simp only [head_eq, lane_eq, place_eq]

/-- The input gate. -/
theorem i_apply (t : Fin 16384) (h : Fin 4) (e : Fin 64) :
    (A_main_v58 x cw cb wa ba wx bx lam : Vec Ideal S16384x256 .f32) (ix2 t (own h e))
      = gt (argsOf x cw cb wa ba wx bx lam bn) (fun h d e => wx (ix3 h d e)) (fun l => bx (ix1 l)) t.val h e := by
  have hp := conv_apply x cw cb wa ba wx bx lam bn
  unfold A_main_v58 A_main_v56 A_main_v54 A_main_v53 A_main_v52 A_main_v51 A_main_v50 A_main_v49 A_main_v48 A_main_v47
    K_main_v57 K_main_v55 K_main_cst_2 K_main_cst_3
  unfold A_main_v34
  generalize (A_main_v33 x cw cb wa ba wx bx lam : Vec Ideal S16384x256 .f32) = A at *
  pointwise
  unfold gt logis
  simp only [← hp]
  simp only [head_eq, lane_eq, place_eq]

/-- The factors' logarithms. -/
theorem log_apply (t : Fin 16384) (l : Fin 256) :
    (A_main_v65 x cw cb wa ba wx bx lam : Vec Ideal S16384x256 .f32) (ix2 t l)
      = logA ((A_main_v46 x cw cb wa ba wx bx lam : Vec Ideal S16384x256 .f32) (ix2 t l)) (lam (ix1 l)) := by
  unfold A_main_v65 A_main_v64 A_main_v63 A_main_v62 A_main_v60 A_main_call1_v11 A_main_call1_v10 A_main_call1_v9 A_main_call1_v8
    A_main_call1_v7 A_main_call1_v6 A_main_call1_v4 A_main_call1_v3 A_main_call1_v1 A_main_v61 K_main_v59 K_main_cst_4 K_main_call1_v0 K_main_call1_v2
    K_main_call1_v5 K_main_call1_cst
  generalize (A_main_v46 x cw cb wa ba wx bx lam : Vec Ideal S16384x256 .f32) = A
  pointwise
  unfold logA sp
  rw [if_neg (fun h => h rfl)]
  rfl

/-- The factors. -/
theorem a_apply (t : Fin 16384) (h : Fin 4) (e : Fin 64) :
    (A_main_v66 x cw cb wa ba wx bx lam : Vec Ideal S16384x256 .f32) (ix2 t (own h e))
      = fac (argsOf x cw cb wa ba wx bx lam bn) h e t.val := by
  have h1 := log_apply x cw cb wa ba wx bx lam t (own h e)
  have h2 := r_apply x cw cb wa ba wx bx lam bn t h e
  unfold A_main_v66
  generalize (A_main_v65 x cw cb wa ba wx bx lam : Vec Ideal S16384x256 .f32) = A at *
  pointwise
  rw [h1, h2]
  rfl

/-- The terms. -/
theorem b_apply (t : Fin 16384) (h : Fin 4) (e : Fin 64) :
    (A_main_v73 x cw cb wa ba wx bx lam : Vec Ideal S16384x256 .f32) (ix2 t (own h e))
      = trm (argsOf x cw cb wa ba wx bx lam bn) h e t.val := by
  have h1 := log_apply x cw cb wa ba wx bx lam t (own h e)
  have h2 := r_apply x cw cb wa ba wx bx lam bn t h e
  have h3 := i_apply x cw cb wa ba wx bx lam bn t h e
  have h4 := conv_apply x cw cb wa ba wx bx lam bn t (own h e)
  unfold A_main_v73 A_main_v72 A_main_v71 A_main_v70 A_main_v69 A_main_v68 K_main_v67 K_main_cst_5
  generalize (A_main_v65 x cw cb wa ba wx bx lam : Vec Ideal S16384x256 .f32) = A at *
  generalize (A_main_v58 x cw cb wa ba wx bx lam : Vec Ideal S16384x256 .f32) = B at *
  generalize (A_main_v33 x cw cb wa ba wx bx lam : Vec Ideal S16384x256 .f32) = C at *
  pointwise
  rw [h1, h2, h3, h4]
  rfl
end

/-- The result, from the scan's states. -/
theorem out_apply (s : State Ideal) (x : Vec Ideal S16384x512 .f32) (bn : Vec Ideal S256 .f32) (t : Fin 16384) (l : Fin 256) :
    (R_main_v105 s x bn : Vec Ideal S16384x256 .bf16) (ix2 t l)
      = normed (fun l => x (ix2 t ⟨l.val, by omega⟩)) (fun l => (s.main_v76_4 : Vec Ideal S16384x256 .f32) (ix2 t l)) (fun l => bn (ix1 l)) l := by
  unfold R_main_v105
  generalize (s.main_v76_4 : Vec Ideal S16384x256 .f32) = A
  pointwise
  rfl

section
variable (m : (ℓ : Loc nD τ sig) → Buf (Elt Ideal) ℓ) (c : Dev nD)

/-- The call's arrays. -/
abbrev P : Args := argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- No trip changes the scanned arrays. -/
theorem it_scanned : ∀ n, (it m c n).main_v76_0 = (start m c).main_v76_0 ∧ (it m c n).main_v76_1 = (start m c).main_v76_1
  | 0 => ⟨rfl, rfl⟩
  | n + 1 => it_scanned n

theorem it_step (n : ℕ) (hn : n < 16384) (h : Fin 4) (e : Fin 64) :
    (b7 n (it m c n) : Vec Ideal S256 .f32) (ix1 (own h e))
      = fac (P m c) h e n * ((it m c n).main_v76_3 : Vec Ideal S256 .f32) (ix1 (own h e)) + trm (P m c) h e n := by
  refine (b7_apply ⟨n, hn⟩ (it m c n) (own h e)).trans ?_
  rw [(it_scanned m c n).1, (it_scanned m c n).2]
  exact congrArg₂ HAdd.hAdd (congrArg₂ HMul.hMul (a_apply _ _ _ _ _ _ _ _ _ ⟨n, hn⟩ h e) rfl) (b_apply _ _ _ _ _ _ _ _ _ ⟨n, hn⟩ h e)

/-- The states of the scan. -/
theorem it_state : ∀ n ≤ 16384, ∀ (h : Fin 4) (e : Fin 64),
    ((it m c n).main_v76_3 : Vec Ideal S256 .f32) (ix1 (own h e)) = hs (fac (P m c) h e) (trm (P m c) h e) 0 n
  | 0, _, h, e => by
    show (K_main_v74 (F := Ideal) : Vec Ideal S256 .f32) (ix1 (own h e)) = 0
    unfold K_main_v74 K_main_cst_6
    pointwise
  | n + 1, hn, h, e => by
    show (b7 n (it m c n) : Vec Ideal S256 .f32) (ix1 (own h e)) = _
    rw [it_step m c n hn, it_state n (by omega)]
    rfl

/-- The states stacked so far. -/
theorem it_out : ∀ N ≤ 16384, ∀ (n : Fin 16384), n.val < N → ∀ (h : Fin 4) (e : Fin 64),
    ((it m c N).main_v76_4 : Vec Ideal S16384x256 .f32) (ix2 n (own h e)) = st (P m c) n.val h e
  | 0, _, n, hn, _, _ => absurd hn (Nat.not_lt_zero _)
  | N + 1, hN, n, hn, h, e => by
    show (b10 N (it m c N) : Vec Ideal S16384x256 .f32) (ix2 n (own h e)) = _
    refine (b10_apply ⟨N, hN⟩ (it m c N) n (own h e)).trans ?_
    by_cases en : n = ⟨N, hN⟩
    · rw [if_pos en, en]
      exact it_state m c (N + 1) hN h e
    · rw [if_neg en]
      exact it_out N (by omega) n (by
        have : n.val ≠ N := fun q => en (Fin.ext q)
        omega) h e

/-- The reference's result. -/
theorem result (t : Fin 16384) (l : Fin 256) :
    (R_main_v105 (it m c 16384) (m ((c.tc : Thread nD τ).loc main_arg0)) (m ((c.tc : Thread nD τ).loc main_arg8)) : Vec Ideal S16384x256 .bf16) (ix2 t l)
      = normed (fun l => (P m c).x t ⟨l.val, by omega⟩)
          (fun l => st (P m c) t.val ⟨l.val / 64, by omega⟩ ⟨l.val % 64, Nat.mod_lt _ (by decide)⟩) (P m c).bn l := by
  rw [out_apply]
  refine congrArg (fun s => normed _ s _ l) (funext fun i => ?_)
  rw [← it_out m c 16384 (le_refl _) t t.isLt]
  exact congrArg (fun z => ((it m c 16384).main_v76_4 : Vec Ideal S16384x256 .f32) (ix2 t z)) (Fin.ext (by show i.val = 64 * (i.val / 64) + i.val % 64; omega))
end

end Cert.Reference6Ideal.Scan
end
-- ==== Proof.LruEquation.lean ====
/-
  The recurrence's call and its reference leave the same array: both rows are `normed` of the same states.
-/
module

public import proofs.«01_k».proof.Defs
public import proofs.«01_k».proof.Proof.LruHost
public import proofs.«01_k».proof.Proof.LruValues
public import proofs.«01_k».proof.Proof.LruReference
public import proofs.«01_k».proof.Proof.Equation

@[expose] public section

set_option maxRecDepth 16384

noncomputable section

namespace Cert.LruEquation

open Idealize.ShloMosaic Idealize.ShloMosaic.TcCoe Idealize.SL.Sem Cert.Kernel6Ideal Cert.Kernel6Ideal.Gen
open Cert.Kernel6Ideal.Value Cert.Kernel6Ideal.Body Cert.Kernel6Ideal.Host6 Cert.Kernel6Ideal.Entries Cert.KernelIdeal.Values
open Cert.Lru Cert.Retention Cert.Equation

/-- The side conditions of the precondition's own operations. -/
theorem preFacts : Cert.Pre_finite6.Facts where
  slices_S16384x512_S16384x256_0_256 := by decide
  bcast_S_S16384x256 := by decide
  bcast_S_S4x256 := by decide
  bcast_S_S256 := by decide
  bcast_S_S4x64x64 := by decide

section
variable (m : (ℓ : Loc nD τ sig) → Buf (Elt Ideal) ℓ) (c : Dev nD)

/-- The arguments of the call. -/
def K : Args :=
  Cert.Reference6Ideal.Scan.argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The precondition, entry by entry: the rows, the convolution's weights and bias, and the gates' weights are real. -/
theorem pre_x (h : @Cert.Pre_Kernel6Ideal_finite6 preFacts m) (t : Fin 16384) (l : Fin 256) : IsReal ((K m c).x t ⟨256 + l.val, by omega⟩) := by
  have e := congrFun (h c).1 (ix2 t l)
  unfold Cert.Pre_finite6.fn at e
  revert e
  pointwise
  intro e
  exact real_of_lt _ e
theorem pre_cw (h : @Cert.Pre_Kernel6Ideal_finite6 preFacts m) (k : Fin 4) (l : Fin 256) : IsReal ((K m c).cw k l) := by
  have e := congrFun (h c).2.1 (ix2 k l)
  unfold Cert.Pre_finite6.fn at e
  revert e
  pointwise
  intro e
  exact real_of_lt _ e
theorem pre_cb (h : @Cert.Pre_Kernel6Ideal_finite6 preFacts m) (l : Fin 256) : IsReal ((K m c).cb l) := by
  have e := congrFun (h c).2.2.1 (ix1 l)
  unfold Cert.Pre_finite6.fn at e
  revert e
  pointwise
  intro e
  exact real_of_lt _ e
theorem pre_wa (h : @Cert.Pre_Kernel6Ideal_finite6 preFacts m) (g : Fin 4) (d e : Fin 64) : IsReal ((K m c).wa g d e) := by
  have e := congrFun (h c).2.2.2.1 (ix3 g d e)
  unfold Cert.Pre_finite6.fn at e
  revert e
  pointwise
  intro e
  exact real_of_lt _ e
theorem pre_wx (h : @Cert.Pre_Kernel6Ideal_finite6 preFacts m) (g : Fin 4) (d e : Fin 64) : IsReal ((K m c).wx g d e) := by
  have e := congrFun (h c).2.2.2.2 (ix3 g d e)
  unfold Cert.Pre_finite6.fn at e
  revert e
  pointwise
  intro e
  exact real_of_lt _ e

/-- A real convolution. -/
theorem cv_real (h : @Cert.Pre_Kernel6Ideal_finite6 preFacts m) (t : ℕ) (l : Fin 256) : IsReal (cv (K m c) t l) := by
  have hx : ∀ n, IsReal (xp (K m c) n l) := fun n => by
    unfold xp
    split
    · exact .coe 0
    · exact pre_x m c h _ l
  unfold cv
  exact (((((pre_cw m c h 0 l).mul (hx _)).add ((pre_cw m c h 1 l).mul (hx _))).add ((pre_cw m c h 2 l).mul (hx _))).add
    ((pre_cw m c h 3 l).mul (hx _))).add (pre_cb m c h l)

theorem sub_self_real (x : EReal) (h : IsReal x) : x - x = 0 := by
  obtain ⟨r, rfl⟩ := h
  rw [← EReal.coe_sub, sub_self, EReal.coe_zero]

/-- A diagonal of blocks, by head and lane. -/
theorem on_diag (w : Fin 4 → Fin 64 → Fin 64 → EReal) (g h : Fin 4) (d e : Fin 64) :
    (if (own g d).val / 64 = (own h e).val / 64 then
        w ⟨(own g d).val / 64, by omega⟩ ⟨(own g d).val % 64, by omega⟩ ⟨(own h e).val % 64, by omega⟩ else 0)
      = if g = h then w h d e else 0 := by
  have e1 : (⟨(own g d).val / 64, by omega⟩ : Fin 4) = g := Fin.ext (own_div g d)
  have e2 : (⟨(own g d).val % 64, by omega⟩ : Fin 64) = d := Fin.ext (own_mod g d)
  have e3 : (⟨(own h e).val % 64, by omega⟩ : Fin 64) = e := Fin.ext (own_mod h e)
  rw [e1, e2, e3, own_div, own_div]
  by_cases q : g = h
  · subst q; rw [if_pos rfl, if_pos rfl]
  · rw [if_neg (fun a => q (Fin.ext a)), if_neg q]

/-- The recurrence gate's weights and what they leave of themselves. -/
theorem wa_own (g : Fin 4) (d : Fin 64) (h : Fin 4) (e : Fin 64) : (V m c main_v17 : Vec Ideal S256x256 .bf16) (ix2 (own g d) (own h e))
    = if g = h then (K m c).wa h d e else (0 : EReal) :=
  (wah_apply m c _ _).trans (on_diag (K m c).wa g h d e)
theorem wa_rest (hp : @Cert.Pre_Kernel6Ideal_finite6 preFacts m) (g : Fin 4) (d : Fin 64) (h : Fin 4) (e : Fin 64) :
    (V m c main_v20 : Vec Ideal S256x256 .bf16) (ix2 (own g d) (own h e)) = (0 : EReal) := by
  refine (wal_apply m c _ _ _ (wa_own m c g d h e)).trans (sub_self_real _ ?_)
  split
  · exact pre_wa m c hp _ _ _
  · exact .coe 0

/-- The input gate's weights and what they leave of themselves. -/
theorem wx_own (g : Fin 4) (d : Fin 64) (h : Fin 4) (e : Fin 64) : (V m c main_v31 : Vec Ideal S256x256 .bf16) (ix2 (own g d) (own h e))
    = if g = h then (K m c).wx h d e else (0 : EReal) :=
  (wxh_apply m c _ _).trans (on_diag (K m c).wx g h d e)
theorem wx_rest (hp : @Cert.Pre_Kernel6Ideal_finite6 preFacts m) (g : Fin 4) (d : Fin 64) (h : Fin 4) (e : Fin 64) :
    (V m c main_v34 : Vec Ideal S256x256 .bf16) (ix2 (own g d) (own h e)) = (0 : EReal) := by
  refine (wxl_apply m c _ _ _ (wx_own m c g d h e)).trans (sub_self_real _ ?_)
  split
  · exact pre_wx m c hp _ _ _
  · exact .coe 0

/-- The rows. -/
theorem x_own (t : Fin 16384) (l : Fin 512) : (V m c main_arg0 : Vec Ideal S16384x512 .f32) (ix2 t l) = (K m c).x t l := by
  rw [V_main_arg0]
  rfl

set_option maxHeartbeats 4000000 in
/-- The launch is given the call's arguments. -/
theorem reads (h : @Cert.Pre_Kernel6Ideal_finite6 preFacts m) : Reads (ins m c) (K m c) := by
  constructor
  · exact x_own m c
  · exact cw_apply m c
  · exact cb_apply m c
  · exact wa_own m c
  · exact wa_rest m c h
  · exact ba_apply m c
  · exact wx_own m c
  · exact wx_rest m c h
  · exact bx_apply m c
  · exact lam_apply m c
  · exact bn_apply m c
  · exact cv_real m c h

/-- The kernel's result, entry by entry. -/
theorem result (h : @Cert.Pre_Kernel6Ideal_finite6 preFacts m) (t : Fin 16384) (l : Fin 256) :
    G11 m c (ix2 t l) = normed (fun l => (K m c).x t ⟨l.val, by omega⟩)
      (fun l => st (K m c) t.val ⟨l.val / 64, by omega⟩ ⟨l.val % 64, Nat.mod_lt _ (by decide)⟩) (K m c).bn l := by
  rw [Body.result, out_own (reads m c h) _ (by omega)]
  have e : 512 * (t.val / 512) + t.val % 512 = t.val := by omega
  simp only [e]
end

/-- Equal arguments, equal results. -/
theorem results_eq (m : (ℓ : Loc nD τ sig) → Buf (Elt Ideal) ℓ)
    (m' : (ℓ : Loc Cert.Reference6Ideal.nD Cert.Reference6Ideal.τ Cert.Reference6Ideal.sig) → Buf (Elt Ideal) ℓ) (c : Dev nD)
    (h : @Cert.Pre_Kernel6Ideal_finite6 preFacts m)
    (hK : Cert.Reference6Ideal.Scan.P m' c = K m c) :
    (Cert.Reference6Ideal.Step.R_main_v105 (Cert.Reference6Ideal.Trips.it m' c 16384)
        (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg8)) : Vec Ideal S16384x256 .bf16)
      = G11 m c := by
  funext j
  obtain ⟨t, l, rfl⟩ : ∃ (t : Fin 16384) (l : Fin 256), j = ix2 t l := ⟨j 0, j 1, by funext a; match a with | ⟨0, _⟩ => rfl | ⟨1, _⟩ => rfl⟩
  rw [result m c h]
  refine (Cert.Reference6Ideal.Scan.result m' c t l).trans ?_
  rw [hK]

/-- The reference runs, keeps its arguments and ends quiescent. -/
theorem referenceFrame : Cert.quiescent_Reference6Ideal (hReference6Ideal := Cert.Reference6Ideal.Gen.facts) := fun m ρ _ =>
  (θ_run (Cert.Reference6Ideal.defs (F := Ideal)) _ _).mono
    (fun r h => And.intro (fun c => (h c).2) (sem_eq_zero_of_no_sems (by decide) r.2)) (Cert.Reference6Ideal.Trips.run m ρ)

/-- The recurrence's call and its reference leave the same rows. -/
theorem algebraic : Cert.algebraic_Kernel6Ideal_Reference6Ideal_pre_finite6 (hKernel6Ideal := Cert.Kernel6Ideal.Gen.facts)
    (hReference6Ideal := Cert.Reference6Ideal.Gen.facts) (hPre_finite6 := preFacts) := by
  intro m g m' g' hpre agree
  refine ⟨fun c => Cert.Kernel6Ideal.Value.G11 m c, Cert.Kernel6Ideal.Value.run m g, ?_⟩
  refine (θ_run (Cert.Reference6Ideal.defs (F := Ideal)) _ _).mono (fun r h c => ⟨(h c).1.trans ?_, (h c).2⟩) (Cert.Reference6Ideal.Trips.run m' g')
  obtain ⟨h0, h1, h2, h3, h4, h5, h6, h7, h8⟩ := agree c
  refine results_eq m m' c hpre ?_
  unfold Cert.Reference6Ideal.Scan.P K
  rw [h0, h1, h2, h3, h4, h5, h6, h7, h8]

end Cert.LruEquation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Trips
public import proofs.«01_k».proof.Proof.Equation
public import proofs.«01_k».proof.Proof.InProjEquation
public import proofs.«01_k».proof.Proof.OutProjEquation
public import proofs.«01_k».proof.Proof.GateEquation
public import proofs.«01_k».proof.Proof.GateFinalEquation
public import proofs.«01_k».proof.Proof.LruEquation
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Step
public import Idealize.ShloMosaic.Adequacy
public import Idealize.ShloMosaic.Init

@[expose] public section

noncomputable section

namespace Cert.Proof

open Idealize.ShloMosaic Idealize.SL.Sem Cert.Kernel

/-- The reference runs, keeps its arguments and ends quiescent. -/
theorem referenceFrame : Cert.quiescent_ReferenceIdeal (hReferenceIdeal := Cert.ReferenceIdeal.Gen.facts) := fun m ρ _ =>
  (θ_run (Cert.ReferenceIdeal.defs (F := Ideal)) _ _).mono
    (fun r h => And.intro (fun c => (h c).2) (sem_eq_zero_of_no_sems (by decide) r.2)) (Cert.ReferenceIdeal.Trips.run m ρ)

/-- The retention's call and its reference leave the same rows. -/
theorem retention : Cert.algebraic_KernelIdeal_ReferenceIdeal_pre_finite (hKernelIdeal := Cert.KernelIdeal.Gen.facts)
    (hReferenceIdeal := Cert.ReferenceIdeal.Gen.facts) (hPre_finite := Cert.Equation.preFacts) := by
  intro m g m' g' hpre agree
  refine ⟨fun c => Cert.KernelIdeal.Value.G12 m c, Cert.KernelIdeal.Value.run m g, ?_⟩
  refine (θ_run (Cert.ReferenceIdeal.defs (F := Ideal)) _ _).mono (fun r h c => ⟨(h c).1.trans ?_, (h c).2⟩) (Cert.ReferenceIdeal.Trips.run m' g')
  obtain ⟨h0, h1, h2, h3, h4⟩ := agree c
  exact Cert.Equation.results_eq m m' c hpre h0 h1 h2 h3 h4

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Equation.preFacts, Cert.LruEquation.preFacts,
  ⟨fun m ρ _ => Cert.Kernel.Gen.frame m ρ, fun m ρ _ => Cert.KernelIdeal.Gen.frame m ρ, fun m ρ _ => Cert.KernelIdeal.Gen.frame m ρ,
    referenceFrame, fun m ρ _ => referenceFrame m ρ trivial,
    fun m ρ _ => Cert.Kernel2.Gen.frame m ρ, fun m ρ _ => Cert.Kernel2Ideal.Gen.frame m ρ, Cert.InProjEquation.referenceFrame,
    fun m ρ _ => Cert.Kernel3.Gen.frame m ρ, fun m ρ _ => Cert.Kernel3Ideal.Gen.frame m ρ, Cert.OutProjEquation.referenceFrame,
    fun m ρ _ => Cert.Kernel4.Gen.frame m ρ, fun m ρ _ => Cert.Kernel4Ideal.Gen.frame m ρ, Cert.GateEquation.referenceFrame,
    fun m ρ _ => Cert.Kernel5.Gen.frame m ρ, fun m ρ _ => Cert.Kernel5Ideal.Gen.frame m ρ, Cert.GateFinalEquation.referenceFrame,
    fun m ρ _ => Cert.Kernel6.Gen.frame m ρ, fun m ρ _ => Cert.Kernel6Ideal.Gen.frame m ρ, fun m ρ _ => Cert.Kernel6Ideal.Gen.frame m ρ,
    Cert.LruEquation.referenceFrame, fun m ρ _ => Cert.LruEquation.referenceFrame m ρ trivial,
    trivial, retention,
    trivial, Cert.InProjEquation.algebraic,
    trivial, Cert.OutProjEquation.algebraic,
    trivial, Cert.GateEquation.algebraic,
    trivial, Cert.GateFinalEquation.algebraic,
    trivial, Cert.LruEquation.algebraic⟩⟩

end Cert.Proof

end
